-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x6144 : Shape := ⟨2, ![8192, 6144]⟩
abbrev S8x7x512x512 : Shape := ⟨4, ![8, 7, 512, 512]⟩
abbrev S128 : Shape := ⟨1, ![128]⟩
abbrev S256 : Shape := ⟨1, ![256]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8x7x512x512 : S_.BroadcastsInDim S8x7x512x512 (![] : Fin 0 → Fin S8x7x512x512.rank)
  reducesTo_S8x7x512x512_S_d0_1_2_3 : S8x7x512x512.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x6144 .f32) (main_arg1 : FVec F S8x7x512x512 .f32) (main_arg2 : FVec F S128 .f32) (main_arg3 : FVec F S128 .f32) (main_arg4 : FVec F S128 .f32) (main_arg5 : FVec F S128 .f32) (main_arg6 : FVec F S256 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8x7x512x512 .f32 := Host.absf main_arg1
  let main_cst_0 : FVec F S_ .f32 := constant S_ .f32 0x7F800000#32
  let main_v5 : FVec F S8x7x512x512 .f32 := broadcastInDim S8x7x512x512 ![] bcast_S_S8x7x512x512 main_cst_0
  let main_v6 : IVec S8x7x512x512 1 := cmpf .olt main_v4 main_v5
  let main_c_1 : IVec S_ 1 := constantI S_ 1 1#1
  let main_v7 : IVec S_ 1 := (fun x v => Host.reduce IntOp.andi x v reducesTo_S8x7x512x512_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x6144 : Shape := ⟨2, ![8192, 6144]⟩
abbrev S8x7x512x512 : Shape := ⟨4, ![8, 7, 512, 512]⟩
abbrev S128 : Shape := ⟨1, ![128]⟩
abbrev S256 : Shape := ⟨1, ![256]⟩
abbrev S_ : Shape := ⟨0, ![]⟩
abbrev S1x2048 : Shape := ⟨2, ![1, 2048]⟩
abbrev S1x4096 : Shape := ⟨2, ![1, 4096]⟩
abbrev S1x6144 : Shape := ⟨2, ![1, 6144]⟩
abbrev S1x128 : Shape := ⟨2, ![1, 128]⟩
abbrev S4x128 : Shape := ⟨2, ![4, 128]⟩
abbrev S256x1 : Shape := ⟨2, ![256, 1]⟩
abbrev S8192x2048 : Shape := ⟨2, ![8192, 2048]⟩
abbrev S4096x256 : Shape := ⟨2, ![4096, 256]⟩
abbrev S8192x256 : Shape := ⟨2, ![8192, 256]⟩
abbrev S1x7x512x512 : Shape := ⟨4, ![1, 7, 512, 512]⟩
abbrev S16x272x512 : Shape := ⟨3, ![16, 272, 512]⟩
abbrev S2x512x512 : Shape := ⟨3, ![2, 512, 512]⟩
abbrev S2x1x512 : Shape := ⟨3, ![2, 1, 512]⟩
abbrev S2x272x512 : Shape := ⟨3, ![2, 272, 512]⟩
abbrev S16x512 : Shape := ⟨2, ![16, 512]⟩
abbrev S512x256 : Shape := ⟨2, ![512, 256]⟩
abbrev S256x512 : Shape := ⟨2, ![256, 512]⟩
abbrev S1x256x512 : Shape := ⟨3, ![1, 256, 512]⟩
abbrev S1x16x512 : Shape := ⟨3, ![1, 16, 512]⟩
abbrev S512x128 : Shape := ⟨2, ![512, 128]⟩
abbrev S1x1x512x512 : Shape := ⟨4, ![1, 1, 512, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x272x512 : Shape := ⟨3, ![1, 272, 512]⟩
abbrev S272x512 : Shape := ⟨2, ![272, 512]⟩
abbrev S1 : Shape := ⟨1, ![1]⟩
abbrev S1x1 : Shape := ⟨2, ![1, 1]⟩

abbrev nBuf : Space → Nat
  | .hbm => 30
  | .vmem => 21
  | .smem => 0
  | _ => 0

abbrev bufTy : (tb : Table) → Fin (tcTables nBuf tb) → BufTy
  | .hbm, ⟨0, _⟩ => ⟨S8192x6144, .f32⟩
  | .hbm, ⟨1, _⟩ => ⟨S8x7x512x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x2048, .f32⟩
  | .hbm, ⟨15, _⟩ => ⟨S_, .f32⟩
  | .hbm, ⟨16, _⟩ => ⟨S1x4096, .f32⟩
  | .hbm, ⟨17, _⟩ => ⟨S1x6144, .f32⟩
  | .hbm, ⟨18, _⟩ => ⟨S8192x6144, .f32⟩
  | .hbm, ⟨19, _⟩ => ⟨S8192x6144, .f32⟩
  | .hbm, ⟨20, _⟩ => ⟨S8192x6144, .bf16⟩
  | .hbm, ⟨21, _⟩ => ⟨S8x7x512x512, .f32⟩
  | .hbm, ⟨22, _⟩ => ⟨S8x7x512x512, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S4x128, .f32⟩
  | .hbm, ⟨28, _⟩ => ⟨S256x1, .f32⟩
  | .hbm, ⟨29, _⟩ => ⟨S8192x2048, .bf16⟩
  | .local _ .vmem, ⟨0, _⟩ => ⟨S4096x256, .bf16⟩
  | .local _ .vmem, ⟨1, _⟩ => ⟨S4096x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1x7x512x512, .f32⟩
  | .local _ .vmem, ⟨7, _⟩ => ⟨S1x7x512x512, .f32⟩
  | .local _ .vmem, ⟨8, _⟩ => ⟨S4x128, .f32⟩
  | .local _ .vmem, ⟨9, _⟩ => ⟨S256x1, .f32⟩
  | .local _ .vmem, ⟨10, _⟩ => ⟨S4096x256, .bf16⟩
  | .local _ .vmem, ⟨11, _⟩ => ⟨S4096x256, .bf16⟩
  | .local _ .vmem, ⟨12, _⟩ => ⟨S16x272x512, .bf16⟩
  | .local _ .vmem, ⟨13, _⟩ => ⟨S2x512x512, .f32⟩
  | .local _ .vmem, ⟨14, _⟩ => ⟨S2x512x512, .f32⟩
  | .local _ .vmem, ⟨15, _⟩ => ⟨S2x512x512, .bf16⟩
  | .local _ .vmem, ⟨16, _⟩ => ⟨S2x512x512, .bf16⟩
  | .local _ .vmem, ⟨17, _⟩ => ⟨S2x1x512, .f32⟩
  | .local _ .vmem, ⟨18, _⟩ => ⟨S2x1x512, .f32⟩
  | .local _ .vmem, ⟨19, _⟩ => ⟨S2x1x512, .f32⟩
  | .local _ .vmem, ⟨20, _⟩ => ⟨S2x272x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def k0_mult1 : BitVec 32 :=
  let c0_i32_8 : BitVec 32 := 0#32
  c0_i32_8
def k0_mult2 : BitVec 32 :=
  let c0_i32_12 : BitVec 32 := 0#32
  c0_i32_12
def k0_off1 (i : grid0.Coords) (c0_i32_10 : BitVec 32) : Fin 4 → Nat :=
  let c0_13 : Index := 0#32
  let c3_i32 : BitVec 32 := 3#32
  let c_m3_i32 : BitVec 32 := 4294967293#32
  let arg1 : BitVec 32 := BitVec.ofNat 32 (i 1).val
  let c8_i32 : BitVec 32 := 8#32
  let v11 : BitVec 32 := Scalar.muli arg1 c8_i32
  let c0_i32_7 : BitVec 32 := 0#32
  let v12 : BitVec 32 := Scalar.addi v11 c0_i32_7
  let v17 : BitVec 32 := Scalar.subi c0_i32_10 v12
  let v18 : BitVec 32 := Scalar.maxsi c_m3_i32 v17
  let v19 : BitVec 32 := Scalar.minsi c3_i32 v18
  let c3_i32_11 : BitVec 32 := 3#32
  let v20 : BitVec 32 := Scalar.addi v19 c3_i32_11
  let v22 : Index := Scalar.indexCast v20
  let c0_i32_12 : BitVec 32 := 0#32
  let v21 : BitVec 32 := c0_i32_12
  let v23 : Index := Scalar.indexCast v21
  let c0_14 : Index := 0#32
  ![0, v22.toNat, 0, 0]
def k0_mult3 : BitVec 32 :=
  let c0_i32_15 : BitVec 32 := 0#32
  c0_i32_15
def k0_mult4 : BitVec 32 :=
  let c0_i32_21 : BitVec 32 := 0#32
  c0_i32_21
def k0_mult5 : BitVec 32 :=
  let c0_i32_26 : BitVec 32 := 0#32
  c0_i32_26
def k0_mult6 : BitVec 32 :=
  let c0_i32_29 : BitVec 32 := 0#32
  c0_i32_29
def k0_mult7 : BitVec 32 :=
  let c0_i32_36 : BitVec 32 := 0#32
  c0_i32_36
def k0_mult8 : BitVec 32 :=
  let c0_i32_41 : BitVec 32 := 0#32
  c0_i32_41
def k0_mult9 : BitVec 32 :=
  let c512_i32 : BitVec 32 := 512#32
  c512_i32
def k0_mult10 : BitVec 32 :=
  let c0_i32_49 : BitVec 32 := 0#32
  c0_i32_49
def k0_mult11 : BitVec 32 :=
  let c0_i32_55 : BitVec 32 := 0#32
  c0_i32_55
def k0_mult12 : BitVec 32 :=
  let c512_i32_58 : BitVec 32 := 512#32
  c512_i32_58
@[reducible] def k0_t1_loop : Scf.Loop 32 :=
  let c0_i32_105 : BitVec 32 := 0#32
  let c63_i32 : BitVec 32 := 63#32
  let v155 : BitVec 32 := Scalar.addi c0_i32_105 c63_i32
  let c1_i32_106 : BitVec 32 := 1#32
  ⟨c0_i32_105, v155, c1_i32_106⟩
def k0_mult13 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_237 : BitVec 32 := 1#32
  let v327 : BitVec 32 := Scalar.addi v326 c1_i32_237
  let c0_i32_238 : BitVec 32 := 0#32
  let v329 : BitVec 1 := Scalar.cmpi .sgt v327 c0_i32_238
  let v330 : BitVec 32 := Scalar.extui v329
  let c0_i32_239 : BitVec 32 := 0#32
  let v331 : BitVec 1 := Scalar.cmpi .slt v327 c0_i32_239
  let v332 : BitVec 32 := Scalar.extui v331
  let v333 : BitVec 32 := Scalar.subi v330 v332
  let c16_i32 : BitVec 32 := 16#32
  let c0_i32_240 : BitVec 32 := 0#32
  let v334 : BitVec 1 := Scalar.cmpi .sgt c16_i32 c0_i32_240
  let v335 : BitVec 32 := Scalar.extui v334
  let c0_i32_241 : BitVec 32 := 0#32
  let v336 : BitVec 1 := Scalar.cmpi .slt c16_i32 c0_i32_241
  let v337 : BitVec 32 := Scalar.extui v336
  let v338 : BitVec 32 := Scalar.subi v335 v337
  let v339 : BitVec 1 := Scalar.cmpi .ne v333 v338
  let v340 : BitVec 32 := Scalar.remsi v327 c16_i32
  let c0_i32_242 : BitVec 32 := 0#32
  let v341 : BitVec 1 := Scalar.cmpi .ne v340 c0_i32_242
  let v342 : BitVec 1 := Scalar.andi v339 v341
  let v328 : BitVec 32 := Scalar.divsi v327 c16_i32
  let c1_i32_243 : BitVec 32 := 1#32
  let v343 : BitVec 32 := Scalar.subi v328 c1_i32_243
  let v344 : BitVec 32 := Scalar.select v342 v343 v328
  let c512_i32_251 : BitVec 32 := 512#32
  let v357 : BitVec 32 := Scalar.muli v344 c512_i32_251
  v357
def k0_off2 (k0_t1 : Fin k0_t1_loop.trips) (c1_i32_237 : BitVec 32) : Fin 2 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let v327 : BitVec 32 := Scalar.addi v326 c1_i32_237
  let c0_i32_238 : BitVec 32 := 0#32
  let v329 : BitVec 1 := Scalar.cmpi .sgt v327 c0_i32_238
  let v330 : BitVec 32 := Scalar.extui v329
  let c0_i32_239 : BitVec 32 := 0#32
  let v331 : BitVec 1 := Scalar.cmpi .slt v327 c0_i32_239
  let v332 : BitVec 32 := Scalar.extui v331
  let v333 : BitVec 32 := Scalar.subi v330 v332
  let c16_i32 : BitVec 32 := 16#32
  let c0_i32_240 : BitVec 32 := 0#32
  let v334 : BitVec 1 := Scalar.cmpi .sgt c16_i32 c0_i32_240
  let v335 : BitVec 32 := Scalar.extui v334
  let c0_i32_241 : BitVec 32 := 0#32
  let v336 : BitVec 1 := Scalar.cmpi .slt c16_i32 c0_i32_241
  let v337 : BitVec 32 := Scalar.extui v336
  let v338 : BitVec 32 := Scalar.subi v335 v337
  let v339 : BitVec 1 := Scalar.cmpi .ne v333 v338
  let v340 : BitVec 32 := Scalar.remsi v327 c16_i32
  let c0_i32_242 : BitVec 32 := 0#32
  let v341 : BitVec 1 := Scalar.cmpi .ne v340 c0_i32_242
  let v342 : BitVec 1 := Scalar.andi v339 v341
  let v328 : BitVec 32 := Scalar.divsi v327 c16_i32
  let c1_i32_243 : BitVec 32 := 1#32
  let v343 : BitVec 32 := Scalar.subi v328 c1_i32_243
  let v344 : BitVec 32 := Scalar.select v342 v343 v328
  let c512_i32_251 : BitVec 32 := 512#32
  let v357 : BitVec 32 := Scalar.muli v344 c512_i32_251
  let v358 : BitVec 32 := v357
  let v359 : Index := Scalar.indexCast v358
  let c0_252 : Index := 0#32
  ![v359.toNat, 0]
def k0_mult14 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_237 : BitVec 32 := 1#32
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c1_i32_263 : BitVec 32 := 1#32
  let c0_i32_264 : BitVec 32 := 0#32
  let v383 : BitVec 1 := Scalar.cmpi .eq c1_i32_263 c0_i32_264
  let c1_i32_265 : BitVec 32 := 1#32
  let v384 : BitVec 32 := Scalar.select v383 c1_i32_265 c1_i32_263
  let v385 : BitVec 32 := Scalar.remsi v354 v384
  let c0_i32_267 : BitVec 32 := 0#32
  let v387 : BitVec 1 := Scalar.cmpi .slt v385 c0_i32_267
  let c0_i32_268 : BitVec 32 := 0#32
  let v388 : BitVec 1 := Scalar.cmpi .slt v384 c0_i32_268
  let v389 : BitVec 1 := Scalar.xori v387 v388
  let c0_i32_266 : BitVec 32 := 0#32
  let v386 : BitVec 1 := Scalar.cmpi .ne v385 c0_i32_266
  let v390 : BitVec 1 := Scalar.andi v389 v386
  let v391 : BitVec 32 := Scalar.addi v385 v384
  let v392 : BitVec 32 := Scalar.select v390 v391 v385
  let c512_i32_269 : BitVec 32 := 512#32
  let v393 : BitVec 32 := Scalar.muli v392 c512_i32_269
  v393
def k0_off3 (i : grid0.Coords) (k0_t1 : Fin k0_t1_loop.trips) (c1_i32_237 : BitVec 32) : Fin 4 → Nat :=
  let c0_270 : Index := 0#32
  let c3_i32_261 : BitVec 32 := 3#32
  let c_m3_i32_260 : BitVec 32 := 4294967293#32
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c0_i32_254 : BitVec 32 := 0#32
  let v363 : BitVec 1 := Scalar.cmpi .sgt v354 c0_i32_254
  let v364 : BitVec 32 := Scalar.extui v363
  let c0_i32_255 : BitVec 32 := 0#32
  let v365 : BitVec 1 := Scalar.cmpi .slt v354 c0_i32_255
  let v366 : BitVec 32 := Scalar.extui v365
  let v367 : BitVec 32 := Scalar.subi v364 v366
  let c1_i32_253 : BitVec 32 := 1#32
  let c0_i32_256 : BitVec 32 := 0#32
  let v368 : BitVec 1 := Scalar.cmpi .sgt c1_i32_253 c0_i32_256
  let v369 : BitVec 32 := Scalar.extui v368
  let c0_i32_257 : BitVec 32 := 0#32
  let v370 : BitVec 1 := Scalar.cmpi .slt c1_i32_253 c0_i32_257
  let v371 : BitVec 32 := Scalar.extui v370
  let v372 : BitVec 32 := Scalar.subi v369 v371
  let v373 : BitVec 1 := Scalar.cmpi .ne v367 v372
  let v374 : BitVec 32 := Scalar.remsi v354 c1_i32_253
  let c0_i32_258 : BitVec 32 := 0#32
  let v375 : BitVec 1 := Scalar.cmpi .ne v374 c0_i32_258
  let v376 : BitVec 1 := Scalar.andi v373 v375
  let v362 : BitVec 32 := Scalar.divsi v354 c1_i32_253
  let c1_i32_259 : BitVec 32 := 1#32
  let v377 : BitVec 32 := Scalar.subi v362 c1_i32_259
  let v378 : BitVec 32 := Scalar.select v376 v377 v362
  let arg1 : BitVec 32 := BitVec.ofNat 32 (i 1).val
  let c8_i32_250 : BitVec 32 := 8#32
  let v355 : BitVec 32 := Scalar.muli arg1 c8_i32_250
  let c0_i32_238 : BitVec 32 := 0#32
  let v329 : BitVec 1 := Scalar.cmpi .sgt v327 c0_i32_238
  let v330 : BitVec 32 := Scalar.extui v329
  let c0_i32_239 : BitVec 32 := 0#32
  let v331 : BitVec 1 := Scalar.cmpi .slt v327 c0_i32_239
  let v332 : BitVec 32 := Scalar.extui v331
  let v333 : BitVec 32 := Scalar.subi v330 v332
  let c16_i32 : BitVec 32 := 16#32
  let c0_i32_240 : BitVec 32 := 0#32
  let v334 : BitVec 1 := Scalar.cmpi .sgt c16_i32 c0_i32_240
  let v335 : BitVec 32 := Scalar.extui v334
  let c0_i32_241 : BitVec 32 := 0#32
  let v336 : BitVec 1 := Scalar.cmpi .slt c16_i32 c0_i32_241
  let v337 : BitVec 32 := Scalar.extui v336
  let v338 : BitVec 32 := Scalar.subi v335 v337
  let v339 : BitVec 1 := Scalar.cmpi .ne v333 v338
  let v340 : BitVec 32 := Scalar.remsi v327 c16_i32
  let c0_i32_242 : BitVec 32 := 0#32
  let v341 : BitVec 1 := Scalar.cmpi .ne v340 c0_i32_242
  let v342 : BitVec 1 := Scalar.andi v339 v341
  let v328 : BitVec 32 := Scalar.divsi v327 c16_i32
  let c1_i32_243 : BitVec 32 := 1#32
  let v343 : BitVec 32 := Scalar.subi v328 c1_i32_243
  let v344 : BitVec 32 := Scalar.select v342 v343 v328
  let v356 : BitVec 32 := Scalar.addi v355 v344
  let v379 : BitVec 32 := Scalar.subi v378 v356
  let v380 : BitVec 32 := Scalar.maxsi c_m3_i32_260 v379
  let v381 : BitVec 32 := Scalar.minsi c3_i32_261 v380
  let c3_i32_262 : BitVec 32 := 3#32
  let v382 : BitVec 32 := Scalar.addi v381 c3_i32_262
  let v395 : Index := Scalar.indexCast v382
  let c1_i32_263 : BitVec 32 := 1#32
  let c0_i32_264 : BitVec 32 := 0#32
  let v383 : BitVec 1 := Scalar.cmpi .eq c1_i32_263 c0_i32_264
  let c1_i32_265 : BitVec 32 := 1#32
  let v384 : BitVec 32 := Scalar.select v383 c1_i32_265 c1_i32_263
  let v385 : BitVec 32 := Scalar.remsi v354 v384
  let c0_i32_267 : BitVec 32 := 0#32
  let v387 : BitVec 1 := Scalar.cmpi .slt v385 c0_i32_267
  let c0_i32_268 : BitVec 32 := 0#32
  let v388 : BitVec 1 := Scalar.cmpi .slt v384 c0_i32_268
  let v389 : BitVec 1 := Scalar.xori v387 v388
  let c0_i32_266 : BitVec 32 := 0#32
  let v386 : BitVec 1 := Scalar.cmpi .ne v385 c0_i32_266
  let v390 : BitVec 1 := Scalar.andi v389 v386
  let v391 : BitVec 32 := Scalar.addi v385 v384
  let v392 : BitVec 32 := Scalar.select v390 v391 v385
  let c512_i32_269 : BitVec 32 := 512#32
  let v393 : BitVec 32 := Scalar.muli v392 c512_i32_269
  let v394 : BitVec 32 := v393
  let v396 : Index := Scalar.indexCast v394
  let c0_271 : Index := 0#32
  ![0, v395.toNat, v396.toNat, 0]
def k0_mult15 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_237 : BitVec 32 := 1#32
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c512_i32_272 : BitVec 32 := 512#32
  let v399 : BitVec 32 := Scalar.muli v354 c512_i32_272
  v399
def k0_off4 (k0_t1 : Fin k0_t1_loop.trips) (c1_i32_237 : BitVec 32) : Fin 2 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c512_i32_272 : BitVec 32 := 512#32
  let v399 : BitVec 32 := Scalar.muli v354 c512_i32_272
  let v400 : BitVec 32 := v399
  let v401 : Index := Scalar.indexCast v400
  let c0_273 : Index := 0#32
  ![v401.toNat, 0]
def k0_mult16 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_237 : BitVec 32 := 1#32
  let v327 : BitVec 32 := Scalar.addi v326 c1_i32_237
  let c0_i32_238 : BitVec 32 := 0#32
  let v329 : BitVec 1 := Scalar.cmpi .sgt v327 c0_i32_238
  let v330 : BitVec 32 := Scalar.extui v329
  let c0_i32_239 : BitVec 32 := 0#32
  let v331 : BitVec 1 := Scalar.cmpi .slt v327 c0_i32_239
  let v332 : BitVec 32 := Scalar.extui v331
  let v333 : BitVec 32 := Scalar.subi v330 v332
  let c16_i32 : BitVec 32 := 16#32
  let c0_i32_240 : BitVec 32 := 0#32
  let v334 : BitVec 1 := Scalar.cmpi .sgt c16_i32 c0_i32_240
  let v335 : BitVec 32 := Scalar.extui v334
  let c0_i32_241 : BitVec 32 := 0#32
  let v336 : BitVec 1 := Scalar.cmpi .slt c16_i32 c0_i32_241
  let v337 : BitVec 32 := Scalar.extui v336
  let v338 : BitVec 32 := Scalar.subi v335 v337
  let v339 : BitVec 1 := Scalar.cmpi .ne v333 v338
  let v340 : BitVec 32 := Scalar.remsi v327 c16_i32
  let c0_i32_242 : BitVec 32 := 0#32
  let v341 : BitVec 1 := Scalar.cmpi .ne v340 c0_i32_242
  let v342 : BitVec 1 := Scalar.andi v339 v341
  let v328 : BitVec 32 := Scalar.divsi v327 c16_i32
  let c1_i32_243 : BitVec 32 := 1#32
  let v343 : BitVec 32 := Scalar.subi v328 c1_i32_243
  let v344 : BitVec 32 := Scalar.select v342 v343 v328
  let c512_i32_278 : BitVec 32 := 512#32
  let v409 : BitVec 32 := Scalar.muli v344 c512_i32_278
  v409
def k0_off5 (k0_t1 : Fin k0_t1_loop.trips) (c1_i32_237 : BitVec 32) : Fin 2 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let v327 : BitVec 32 := Scalar.addi v326 c1_i32_237
  let c0_i32_238 : BitVec 32 := 0#32
  let v329 : BitVec 1 := Scalar.cmpi .sgt v327 c0_i32_238
  let v330 : BitVec 32 := Scalar.extui v329
  let c0_i32_239 : BitVec 32 := 0#32
  let v331 : BitVec 1 := Scalar.cmpi .slt v327 c0_i32_239
  let v332 : BitVec 32 := Scalar.extui v331
  let v333 : BitVec 32 := Scalar.subi v330 v332
  let c16_i32 : BitVec 32 := 16#32
  let c0_i32_240 : BitVec 32 := 0#32
  let v334 : BitVec 1 := Scalar.cmpi .sgt c16_i32 c0_i32_240
  let v335 : BitVec 32 := Scalar.extui v334
  let c0_i32_241 : BitVec 32 := 0#32
  let v336 : BitVec 1 := Scalar.cmpi .slt c16_i32 c0_i32_241
  let v337 : BitVec 32 := Scalar.extui v336
  let v338 : BitVec 32 := Scalar.subi v335 v337
  let v339 : BitVec 1 := Scalar.cmpi .ne v333 v338
  let v340 : BitVec 32 := Scalar.remsi v327 c16_i32
  let c0_i32_242 : BitVec 32 := 0#32
  let v341 : BitVec 1 := Scalar.cmpi .ne v340 c0_i32_242
  let v342 : BitVec 1 := Scalar.andi v339 v341
  let v328 : BitVec 32 := Scalar.divsi v327 c16_i32
  let c1_i32_243 : BitVec 32 := 1#32
  let v343 : BitVec 32 := Scalar.subi v328 c1_i32_243
  let v344 : BitVec 32 := Scalar.select v342 v343 v328
  let c512_i32_278 : BitVec 32 := 512#32
  let v409 : BitVec 32 := Scalar.muli v344 c512_i32_278
  let v410 : BitVec 32 := v409
  let v411 : Index := Scalar.indexCast v410
  let c128_279 : Index := 128#32
  ![v411.toNat, 128]
def k0_mult17 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_237 : BitVec 32 := 1#32
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c1_i32_290 : BitVec 32 := 1#32
  let c0_i32_291 : BitVec 32 := 0#32
  let v435 : BitVec 1 := Scalar.cmpi .eq c1_i32_290 c0_i32_291
  let c1_i32_292 : BitVec 32 := 1#32
  let v436 : BitVec 32 := Scalar.select v435 c1_i32_292 c1_i32_290
  let v437 : BitVec 32 := Scalar.remsi v354 v436
  let c0_i32_294 : BitVec 32 := 0#32
  let v439 : BitVec 1 := Scalar.cmpi .slt v437 c0_i32_294
  let c0_i32_295 : BitVec 32 := 0#32
  let v440 : BitVec 1 := Scalar.cmpi .slt v436 c0_i32_295
  let v441 : BitVec 1 := Scalar.xori v439 v440
  let c0_i32_293 : BitVec 32 := 0#32
  let v438 : BitVec 1 := Scalar.cmpi .ne v437 c0_i32_293
  let v442 : BitVec 1 := Scalar.andi v441 v438
  let v443 : BitVec 32 := Scalar.addi v437 v436
  let v444 : BitVec 32 := Scalar.select v442 v443 v437
  let c512_i32_296 : BitVec 32 := 512#32
  let v445 : BitVec 32 := Scalar.muli v444 c512_i32_296
  v445
def k0_mult18 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_237 : BitVec 32 := 1#32
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c512_i32_299 : BitVec 32 := 512#32
  let v451 : BitVec 32 := Scalar.muli v354 c512_i32_299
  v451
def k0_off6 (k0_t1 : Fin k0_t1_loop.trips) (c1_i32_237 : BitVec 32) : Fin 2 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let v327 : BitVec 32 := Scalar.addi v326 c1_i32_237
  let c16_i32_244 : BitVec 32 := 16#32
  let c0_i32_245 : BitVec 32 := 0#32
  let v345 : BitVec 1 := Scalar.cmpi .eq c16_i32_244 c0_i32_245
  let c1_i32_246 : BitVec 32 := 1#32
  let v346 : BitVec 32 := Scalar.select v345 c1_i32_246 c16_i32_244
  let v347 : BitVec 32 := Scalar.remsi v327 v346
  let c0_i32_248 : BitVec 32 := 0#32
  let v349 : BitVec 1 := Scalar.cmpi .slt v347 c0_i32_248
  let c0_i32_249 : BitVec 32 := 0#32
  let v350 : BitVec 1 := Scalar.cmpi .slt v346 c0_i32_249
  let v351 : BitVec 1 := Scalar.xori v349 v350
  let c0_i32_247 : BitVec 32 := 0#32
  let v348 : BitVec 1 := Scalar.cmpi .ne v347 c0_i32_247
  let v352 : BitVec 1 := Scalar.andi v351 v348
  let v353 : BitVec 32 := Scalar.addi v347 v346
  let v354 : BitVec 32 := Scalar.select v352 v353 v347
  let c512_i32_299 : BitVec 32 := 512#32
  let v451 : BitVec 32 := Scalar.muli v354 c512_i32_299
  let v452 : BitVec 32 := v451
  let v453 : Index := Scalar.indexCast v452
  let c128_300 : Index := 128#32
  ![v453.toNat, 128]
def k0_off7 (k0_t1 : Fin k0_t1_loop.trips) : Fin 3 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_353 : BitVec 32 := 1#32
  let v525 : BitVec 32 := Scalar.subi v326 c1_i32_353
  let c16_i32_354 : BitVec 32 := 16#32
  let c0_i32_355 : BitVec 32 := 0#32
  let v526 : BitVec 1 := Scalar.cmpi .eq c16_i32_354 c0_i32_355
  let c1_i32_356 : BitVec 32 := 1#32
  let v527 : BitVec 32 := Scalar.select v526 c1_i32_356 c16_i32_354
  let v528 : BitVec 32 := Scalar.remsi v525 v527
  let c0_i32_358 : BitVec 32 := 0#32
  let v530 : BitVec 1 := Scalar.cmpi .slt v528 c0_i32_358
  let c0_i32_359 : BitVec 32 := 0#32
  let v531 : BitVec 1 := Scalar.cmpi .slt v527 c0_i32_359
  let v532 : BitVec 1 := Scalar.xori v530 v531
  let c0_i32_357 : BitVec 32 := 0#32
  let v529 : BitVec 1 := Scalar.cmpi .ne v528 c0_i32_357
  let v533 : BitVec 1 := Scalar.andi v532 v529
  let v534 : BitVec 32 := Scalar.addi v528 v527
  let v535 : BitVec 32 := Scalar.select v533 v534 v528
  let v542 : Index := Scalar.indexCast v535
  let c0_366 : Index := 0#32
  let c0_367 : Index := 0#32
  ![v542.toNat, 0, 0]
def k0_mult19 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c2_i32_390 : BitVec 32 := 2#32
  let v568 : BitVec 32 := Scalar.addi v326 c2_i32_390
  let c0_i32_392 : BitVec 32 := 0#32
  let v570 : BitVec 1 := Scalar.cmpi .sgt v568 c0_i32_392
  let v571 : BitVec 32 := Scalar.extui v570
  let c0_i32_393 : BitVec 32 := 0#32
  let v572 : BitVec 1 := Scalar.cmpi .slt v568 c0_i32_393
  let v573 : BitVec 32 := Scalar.extui v572
  let v574 : BitVec 32 := Scalar.subi v571 v573
  let c16_i32_391 : BitVec 32 := 16#32
  let c0_i32_394 : BitVec 32 := 0#32
  let v575 : BitVec 1 := Scalar.cmpi .sgt c16_i32_391 c0_i32_394
  let v576 : BitVec 32 := Scalar.extui v575
  let c0_i32_395 : BitVec 32 := 0#32
  let v577 : BitVec 1 := Scalar.cmpi .slt c16_i32_391 c0_i32_395
  let v578 : BitVec 32 := Scalar.extui v577
  let v579 : BitVec 32 := Scalar.subi v576 v578
  let v580 : BitVec 1 := Scalar.cmpi .ne v574 v579
  let v581 : BitVec 32 := Scalar.remsi v568 c16_i32_391
  let c0_i32_396 : BitVec 32 := 0#32
  let v582 : BitVec 1 := Scalar.cmpi .ne v581 c0_i32_396
  let v583 : BitVec 1 := Scalar.andi v580 v582
  let v569 : BitVec 32 := Scalar.divsi v568 c16_i32_391
  let c1_i32_397 : BitVec 32 := 1#32
  let v584 : BitVec 32 := Scalar.subi v569 c1_i32_397
  let v585 : BitVec 32 := Scalar.select v583 v584 v569
  let c512_i32_405 : BitVec 32 := 512#32
  let v598 : BitVec 32 := Scalar.muli v585 c512_i32_405
  v598
def k0_mult20 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c2_i32_390 : BitVec 32 := 2#32
  let v568 : BitVec 32 := Scalar.addi v326 c2_i32_390
  let c16_i32_398 : BitVec 32 := 16#32
  let c0_i32_399 : BitVec 32 := 0#32
  let v586 : BitVec 1 := Scalar.cmpi .eq c16_i32_398 c0_i32_399
  let c1_i32_400 : BitVec 32 := 1#32
  let v587 : BitVec 32 := Scalar.select v586 c1_i32_400 c16_i32_398
  let v588 : BitVec 32 := Scalar.remsi v568 v587
  let c0_i32_402 : BitVec 32 := 0#32
  let v590 : BitVec 1 := Scalar.cmpi .slt v588 c0_i32_402
  let c0_i32_403 : BitVec 32 := 0#32
  let v591 : BitVec 1 := Scalar.cmpi .slt v587 c0_i32_403
  let v592 : BitVec 1 := Scalar.xori v590 v591
  let c0_i32_401 : BitVec 32 := 0#32
  let v589 : BitVec 1 := Scalar.cmpi .ne v588 c0_i32_401
  let v593 : BitVec 1 := Scalar.andi v592 v589
  let v594 : BitVec 32 := Scalar.addi v588 v587
  let v595 : BitVec 32 := Scalar.select v593 v594 v588
  let c1_i32_417 : BitVec 32 := 1#32
  let c0_i32_418 : BitVec 32 := 0#32
  let v624 : BitVec 1 := Scalar.cmpi .eq c1_i32_417 c0_i32_418
  let c1_i32_419 : BitVec 32 := 1#32
  let v625 : BitVec 32 := Scalar.select v624 c1_i32_419 c1_i32_417
  let v626 : BitVec 32 := Scalar.remsi v595 v625
  let c0_i32_421 : BitVec 32 := 0#32
  let v628 : BitVec 1 := Scalar.cmpi .slt v626 c0_i32_421
  let c0_i32_422 : BitVec 32 := 0#32
  let v629 : BitVec 1 := Scalar.cmpi .slt v625 c0_i32_422
  let v630 : BitVec 1 := Scalar.xori v628 v629
  let c0_i32_420 : BitVec 32 := 0#32
  let v627 : BitVec 1 := Scalar.cmpi .ne v626 c0_i32_420
  let v631 : BitVec 1 := Scalar.andi v630 v627
  let v632 : BitVec 32 := Scalar.addi v626 v625
  let v633 : BitVec 32 := Scalar.select v631 v632 v626
  let c512_i32_423 : BitVec 32 := 512#32
  let v634 : BitVec 32 := Scalar.muli v633 c512_i32_423
  v634
def k0_mult21 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c2_i32_390 : BitVec 32 := 2#32
  let v568 : BitVec 32 := Scalar.addi v326 c2_i32_390
  let c16_i32_398 : BitVec 32 := 16#32
  let c0_i32_399 : BitVec 32 := 0#32
  let v586 : BitVec 1 := Scalar.cmpi .eq c16_i32_398 c0_i32_399
  let c1_i32_400 : BitVec 32 := 1#32
  let v587 : BitVec 32 := Scalar.select v586 c1_i32_400 c16_i32_398
  let v588 : BitVec 32 := Scalar.remsi v568 v587
  let c0_i32_402 : BitVec 32 := 0#32
  let v590 : BitVec 1 := Scalar.cmpi .slt v588 c0_i32_402
  let c0_i32_403 : BitVec 32 := 0#32
  let v591 : BitVec 1 := Scalar.cmpi .slt v587 c0_i32_403
  let v592 : BitVec 1 := Scalar.xori v590 v591
  let c0_i32_401 : BitVec 32 := 0#32
  let v589 : BitVec 1 := Scalar.cmpi .ne v588 c0_i32_401
  let v593 : BitVec 1 := Scalar.andi v592 v589
  let v594 : BitVec 32 := Scalar.addi v588 v587
  let v595 : BitVec 32 := Scalar.select v593 v594 v588
  let c512_i32_426 : BitVec 32 := 512#32
  let v640 : BitVec 32 := Scalar.muli v595 c512_i32_426
  v640
def k0_mult22 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c2_i32_390 : BitVec 32 := 2#32
  let v568 : BitVec 32 := Scalar.addi v326 c2_i32_390
  let c0_i32_392 : BitVec 32 := 0#32
  let v570 : BitVec 1 := Scalar.cmpi .sgt v568 c0_i32_392
  let v571 : BitVec 32 := Scalar.extui v570
  let c0_i32_393 : BitVec 32 := 0#32
  let v572 : BitVec 1 := Scalar.cmpi .slt v568 c0_i32_393
  let v573 : BitVec 32 := Scalar.extui v572
  let v574 : BitVec 32 := Scalar.subi v571 v573
  let c16_i32_391 : BitVec 32 := 16#32
  let c0_i32_394 : BitVec 32 := 0#32
  let v575 : BitVec 1 := Scalar.cmpi .sgt c16_i32_391 c0_i32_394
  let v576 : BitVec 32 := Scalar.extui v575
  let c0_i32_395 : BitVec 32 := 0#32
  let v577 : BitVec 1 := Scalar.cmpi .slt c16_i32_391 c0_i32_395
  let v578 : BitVec 32 := Scalar.extui v577
  let v579 : BitVec 32 := Scalar.subi v576 v578
  let v580 : BitVec 1 := Scalar.cmpi .ne v574 v579
  let v581 : BitVec 32 := Scalar.remsi v568 c16_i32_391
  let c0_i32_396 : BitVec 32 := 0#32
  let v582 : BitVec 1 := Scalar.cmpi .ne v581 c0_i32_396
  let v583 : BitVec 1 := Scalar.andi v580 v582
  let v569 : BitVec 32 := Scalar.divsi v568 c16_i32_391
  let c1_i32_397 : BitVec 32 := 1#32
  let v584 : BitVec 32 := Scalar.subi v569 c1_i32_397
  let v585 : BitVec 32 := Scalar.select v583 v584 v569
  let c512_i32_432 : BitVec 32 := 512#32
  let v650 : BitVec 32 := Scalar.muli v585 c512_i32_432
  v650
def k0_mult23 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c2_i32_390 : BitVec 32 := 2#32
  let v568 : BitVec 32 := Scalar.addi v326 c2_i32_390
  let c16_i32_398 : BitVec 32 := 16#32
  let c0_i32_399 : BitVec 32 := 0#32
  let v586 : BitVec 1 := Scalar.cmpi .eq c16_i32_398 c0_i32_399
  let c1_i32_400 : BitVec 32 := 1#32
  let v587 : BitVec 32 := Scalar.select v586 c1_i32_400 c16_i32_398
  let v588 : BitVec 32 := Scalar.remsi v568 v587
  let c0_i32_402 : BitVec 32 := 0#32
  let v590 : BitVec 1 := Scalar.cmpi .slt v588 c0_i32_402
  let c0_i32_403 : BitVec 32 := 0#32
  let v591 : BitVec 1 := Scalar.cmpi .slt v587 c0_i32_403
  let v592 : BitVec 1 := Scalar.xori v590 v591
  let c0_i32_401 : BitVec 32 := 0#32
  let v589 : BitVec 1 := Scalar.cmpi .ne v588 c0_i32_401
  let v593 : BitVec 1 := Scalar.andi v592 v589
  let v594 : BitVec 32 := Scalar.addi v588 v587
  let v595 : BitVec 32 := Scalar.select v593 v594 v588
  let c1_i32_444 : BitVec 32 := 1#32
  let c0_i32_445 : BitVec 32 := 0#32
  let v676 : BitVec 1 := Scalar.cmpi .eq c1_i32_444 c0_i32_445
  let c1_i32_446 : BitVec 32 := 1#32
  let v677 : BitVec 32 := Scalar.select v676 c1_i32_446 c1_i32_444
  let v678 : BitVec 32 := Scalar.remsi v595 v677
  let c0_i32_448 : BitVec 32 := 0#32
  let v680 : BitVec 1 := Scalar.cmpi .slt v678 c0_i32_448
  let c0_i32_449 : BitVec 32 := 0#32
  let v681 : BitVec 1 := Scalar.cmpi .slt v677 c0_i32_449
  let v682 : BitVec 1 := Scalar.xori v680 v681
  let c0_i32_447 : BitVec 32 := 0#32
  let v679 : BitVec 1 := Scalar.cmpi .ne v678 c0_i32_447
  let v683 : BitVec 1 := Scalar.andi v682 v679
  let v684 : BitVec 32 := Scalar.addi v678 v677
  let v685 : BitVec 32 := Scalar.select v683 v684 v678
  let c512_i32_450 : BitVec 32 := 512#32
  let v686 : BitVec 32 := Scalar.muli v685 c512_i32_450
  v686
def k0_mult24 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c2_i32_390 : BitVec 32 := 2#32
  let v568 : BitVec 32 := Scalar.addi v326 c2_i32_390
  let c16_i32_398 : BitVec 32 := 16#32
  let c0_i32_399 : BitVec 32 := 0#32
  let v586 : BitVec 1 := Scalar.cmpi .eq c16_i32_398 c0_i32_399
  let c1_i32_400 : BitVec 32 := 1#32
  let v587 : BitVec 32 := Scalar.select v586 c1_i32_400 c16_i32_398
  let v588 : BitVec 32 := Scalar.remsi v568 v587
  let c0_i32_402 : BitVec 32 := 0#32
  let v590 : BitVec 1 := Scalar.cmpi .slt v588 c0_i32_402
  let c0_i32_403 : BitVec 32 := 0#32
  let v591 : BitVec 1 := Scalar.cmpi .slt v587 c0_i32_403
  let v592 : BitVec 1 := Scalar.xori v590 v591
  let c0_i32_401 : BitVec 32 := 0#32
  let v589 : BitVec 1 := Scalar.cmpi .ne v588 c0_i32_401
  let v593 : BitVec 1 := Scalar.andi v592 v589
  let v594 : BitVec 32 := Scalar.addi v588 v587
  let v595 : BitVec 32 := Scalar.select v593 v594 v588
  let c512_i32_453 : BitVec 32 := 512#32
  let v692 : BitVec 32 := Scalar.muli v595 c512_i32_453
  v692
def k0_off8 (k0_t1 : Fin k0_t1_loop.trips) : Fin 3 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c16_i32_508 : BitVec 32 := 16#32
  let c0_i32_509 : BitVec 32 := 0#32
  let v767 : BitVec 1 := Scalar.cmpi .eq c16_i32_508 c0_i32_509
  let c1_i32_510 : BitVec 32 := 1#32
  let v768 : BitVec 32 := Scalar.select v767 c1_i32_510 c16_i32_508
  let v769 : BitVec 32 := Scalar.remsi v326 v768
  let c0_i32_512 : BitVec 32 := 0#32
  let v771 : BitVec 1 := Scalar.cmpi .slt v769 c0_i32_512
  let c0_i32_513 : BitVec 32 := 0#32
  let v772 : BitVec 1 := Scalar.cmpi .slt v768 c0_i32_513
  let v773 : BitVec 1 := Scalar.xori v771 v772
  let c0_i32_511 : BitVec 32 := 0#32
  let v770 : BitVec 1 := Scalar.cmpi .ne v769 c0_i32_511
  let v774 : BitVec 1 := Scalar.andi v773 v770
  let v775 : BitVec 32 := Scalar.addi v769 v768
  let v776 : BitVec 32 := Scalar.select v774 v775 v769
  let v783 : Index := Scalar.indexCast v776
  let c0_520 : Index := 0#32
  let c0_521 : Index := 0#32
  ![v783.toNat, 0, 0]
def k0_cond2 (k0_t1 : Fin k0_t1_loop.trips) : BitVec 1 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c1_i32_544 : BitVec 32 := 1#32
  let v809 : BitVec 32 := Scalar.addi v326 c1_i32_544
  let c16_i32_545 : BitVec 32 := 16#32
  let c0_i32_546 : BitVec 32 := 0#32
  let v810 : BitVec 1 := Scalar.cmpi .eq c16_i32_545 c0_i32_546
  let c1_i32_547 : BitVec 32 := 1#32
  let v811 : BitVec 32 := Scalar.select v810 c1_i32_547 c16_i32_545
  let v812 : BitVec 32 := Scalar.remsi v809 v811
  let c0_i32_549 : BitVec 32 := 0#32
  let v814 : BitVec 1 := Scalar.cmpi .slt v812 c0_i32_549
  let c0_i32_550 : BitVec 32 := 0#32
  let v815 : BitVec 1 := Scalar.cmpi .slt v811 c0_i32_550
  let v816 : BitVec 1 := Scalar.xori v814 v815
  let c0_i32_548 : BitVec 32 := 0#32
  let v813 : BitVec 1 := Scalar.cmpi .ne v812 c0_i32_548
  let v817 : BitVec 1 := Scalar.andi v816 v813
  let v818 : BitVec 32 := Scalar.addi v812 v811
  let v819 : BitVec 32 := Scalar.select v817 v818 v812
  let c0_i32_551 : BitVec 32 := 0#32
  let v820 : BitVec 1 := Scalar.cmpi .eq v819 c0_i32_551
  let v821 : BitVec 32 := Scalar.extui v820
  let c0_i32_552 : BitVec 32 := 0#32
  let v822 : BitVec 1 := Scalar.cmpi .ne v821 c0_i32_552
  v822

def k0_mult25 (k0_t1 : Fin k0_t1_loop.trips) : BitVec 32 :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c0_i32_554 : BitVec 32 := 0#32
  let v824 : BitVec 1 := Scalar.cmpi .sgt v326 c0_i32_554
  let v825 : BitVec 32 := Scalar.extui v824
  let c0_i32_555 : BitVec 32 := 0#32
  let v826 : BitVec 1 := Scalar.cmpi .slt v326 c0_i32_555
  let v827 : BitVec 32 := Scalar.extui v826
  let v828 : BitVec 32 := Scalar.subi v825 v827
  let c16_i32_553 : BitVec 32 := 16#32
  let c0_i32_556 : BitVec 32 := 0#32
  let v829 : BitVec 1 := Scalar.cmpi .sgt c16_i32_553 c0_i32_556
  let v830 : BitVec 32 := Scalar.extui v829
  let c0_i32_557 : BitVec 32 := 0#32
  let v831 : BitVec 1 := Scalar.cmpi .slt c16_i32_553 c0_i32_557
  let v832 : BitVec 32 := Scalar.extui v831
  let v833 : BitVec 32 := Scalar.subi v830 v832
  let v834 : BitVec 1 := Scalar.cmpi .ne v828 v833
  let v835 : BitVec 32 := Scalar.remsi v326 c16_i32_553
  let c0_i32_558 : BitVec 32 := 0#32
  let v836 : BitVec 1 := Scalar.cmpi .ne v835 c0_i32_558
  let v837 : BitVec 1 := Scalar.andi v834 v836
  let v823 : BitVec 32 := Scalar.divsi v326 c16_i32_553
  let c1_i32_559 : BitVec 32 := 1#32
  let v838 : BitVec 32 := Scalar.subi v823 c1_i32_559
  let v839 : BitVec 32 := Scalar.select v837 v838 v823
  let c512_i32_585 : BitVec 32 := 512#32
  let v894 : BitVec 32 := Scalar.muli v839 c512_i32_585
  v894
def k0_off9 (k0_t1 : Fin k0_t1_loop.trips) : Fin 2 → Nat :=
  let c2_i32 : BitVec 32 := 2#32
  let c0_i32_105 : BitVec 32 := 0#32
  let c1_i32_106 : BitVec 32 := 1#32
  let arg18 : BitVec 32 := Scf.iv c0_i32_105 c1_i32_106 k0_t1
  let v325 : BitVec 32 := Scalar.muli c2_i32 arg18
  let c1_i32_236 : BitVec 32 := 1#32
  let v326 : BitVec 32 := Scalar.addi v325 c1_i32_236
  let c0_i32_554 : BitVec 32 := 0#32
  let v824 : BitVec 1 := Scalar.cmpi .sgt v326 c0_i32_554
  let v825 : BitVec 32 := Scalar.extui v824
  let c0_i32_555 : BitVec 32 := 0#32
  let v826 : BitVec 1 := Scalar.cmpi .slt v326 c0_i32_555
  let v827 : BitVec 32 := Scalar.extui v826
  let v828 : BitVec 32 := Scalar.subi v825 v827
  let c16_i32_553 : BitVec 32 := 16#32
  let c0_i32_556 : BitVec 32 := 0#32
  let v829 : BitVec 1 := Scalar.cmpi .sgt c16_i32_553 c0_i32_556
  let v830 : BitVec 32 := Scalar.extui v829
  let c0_i32_557 : BitVec 32 := 0#32
  let v831 : BitVec 1 := Scalar.cmpi .slt c16_i32_553 c0_i32_557
  let v832 : BitVec 32 := Scalar.extui v831
  let v833 : BitVec 32 := Scalar.subi v830 v832
  let v834 : BitVec 1 := Scalar.cmpi .ne v828 v833
  let v835 : BitVec 32 := Scalar.remsi v326 c16_i32_553
  let c0_i32_558 : BitVec 32 := 0#32
  let v836 : BitVec 1 := Scalar.cmpi .ne v835 c0_i32_558
  let v837 : BitVec 1 := Scalar.andi v834 v836
  let v823 : BitVec 32 := Scalar.divsi v326 c16_i32_553
  let c1_i32_559 : BitVec 32 := 1#32
  let v838 : BitVec 32 := Scalar.subi v823 c1_i32_559
  let v839 : BitVec 32 := Scalar.select v837 v838 v823
  let c512_i32_585 : BitVec 32 := 512#32
  let v894 : BitVec 32 := Scalar.muli v839 c512_i32_585
  let v895 : BitVec 32 := v894
  let v896 : Index := Scalar.indexCast v895
  let c0_586 : Index := 0#32
  ![v896.toNat, 0]
def k0_mult26 : BitVec 32 :=
  let c3584_i32 : BitVec 32 := 3584#32
  c3584_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x7x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S8x7x512x512 : Shape := ⟨4, ![8, 7, 512, 512]⟩
abbrev S128 : Shape := ⟨1, ![128]⟩
abbrev S256 : Shape := ⟨1, ![256]⟩
abbrev S8192x2048 : Shape := ⟨2, ![8192, 2048]⟩
abbrev S8192x8x2x128 : Shape := ⟨4, ![8192, 8, 2, 128]⟩
abbrev S8192x8x256 : Shape := ⟨3, ![8192, 8, 256]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S8x16x16x512x512 : Shape := ⟨5, ![8, 16, 16, 512, 512]⟩
abbrev S8x16x512x16x512 : Shape := ⟨5, ![8, 16, 512, 16, 512]⟩
abbrev S8x8192x8192 : Shape := ⟨3, ![8, 8192, 8192]⟩
abbrev S8x2x8192x8192 : Shape := ⟨4, ![8, 2, 8192, 8192]⟩
abbrev S8x1x8192x8192 : Shape := ⟨4, ![8, 1, 8192, 8192]⟩
abbrev S8x2x8192 : Shape := ⟨3, ![8, 2, 8192]⟩
abbrev S8x2x8192x1 : Shape := ⟨4, ![8, 2, 8192, 1]⟩
abbrev S8x256x8192 : Shape := ⟨3, ![8, 256, 8192]⟩
abbrev S8192x8 : Shape := ⟨2, ![8192, 8]⟩
abbrev S8192x8x1 : Shape := ⟨3, ![8192, 8, 1]⟩
abbrev S1x1x256 : Shape := ⟨3, ![1, 1, 256]⟩

abbrev nBuf : Space → Nat
  | .hbm => 105
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8x7x512x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S8192x2048, .f32⟩
  | .hbm, ⟨8, _⟩ => ⟨S8192x8x2x128, .f32⟩
  | .hbm, ⟨9, _⟩ => ⟨S8192x2048, .f32⟩
  | .hbm, ⟨10, _⟩ => ⟨S8192x8x2x128, .f32⟩
  | .hbm, ⟨11, _⟩ => ⟨S8192x2048, .f32⟩
  | .hbm, ⟨12, _⟩ => ⟨S8192x8x256, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16, .i32⟩
  | .hbm, ⟨25, _⟩ => ⟨S16x1, .i32⟩
  | .hbm, ⟨26, _⟩ => ⟨S16, .i32⟩
  | .hbm, ⟨27, _⟩ => ⟨S1x16, .i32⟩
  | .hbm, ⟨28, _⟩ => ⟨S16x16, .i32⟩
  | .hbm, ⟨29, _⟩ => ⟨S16x16, .i32⟩
  | .hbm, ⟨30, _⟩ => ⟨S16x16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S16x16, .i32⟩
  | .hbm, ⟨35, _⟩ => ⟨S16x16, .i32⟩
  | .hbm, ⟨36, _⟩ => ⟨S_, .i32⟩
  | .hbm, ⟨37, _⟩ => ⟨S16x16, .i32⟩
  | .hbm, ⟨38, _⟩ => ⟨S16x16, .i32⟩
  | .hbm, ⟨39, _⟩ => ⟨S_, .i32⟩
  | .hbm, ⟨40, _⟩ => ⟨S16x16, .i32⟩
  | .hbm, ⟨41, _⟩ => ⟨S16x16, .i32⟩
  | .hbm, ⟨42, _⟩ => ⟨S_, .i32⟩
  | .hbm, ⟨43, _⟩ => ⟨S16x16, .i32⟩
  | .hbm, ⟨44, _⟩ => ⟨S16x16, .i1⟩
  | .hbm, ⟨45, _⟩ => ⟨S_, .i32⟩
  | .hbm, ⟨46, _⟩ => ⟨S16x16, .i32⟩
  | .hbm, ⟨47, _⟩ => ⟨S16x16, .i32⟩
  | .hbm, ⟨48, _⟩ => ⟨S16x16, .i32⟩
  | .hbm, ⟨49, _⟩ => ⟨S16x16x1, .i32⟩
  | .hbm, ⟨50, _⟩ => ⟨S8x16x16x512x512, .f32⟩
  | .hbm, ⟨51, _⟩ => ⟨S8x16x512x16x512, .f32⟩
  | .hbm, ⟨52, _⟩ => ⟨S8x8192x8192, .f32⟩
  | .hbm, ⟨53, _⟩ => ⟨S8x2x8192x8192, .f32⟩
  | .hbm, ⟨54, _⟩ => ⟨S_, .f32⟩
  | .hbm, ⟨55, _⟩ => ⟨S_, .f32⟩
  | .hbm, ⟨56, _⟩ => ⟨S8x2x8192x8192, .f32⟩
  | .hbm, ⟨57, _⟩ => ⟨S8x2x8192x8192, .f32⟩
  | .hbm, ⟨58, _⟩ => ⟨S8x1x8192x8192, .f32⟩
  | .hbm, ⟨59, _⟩ => ⟨S8x2x8192x8192, .f32⟩
  | .hbm, ⟨60, _⟩ => ⟨S8x2x8192x8192, .f32⟩
  | .hbm, ⟨61, _⟩ => ⟨S_, .f32⟩
  | .hbm, ⟨62, _⟩ => ⟨S8x2x8192, .f32⟩
  | .hbm, ⟨63, _⟩ => ⟨S_, .f32⟩
  | .hbm, ⟨64, _⟩ => ⟨S8x2x8192, .f32⟩
  | .hbm, ⟨65, _⟩ => ⟨S8x2x8192, .f32⟩
  | .hbm, ⟨66, _⟩ => ⟨S8x2x8192x1, .f32⟩
  | .hbm, ⟨67, _⟩ => ⟨S8x2x8192x8192, .f32⟩
  | .hbm, ⟨68, _⟩ => ⟨S8x2x8192x8192, .f32⟩
  | .hbm, ⟨69, _⟩ => ⟨S8x2x8192x8192, .f32⟩
  | .hbm, ⟨70, _⟩ => ⟨S_, .f32⟩
  | .hbm, ⟨71, _⟩ => ⟨S8x2x8192, .f32⟩
  | .hbm, ⟨72, _⟩ => ⟨S8x2x8192x1, .f32⟩
  | .hbm, ⟨73, _⟩ => ⟨S8x2x8192x8192, .f32⟩
  | .hbm, ⟨74, _⟩ => ⟨S8x2x8192x8192, .f32⟩
  | .hbm, ⟨75, _⟩ => ⟨S8x1x8192x8192, .f32⟩
  | .hbm, ⟨76, _⟩ => ⟨S8x8192x8192, .f32⟩
  | .hbm, ⟨77, _⟩ => ⟨S8x1x8192x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S8x256x8192, .f32⟩
  | .hbm, ⟨83, _⟩ => ⟨S8192x8x256, .f32⟩
  | .hbm, ⟨84, _⟩ => ⟨S8192x8x256, .f32⟩
  | .hbm, ⟨85, _⟩ => ⟨S_, .f32⟩
  | .hbm, ⟨86, _⟩ => ⟨S8192x8, .f32⟩
  | .hbm, ⟨87, _⟩ => ⟨S8192x8x1, .f32⟩
  | .hbm, ⟨88, _⟩ => ⟨S_, .f32⟩
  | .hbm, ⟨89, _⟩ => ⟨S8192x8x1, .f32⟩
  | .hbm, ⟨90, _⟩ => ⟨S8192x8x1, .f32⟩
  | .hbm, ⟨91, _⟩ => ⟨S_, .f32⟩
  | .hbm, ⟨92, _⟩ => ⟨S8192x8x1, .f32⟩
  | .hbm, ⟨93, _⟩ => ⟨S8192x8x1, .f32⟩
  | .hbm, ⟨94, _⟩ => ⟨S8192x8x1, .f32⟩
  | .hbm, ⟨95, _⟩ => ⟨S8192x8x256, .f32⟩
  | .hbm, ⟨96, _⟩ => ⟨S8192x8x256, .f32⟩
  | .hbm, ⟨97, _⟩ => ⟨S1x1x256, .f32⟩
  | .hbm, ⟨98, _⟩ => ⟨S8192x8x256, .f32⟩
  | .hbm, ⟨99, _⟩ => ⟨S8192x8x256, .f32⟩
  | .hbm, ⟨100, _⟩ => ⟨S_, .f32⟩
  | .hbm, ⟨101, _⟩ => ⟨S8192x8x256, .f32⟩
  | .hbm, ⟨102, _⟩ => ⟨S8192x8x256, .f32⟩
  | .hbm, ⟨103, _⟩ => ⟨S8192x2048, .f32⟩
  | .hbm, ⟨104, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Kernel2.lean ====
abbrev S8192x2048 : Shape := ⟨2, ![8192, 2048]⟩
abbrev S4x2048 : Shape := ⟨2, ![4, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S4x2048x8192, .f32⟩
  | .hbm, ⟨4, _⟩ => ⟨S4x8192x2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S4x2048 : Shape := ⟨2, ![4, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S4x2048x8192, .f32⟩
  | .hbm, ⟨4, _⟩ => ⟨S4x8192x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S8192x2048 : Shape := ⟨2, ![8192, 2048]⟩
abbrev S4x2048 : Shape := ⟨2, ![4, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S4x2048x8192, .f32⟩
  | .hbm, ⟨4, _⟩ => ⟨S4x8192x2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S4x2048 : Shape := ⟨2, ![4, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S4x2048x8192, .f32⟩
  | .hbm, ⟨4, _⟩ => ⟨S4x8192x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel4.lean ====
abbrev S8192x2048 : Shape := ⟨2, ![8192, 2048]⟩
abbrev S4x2048 : Shape := ⟨2, ![4, 2048]⟩
abbrev S2x2048x6144 : Shape := ⟨3, ![2, 2048, 6144]⟩
abbrev S1x6144 : Shape := ⟨2, ![1, 6144]⟩
abbrev S1x2048 : Shape := ⟨2, ![1, 2048]⟩
abbrev S2048 : Shape := ⟨1, ![2048]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6144, .f32⟩
  | .hbm, ⟨3, _⟩ => ⟨S1x6144, .f32⟩
  | .hbm, ⟨4, _⟩ => ⟨S1x2048, .f32⟩
  | .hbm, ⟨5, _⟩ => ⟨S2048, .f32⟩
  | .hbm, ⟨6, _⟩ => ⟨S2x2048x6144, .bf16⟩
  | .hbm, ⟨7, _⟩ => ⟨S1x2048, .f32⟩
  | .hbm, ⟨8, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2048 : Shape := ⟨2, ![8192, 2048]⟩
abbrev S4x2048 : Shape := ⟨2, ![4, 2048]⟩
abbrev S2x2048x6144 : Shape := ⟨3, ![2, 2048, 6144]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6144, .f32⟩
  | .hbm, ⟨3, _⟩ => ⟨S1x6144, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x6144, .f32⟩
  | .hbm, ⟨23, _⟩ => ⟨S2048x6144, .f32⟩
  | .hbm, ⟨24, _⟩ => ⟨S8192x6144, .f32⟩
  | .hbm, ⟨25, _⟩ => ⟨S8192x6144, .f32⟩
  | .hbm, ⟨26, _⟩ => ⟨S8192x6144, .f32⟩
  | .hbm, ⟨27, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel5.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S4x2048 : Shape := ⟨2, ![4, 2048]⟩
abbrev S2x2048x5120 : Shape := ⟨3, ![2, 2048, 5120]⟩
abbrev S1x5120 : Shape := ⟨2, ![1, 5120]⟩
abbrev S1x2048 : Shape := ⟨2, ![1, 2048]⟩
abbrev S2048 : Shape := ⟨1, ![2048]⟩
abbrev S8192x5120 : Shape := ⟨2, ![8192, 5120]⟩
abbrev S4x2048x5120 : Shape := ⟨3, ![4, 2048, 5120]⟩
abbrev S16x512x5120 : Shape := ⟨3, ![16, 512, 5120]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S4x256x1024 : Shape := ⟨3, ![4, 256, 1024]⟩
abbrev S16x64x1024 : Shape := ⟨3, ![16, 64, 1024]⟩
abbrev S8x1024x128 : Shape := ⟨3, ![8, 1024, 128]⟩
abbrev S1024 : Shape := ⟨1, ![1024]⟩
abbrev S1024x1 : Shape := ⟨2, ![1024, 1]⟩
abbrev S2048x1024 : Shape := ⟨2, ![2048, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x5120, .f32⟩
  | .hbm, ⟨3, _⟩ => ⟨S1x5120, .f32⟩
  | .hbm, ⟨4, _⟩ => ⟨S1x2048, .f32⟩
  | .hbm, ⟨5, _⟩ => ⟨S2048, .f32⟩
  | .hbm, ⟨6, _⟩ => ⟨S2x2048x5120, .bf16⟩
  | .hbm, ⟨7, _⟩ => ⟨S1x2048, .f32⟩
  | .hbm, ⟨8, _⟩ => ⟨S8192x5120, .bf16⟩
  | .hbm, ⟨9, _⟩ => ⟨S4x2048x5120, .bf16⟩
  | .hbm, ⟨10, _⟩ => ⟨S16x512x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S4x256x1024, .bf16⟩
  | .local _ .vmem, ⟨10, _⟩ => ⟨S4x256x1024, .bf16⟩
  | .local _ .vmem, ⟨11, _⟩ => ⟨S16x64x1024, .bf16⟩
  | .local _ .vmem, ⟨12, _⟩ => ⟨S16x64x1024, .bf16⟩
  | .local _ .vmem, ⟨13, _⟩ => ⟨S1024x2048, .bf16⟩
  | .local _ .vmem, ⟨14, _⟩ => ⟨S8x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x2048 : Shape := ⟨2, ![8192, 2048]⟩
abbrev S4x2048 : Shape := ⟨2, ![4, 2048]⟩
abbrev S2x2048x5120 : Shape := ⟨3, ![2, 2048, 5120]⟩
abbrev S1x5120 : Shape := ⟨2, ![1, 5120]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5120 : Shape := ⟨3, ![1, 2048, 5120]⟩
abbrev S2048x5120 : Shape := ⟨2, ![2048, 5120]⟩
abbrev S8192x5120 : Shape := ⟨2, ![8192, 5120]⟩
abbrev S2048x4x5120 : Shape := ⟨3, ![2048, 4, 5120]⟩
abbrev S4x2048x5120 : Shape := ⟨3, ![4, 2048, 5120]⟩
abbrev S512x16x5120 : Shape := ⟨3, ![512, 16, 5120]⟩
abbrev S16x512x5120 : Shape := ⟨3, ![16, 512, 5120]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x5120, .f32⟩
  | .hbm, ⟨3, _⟩ => ⟨S1x5120, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x5120, .f32⟩
  | .hbm, ⟨23, _⟩ => ⟨S2048x5120, .f32⟩
  | .hbm, ⟨24, _⟩ => ⟨S8192x5120, .f32⟩
  | .hbm, ⟨25, _⟩ => ⟨S8192x5120, .f32⟩
  | .hbm, ⟨26, _⟩ => ⟨S8192x5120, .f32⟩
  | .hbm, ⟨27, _⟩ => ⟨S8192x5120, .bf16⟩
  | .hbm, ⟨28, _⟩ => ⟨S2048x4x5120, .bf16⟩
  | .hbm, ⟨29, _⟩ => ⟨S4x2048x5120, .bf16⟩
  | .hbm, ⟨30, _⟩ => ⟨S512x16x5120, .bf16⟩
  | .hbm, ⟨31, _⟩ => ⟨S16x512x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Pair.lean ====
/- A buffer of two equal planes, read and written plane by plane. -/
module

public import Idealize.ShloMosaic.Lib.VecWindow
public import Idealize.ShloMosaic.Lib.Pointwise.Index

@[expose] public section
noncomputable section
namespace Cert.Pair
open Idealize.ShloMosaic

variable {α : Type} {a b : ℕ}

/-- The shape of one plane, and of a pair of planes. -/
abbrev One (a b : ℕ) : Shape := ⟨3, ![1, a, b]⟩
abbrev Two (a b : ℕ) : Shape := ⟨3, ![2, a, b]⟩

/-- The position in a plane of a position in the pair. -/
def low (y : (Two a b).Idx) : (One a b).Idx
  | ⟨0, _⟩ => (⟨0, Nat.one_pos⟩ : Fin 1)
  | ⟨1, _⟩ => (y 1 : Fin a)
  | ⟨2, _⟩ => (y 2 : Fin b)

/-- Plane `A` before plane `B`. -/
def two (A B : (One a b).Idx → α) : (Two a b).Idx → α := fun y => if (y 0).val = 0 then A (low y) else B (low y)

theorem one_ext {x y : (One a b).Idx} (h1 : (x 1).val = (y 1).val) (h2 : (x 2).val = (y 2).val) : x = y := by
  funext j
  fin_cases j
  · exact Fin.ext ((Nat.lt_one_iff.mp (x 0).isLt).trans (Nat.lt_one_iff.mp (y 0).isLt).symm)
  · exact Fin.ext h1
  · exact Fin.ext h2

theorem window_two_fst (A B : (One a b).Idx → α) (inb) :
    VecWindow.window (two A B) ![0, 0, 0] ![1, a, b] inb = A := by
  funext y
  have h0 : (((Rect.unit (s := Two a b) ![0, 0, 0] ![1, a, b] inb).emb y) 0).val = 0 := by
    have := Nat.lt_one_iff.mp (y 0).isLt
    show 0 + 1 * (y 0).val = 0
    omega
  show two A B _ = _
  rw [two, if_pos h0]
  refine congrArg A (one_ext ?_ ?_)
  · show 0 + 1 * (y 1).val = _
    omega
  · show 0 + 1 * (y 2).val = _
    omega

theorem window_two_snd (A B : (One a b).Idx → α) (inb) :
    VecWindow.window (two A B) ![1, 0, 0] ![1, a, b] inb = B := by
  funext y
  have h0 : (((Rect.unit (s := Two a b) ![1, 0, 0] ![1, a, b] inb).emb y) 0).val ≠ 0 := by
    show 1 + 1 * (y 0).val ≠ 0
    omega
  show two A B _ = _
  rw [two, if_neg h0]
  refine congrArg B (one_ext ?_ ?_)
  · show 0 + 1 * (y 1).val = _
    omega
  · show 0 + 1 * (y 2).val = _
    omega

theorem window_two_fst_sub {r a' : ℕ} (A B : (One a b).Idx → α) (inb) (inb') :
    VecWindow.window (two A B) ![0, r, 0] ![1, a', b] inb = VecWindow.window (s := One a b) A ![0, r, 0] ![1, a', b] inb' := by
  funext y
  have h0 : (((Rect.unit (s := Two a b) ![0, r, 0] ![1, a', b] inb).emb y) 0).val = 0 := by
    have := Nat.lt_one_iff.mp (y 0).isLt
    show 0 + 1 * (y 0).val = 0
    omega
  show two A B _ = _
  rw [two, if_pos h0]
  exact congrArg A (one_ext rfl rfl)

theorem window_two_snd_sub {r a' : ℕ} (A B : (One a b).Idx → α) (inb) (inb') :
    VecWindow.window (two A B) ![1, r, 0] ![1, a', b] inb = VecWindow.window (s := One a b) B ![0, r, 0] ![1, a', b] inb' := by
  funext y
  have h0 : (((Rect.unit (s := Two a b) ![1, r, 0] ![1, a', b] inb).emb y) 0).val ≠ 0 := by
    show 1 + 1 * (y 0).val ≠ 0
    omega
  show two A B _ = _
  rw [two, if_neg h0]
  exact congrArg B (one_ext rfl rfl)

theorem window_whole {m n : ℕ} (x : (⟨2, ![m, n]⟩ : Shape).Idx → α) (inb) : VecWindow.window (s := ⟨2, ![m, n]⟩) x ![0, 0] ![m, n] inb = x := by
  funext y
  refine congrArg x (funext fun j => ?_)
  fin_cases j
  · exact Fin.ext (by show 0 + 1 * (y 0).val = (y 0).val; omega)
  · exact Fin.ext (by show 0 + 1 * (y 1).val = (y 1).val; omega)

theorem put_fst (x : (Two a b).Idx → α) (y : (Two a b).Idx) (w : (One a b).Idx → α) :
    VecWindow.put x ![0, 0, 0] ![1, a, b] w y = if (y 0).val = 0 then w (low y) else x y := by
  have h1 := (y 1).isLt
  have h2 := (y 2).isLt
  by_cases h : (y 0).val = 0
  · have hall : ∀ j, (![0, 0, 0] : Fin 3 → ℕ) j ≤ (y j).val ∧ (y j).val < (![0, 0, 0] : Fin 3 → ℕ) j + ![1, a, b] j := by
      intro j
      fin_cases j
      · exact ⟨Nat.zero_le _, by show (y 0).val < 0 + 1; omega⟩
      · exact ⟨Nat.zero_le _, by show (y 1).val < 0 + a; rw [Nat.zero_add]; exact h1⟩
      · exact ⟨Nat.zero_le _, by show (y 2).val < 0 + b; rw [Nat.zero_add]; exact h2⟩
    rw [if_pos h]
    unfold VecWindow.put
    rw [dif_pos hall]
    exact congrArg w (one_ext rfl rfl)
  · rw [if_neg h]
    unfold VecWindow.put
    rw [dif_neg]
    intro hall
    have := (hall 0).2
    have h3 : (y 0).val < 0 + 1 := this
    omega

theorem put_snd (x : (Two a b).Idx → α) (y : (Two a b).Idx) (w : (One a b).Idx → α) :
    VecWindow.put x ![1, 0, 0] ![1, a, b] w y = if (y 0).val = 0 then x y else w (low y) := by
  have h0 : (y 0).val < 2 := (y 0).isLt
  have h1 := (y 1).isLt
  have h2 := (y 2).isLt
  by_cases h : (y 0).val = 0
  · rw [if_pos h]
    unfold VecWindow.put
    rw [dif_neg]
    intro hall
    have h3 : 1 ≤ (y 0).val := (hall 0).1
    omega
  · have hall : ∀ j, (![1, 0, 0] : Fin 3 → ℕ) j ≤ (y j).val ∧ (y j).val < (![1, 0, 0] : Fin 3 → ℕ) j + ![1, a, b] j := by
      intro j
      fin_cases j
      · exact ⟨by show 1 ≤ (y 0).val; omega, by show (y 0).val < 1 + 1; omega⟩
      · exact ⟨Nat.zero_le _, by show (y 1).val < 0 + a; rw [Nat.zero_add]; exact h1⟩
      · exact ⟨Nat.zero_le _, by show (y 2).val < 0 + b; rw [Nat.zero_add]; exact h2⟩
    rw [if_neg h]
    unfold VecWindow.put
    rw [dif_pos hall]
    exact congrArg w (one_ext rfl rfl)

theorem put_two_fst (A B A' : (One a b).Idx → α) :
    VecWindow.put (two A B) ![0, 0, 0] ![1, a, b] A' = two A' B := by
  funext y
  rw [put_fst, two, two]
  split_ifs <;> rfl

theorem put_two_snd (A B B' : (One a b).Idx → α) :
    VecWindow.put (two A B) ![1, 0, 0] ![1, a, b] B' = two A B' := by
  funext y
  rw [put_snd, two, two]
  split_ifs <;> rfl

/-- Both planes written, whatever stood there. -/
theorem put_put_two (x : (Two a b).Idx → α) (A B : (One a b).Idx → α) :
    VecWindow.put (VecWindow.put x ![0, 0, 0] ![1, a, b] A) ![1, 0, 0] ![1, a, b] B = two A B := by
  funext y
  rw [put_snd, two]
  by_cases h : (y 0).val = 0
  · rw [if_pos h, if_pos h, put_fst, if_pos h]
  · rw [if_neg h, if_neg h]

theorem window_put_fst_snd (x : (Two a b).Idx → α) (A : (One a b).Idx → α) (inb) :
    VecWindow.window (VecWindow.put x ![0, 0, 0] ![1, a, b] A) ![1, 0, 0] ![1, a, b] inb
      = VecWindow.window x ![1, 0, 0] ![1, a, b] inb :=
  VecWindow.window_put_of_disjoint _ _ _ _ _ _ _ 0 (.inr (Nat.le_refl _))

theorem window_put_snd_fst (x : (Two a b).Idx → α) (A : (One a b).Idx → α) (inb) :
    VecWindow.window (VecWindow.put x ![1, 0, 0] ![1, a, b] A) ![0, 0, 0] ![1, a, b] inb
      = VecWindow.window x ![0, 0, 0] ![1, a, b] inb :=
  VecWindow.window_put_of_disjoint _ _ _ _ _ _ _ 0 (.inl (Nat.le_refl _))

/-- A pair of planes is `two` of its planes. -/
theorem exists_two (x : (Two a b).Idx → α) : ∃ A B : (One a b).Idx → α, x = two A B := by
  refine ⟨fun i => x (ix3 (0 : Fin 2) (i 1) (i 2)), fun i => x (ix3 (1 : Fin 2) (i 1) (i 2)), ?_⟩
  funext y
  by_cases h : (y 0).val = 0
  · rw [two, if_pos h]
    refine congrArg x ?_
    funext j
    fin_cases j
    · exact Fin.ext h
    · rfl
    · rfl
  · rw [two, if_neg h]
    refine congrArg x ?_
    have h2 : (y 0).val < 2 := (y 0).isLt
    funext j
    fin_cases j
    · exact Fin.ext (show (y 0).val = 1 by omega)
    · rfl
    · rfl

/-- Storing the whole pair leaves what was stored. -/
theorem put_whole_two (x w : (Two a b).Idx → α) : VecWindow.put (s := Two a b) x ![0, 0, 0] ![2, a, b] w = w := by
  funext y
  have ins : ∀ j, (![0, 0, 0] : Fin 3 → ℕ) j ≤ (y j).val ∧ (y j).val < (![0, 0, 0] : Fin 3 → ℕ) j + (![2, a, b] : Fin 3 → ℕ) j := by
    intro j
    have hj := (y j).isLt
    fin_cases j
    · exact ⟨Nat.zero_le _, by show (y 0).val < 0 + 2; have h2 : (y 0).val < 2 := hj; omega⟩
    · exact ⟨Nat.zero_le _, by show (y 1).val < 0 + a; have h2 : (y 1).val < a := hj; omega⟩
    · exact ⟨Nat.zero_le _, by show (y 2).val < 0 + b; have h2 : (y 2).val < b := hj; omega⟩
  unfold VecWindow.put
  rw [dif_pos ins]
  refine congrArg w ?_
  funext j
  fin_cases j <;> rfl

end Cert.Pair
end
-- ==== Proof.Steps.lean ====
/- What one grid point of the attention kernel computes, as a recursion over its 128 steps (eight query tiles of
   sixteen key blocks each), in the kernel's own payload functions. -/
module

public import proofs.«01_k».proof.Proof.Gen.KernelIdeal.Skeleton
public import proofs.«01_k».proof.Proof.Pair

@[expose] public section
noncomputable section
namespace Cert.KernelIdeal.Attn
open Cert.KernelIdeal Cert.KernelIdeal.Gen
open Idealize.ShloMosaic Idealize.ShloMosaic.TcCoe
open Cert.Pair

variable {F : FTy → Type} [FloatOps F] [Named F]

/-- The relative-position tile of key block `kb` against query block `qb`. -/
def relTile (kb qb : ℕ) : ℕ := min 6 (kb + 3 - qb)

section Windows
variable {α : Type}

/-- Query rows of tile `t`, the half of component `c`. -/
def qWin (x : S4096x256.Idx → α) (t : ℕ) (c : Fin 2) : S512x128.Idx → α :=
  VecWindow.window x ![512 * (t % 8), 128 * c.val] S512x128.size (by
    intro a; have := c.isLt; fin_cases a
    · show 512 * (t % 8) + 512 ≤ 4096; omega
    · show 128 * c.val + 128 ≤ 256; omega)

/-- Key rows of block `n % 16`, the half of component `c`. -/
def kWin (x : S8192x256.Idx → α) (n : ℕ) (c : Fin 2) : S512x128.Idx → α :=
  VecWindow.window x ![512 * (n % 16), 128 * c.val] S512x128.size (by
    intro a; have := c.isLt; fin_cases a
    · show 512 * (n % 16) + 512 ≤ 8192; omega
    · show 128 * c.val + 128 ≤ 256; omega)

/-- The bias tile of relative position `r`. -/
def bWin (x : S1x7x512x512.Idx → α) (r : ℕ) : S1x1x512x512.Idx → α :=
  VecWindow.window x ![0, min 6 r, 0, 0] S1x1x512x512.size (by
    intro a; fin_cases a
    · exact Nat.le_refl 1
    · show min 6 r + 1 ≤ 7; omega
    · exact Nat.le_refl 512
    · exact Nat.le_refl 512)

/-- The transposed values (and the rows of ones) of block `n % 16`. -/
def vWin (x : S16x272x512.Idx → α) (n : ℕ) : S1x272x512.Idx → α :=
  VecWindow.window x ![n % 16, 0, 0] S1x272x512.size (by
    intro a; fin_cases a
    · show n % 16 + 1 ≤ 16; omega
    · exact Nat.le_refl 272
    · exact Nat.le_refl 512)

/-- The value rows of an accumulator. -/
def numWin (x : S1x272x512.Idx → α) : S1x256x512.Idx → α :=
  VecWindow.window (s := S1x272x512) x ![0, 0, 0] S1x256x512.size (by decide)

/-- The first of an accumulator's rows of ones. -/
def denWin (x : S1x272x512.Idx → α) : S1x1x512.Idx → α :=
  VecWindow.window (s := S1x272x512) x ![0, 256, 0] S1x1x512.size (by decide)

end Windows

/-- Is step `n` the first of its query tile? -/
def firstBit (n : ℕ) : BitVec 1 := if n % 16 = 0 then 1#1 else 0#1

section Fill
variable (X4 : S8192x256.Idx → Elt F .bf16)

/-- The value rows of block `n`. -/
def rowWin (n : ℕ) (hn : n < 16) : S512x256.Idx → Elt F .bf16 :=
  VecWindow.window X4 ![512 * n, 0] ![512, 256] (by
    intro a; fin_cases a
    · show 512 * n + 512 ≤ 8192; omega
    · exact Nat.le_refl 256)

/-- The scratch of transposed values as the first query half of a head fills it: per key block the transposed rows, and below
   them sixteen rows of which the first is ones. -/
def fill : S16x272x512.Idx → Elt F .bf16 := fun y =>
  if h : (y 1).val < 256 then k0_pay2 (rowWin X4 (y 0).val (y 0).isLt) (ix3 (0 : Fin 1) (⟨(y 1).val, h⟩ : Fin 256) (y 2))
  else k0_pay3 (ix3 (0 : Fin 1) (⟨(y 1).val - 256, by have h272 : (y 1).val < 272 := (y 1).isLt; omega⟩ : Fin 16) (y 2))

/-- The blocks before `n` hold what `fill` says. -/
def Filled (n : ℕ) (x : S16x272x512.Idx → Elt F .bf16) : Prop := ∀ y, (y 0).val < n → x y = fill X4 y

theorem filled_zero (x : S16x272x512.Idx → Elt F .bf16) : Filled X4 0 x := fun _ h => absurd h (Nat.not_lt_zero _)

theorem filled_succ (n : ℕ) (hn : n < 16) (x : S16x272x512.Idx → Elt F .bf16) (h : Filled X4 n x) :
    Filled X4 (n + 1) (VecWindow.put (VecWindow.put x ![n, 0, 0] ![1, 256, 512] (k0_pay2 (rowWin X4 n hn)))
      ![n, 256, 0] ![1, 16, 512] (k0_pay3 (F := F))) := by
  intro y hy
  have h1 : (y 1).val < 272 := (y 1).isLt
  have h2 : (y 2).val < 512 := (y 2).isLt
  by_cases hn0 : (y 0).val = n
  · by_cases hr : (y 1).val < 256
    · have out : ¬ ∀ a, (![n, 256, 0] : Fin 3 → ℕ) a ≤ (y a).val ∧ (y a).val < (![n, 256, 0] : Fin 3 → ℕ) a + (![1, 16, 512] : Fin 3 → ℕ) a :=
        fun hall => by have h256 : 256 ≤ (y 1).val := (hall 1).1; omega
      have ins : ∀ a, (![n, 0, 0] : Fin 3 → ℕ) a ≤ (y a).val ∧ (y a).val < (![n, 0, 0] : Fin 3 → ℕ) a + (![1, 256, 512] : Fin 3 → ℕ) a := by
        intro a
        fin_cases a
        · exact ⟨by show n ≤ (y 0).val; omega, by show (y 0).val < n + 1; omega⟩
        · exact ⟨Nat.zero_le _, by show (y 1).val < 0 + 256; omega⟩
        · exact ⟨Nat.zero_le _, by show (y 2).val < 0 + 512; omega⟩
      unfold VecWindow.put
      rw [dif_neg out, dif_pos ins, fill, dif_pos hr]
      subst hn0
      refine congrArg (k0_pay2 _) ?_
      funext a
      fin_cases a
      · exact Fin.ext (Nat.sub_self _)
      · rfl
      · rfl
    · have ins : ∀ a, (![n, 256, 0] : Fin 3 → ℕ) a ≤ (y a).val ∧ (y a).val < (![n, 256, 0] : Fin 3 → ℕ) a + (![1, 16, 512] : Fin 3 → ℕ) a := by
        intro a
        fin_cases a
        · exact ⟨by show n ≤ (y 0).val; omega, by show (y 0).val < n + 1; omega⟩
        · exact ⟨by show 256 ≤ (y 1).val; omega, by show (y 1).val < 256 + 16; omega⟩
        · exact ⟨Nat.zero_le _, by show (y 2).val < 0 + 512; omega⟩
      unfold VecWindow.put
      rw [dif_pos ins, fill, dif_neg hr]
      subst hn0
      refine congrArg k0_pay3 ?_
      funext a
      fin_cases a
      · exact Fin.ext (Nat.sub_self _)
      · rfl
      · rfl
  · have o1 : ¬ ∀ a, (![n, 256, 0] : Fin 3 → ℕ) a ≤ (y a).val ∧ (y a).val < (![n, 256, 0] : Fin 3 → ℕ) a + (![1, 16, 512] : Fin 3 → ℕ) a :=
      fun hall => by have h256 : n ≤ (y 0).val := (hall 0).1; omega
    have o2 : ¬ ∀ a, (![n, 0, 0] : Fin 3 → ℕ) a ≤ (y a).val ∧ (y a).val < (![n, 0, 0] : Fin 3 → ℕ) a + (![1, 256, 512] : Fin 3 → ℕ) a :=
      fun hall => by have h256 : n ≤ (y 0).val := (hall 0).1; omega
    unfold VecWindow.put
    rw [dif_neg o1, dif_neg o2]
    exact h y (by omega)

theorem filled_all (x : S16x272x512.Idx → Elt F .bf16) (h : Filled X4 16 x) : x = fill X4 :=
  funext fun y => h y (y 0).isLt

end Fill

section Softmax
variable (L : ℕ → Vec F S1x512x512 .f32)

/-- The running maximum after step `n`. -/
def mx : ℕ → Vec F S1x1x512 .f32
  | 0 => k0_pay44 (k0_pay40 (L 0)) 1#1 (fun _ => Scalar.ofBits .f32 0x00000000#32)
  | n + 1 => k0_pay44 (k0_pay40 (L (n + 1))) (firstBit (n + 1)) (mx n)

/-- The running maximum before step `n`. -/
def mxPrev : ℕ → Vec F S1x1x512 .f32
  | 0 => fun _ => Scalar.ofBits .f32 0x00000000#32
  | n + 1 => mx L n

/-- The factor by which step `n` rescales. -/
def al (n : ℕ) : Vec F S1x1x512 .f32 := k0_pay43 (k0_pay40 (L n)) (firstBit n) (mxPrev L n)

/-- The exponentials of step `n`. -/
def pr (n : ℕ) : Vec F S1x512x512 .bf16 := k0_pay45 (k0_pay40 (L n)) (firstBit n) (mxPrev L n) (L n)

/-- The accumulator once the steps before `n` are accumulated. -/
def ac (v : ℕ → Vec F S1x272x512 .bf16) : ℕ → Vec F S1x272x512 .f32
  | 0 => fun _ => Scalar.ofBits .f32 0x00000000#32
  | n + 1 => k0_pay53 (k0_pay52 (ac v n) (al L n)) (v n) (pr L n)

theorem mx_eq (n : ℕ) : mx L n = k0_pay44 (k0_pay40 (L n)) (firstBit n) (mxPrev L n) := by
  cases n <;> rfl

end Softmax

section Point
variable (j : ℕ) (X2 : S4096x256.Idx → Elt F .bf16) (X3 : S8192x256.Idx → Elt F .bf16) (X5 : S1x7x512x512.Idx → Elt F .f32)
  (X6 : S4x128.Idx → Elt F .f32) (X7 : S256x1.Idx → Elt F .f32) (X9 : S16x272x512.Idx → Elt F .bf16)

/-- The logits of step `n`, component `c`: keys down, queries across. -/
def lg (c : Fin 2) (n : ℕ) : Vec F S1x512x512 .f32 :=
  k0_pay37 (k0_pay34 (qWin X2 (n / 16) c)) (k0_pay35 (bWin X5 (relTile (n % 16) (8 * j + n / 16 % 8)))) (k0_pay36 (kWin X3 n c))

/-- The accumulator of component `c` before step `n`. -/
def acc (c : Fin 2) (n : ℕ) : Vec F S1x272x512 .f32 := ac (lg j X2 X3 X5 c) (vWin X9) n

/-- The rows written for query tile `t`. -/
def tileOut (t : ℕ) : Vec F S512x256 .bf16 :=
  k0_pay98 (k0_pay31 X6) (k0_pay32 (numWin (acc j X2 X3 X5 X9 0 (16 * t + 16)))) (k0_pay33 (denWin (acc j X2 X3 X5 X9 0 (16 * t + 16))))
    (numWin (acc j X2 X3 X5 X9 1 (16 * t + 16))) (denWin (acc j X2 X3 X5 X9 1 (16 * t + 16))) X7

/-- The output block after `k` trips of the loop. -/
def outs (X8 : S4096x256.Idx → Elt F .bf16) : ℕ → S4096x256.Idx → Elt F .bf16
  | 0 => X8
  | k + 1 => if k % 8 = 7 then VecWindow.put (outs X8 k) ![512 * (k / 8), 0] S512x256.size (tileOut j X2 X3 X5 X6 X7 X9 (k / 8)) else outs X8 k

theorem outs_zero (X8 : S4096x256.Idx → Elt F .bf16) : outs j X2 X3 X5 X6 X7 X9 X8 0 = X8 := rfl

theorem outs_succ (X8 : S4096x256.Idx → Elt F .bf16) (k : ℕ) : outs j X2 X3 X5 X6 X7 X9 X8 (k + 1) =
    if k % 8 = 7 then VecWindow.put (outs j X2 X3 X5 X6 X7 X9 X8 k) ![512 * (k / 8), 0] S512x256.size (tileOut j X2 X3 X5 X6 X7 X9 (k / 8)) else outs j X2 X3 X5 X6 X7 X9 X8 k := rfl

/-- The output block when the point ends. -/
def outEnd (X8 : S4096x256.Idx → Elt F .bf16) : S4096x256.Idx → Elt F .bf16 :=
  VecWindow.put (outs j X2 X3 X5 X6 X7 X9 X8 63) ![3584, 0] S512x256.size (tileOut j X2 X3 X5 X6 X7 X9 7)

end Point

/-! Offsets and conditions of one trip, closed. -/

theorem off2_1 : ∀ k : Fin k0_t1_loop.trips, k0_off2 k 1#32 = ![512 * ((2 * k.val + 2) / 16 % 8), 128 * (0 : Fin 2).val] := by decide +kernel
theorem off2_2 : ∀ k : Fin k0_t1_loop.trips, k0_off2 k 2#32 = ![512 * ((2 * k.val + 3) / 16 % 8), 128 * (0 : Fin 2).val] := by decide +kernel
theorem off5_1 : ∀ k : Fin k0_t1_loop.trips, k0_off5 k 1#32 = ![512 * ((2 * k.val + 2) / 16 % 8), 128 * (1 : Fin 2).val] := by decide +kernel
theorem off5_2 : ∀ k : Fin k0_t1_loop.trips, k0_off5 k 2#32 = ![512 * ((2 * k.val + 3) / 16 % 8), 128 * (1 : Fin 2).val] := by decide +kernel
theorem off4_1 : ∀ k : Fin k0_t1_loop.trips, k0_off4 k 1#32 = ![512 * ((2 * k.val + 2) % 16), 128 * (0 : Fin 2).val] := by decide +kernel
theorem off4_2 : ∀ k : Fin k0_t1_loop.trips, k0_off4 k 2#32 = ![512 * ((2 * k.val + 3) % 16), 128 * (0 : Fin 2).val] := by decide +kernel
theorem off6_1 : ∀ k : Fin k0_t1_loop.trips, k0_off6 k 1#32 = ![512 * ((2 * k.val + 2) % 16), 128 * (1 : Fin 2).val] := by decide +kernel
theorem off6_2 : ∀ k : Fin k0_t1_loop.trips, k0_off6 k 2#32 = ![512 * ((2 * k.val + 3) % 16), 128 * (1 : Fin 2).val] := by decide +kernel
theorem off7_1 : ∀ k : Fin k0_t1_loop.trips, k0_off7 k = ![(2 * k.val) % 16, 0, 0] := by decide +kernel
theorem off8_1 : ∀ k : Fin k0_t1_loop.trips, k0_off8 k = ![(2 * k.val + 1) % 16, 0, 0] := by decide +kernel
theorem off9_1 : ∀ k : Fin k0_t1_loop.trips, k0_off9 k = ![512 * (k.val / 8), 0] := by decide +kernel
theorem off3_1 : ∀ (i : grid0.Coords) (k : Fin k0_t1_loop.trips), k0_off3 i k 1#32 = ![0, min 6 (relTile ((2 * k.val + 2) % 16) (8 * (i 1).val + (2 * k.val + 2) / 16 % 8)), 0, 0] := by decide +kernel
theorem off3_2 : ∀ (i : grid0.Coords) (k : Fin k0_t1_loop.trips), k0_off3 i k 2#32 = ![0, min 6 (relTile ((2 * k.val + 3) % 16) (8 * (i 1).val + (2 * k.val + 3) / 16 % 8)), 0, 0] := by decide +kernel
theorem off1_0 : ∀ (i : grid0.Coords), k0_off1 i 0#32 = ![0, min 6 (relTile (0 % 16) (8 * (i 1).val + 0 / 16 % 8)), 0, 0] := by decide +kernel
theorem off1_1 : ∀ (i : grid0.Coords), k0_off1 i 1#32 = ![0, min 6 (relTile (1 % 16) (8 * (i 1).val + 1 / 16 % 8)), 0, 0] := by decide +kernel
theorem cond2_iff : ∀ k : Fin k0_t1_loop.trips, (k0_cond2 k = 1#1) = (k.val % 8 = 7) := by decide +kernel

end Cert.KernelIdeal.Attn
end
-- ==== Proof.Trip.lean ====
/- One trip of the attention kernel's loop, buffers held by their values. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.TableIdle
public import Idealize.ShloMosaic.Lib.Tactic
public import Idealize.ShloMosaic.Lib.Tactic.Stretches
public import proofs.«01_k».proof.Proof.Steps

@[expose] public section
noncomputable section
namespace Cert.KernelIdeal.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pair

variable {F : FTy → Type} [FloatOps F] [Named F]
local notation "𝕄" => MT nD τ sig Unit (Elt F) ℕ (UR sig nD τ) ℕ

/-- No loop of the program carries a variant. -/
abbrev 𝒱₀ : Variants := Variants.none

/-- A buffer held whole at the values `x`. -/
abbrev held {s : Shape} {e : EltTy} (c : Dev nD) (M : Memref sig .tc .vmem s e) (x : s.Idx → Elt F e) : sProp 𝕄 :=
  M.view.loc (c : Thread nD τ) ↦[M.view.set]{fullShare} M.view.rep x

theorem held_of {s : Shape} {e : EltTy} {c : Dev nD} {M : Memref sig .tc .vmem s e} {f : M.view.ty.Contents (Elt F)} {x : s.Idx → Elt F e}
    (h : M.view.read (Elt F) f = x) : (M.view.loc (c : Thread nD τ) ↦[M.view.set]{fullShare} f : sProp 𝕄) ⊢ held c M x := by
  iintro H
  iapply (rep_of_owns (c : Thread nD τ) M fullShare x)
  unfold owns
  iexists f
  isplitr
  · ipureintro
    exact h
  · iexact H

/-! Reads and writes of a run, as windows of values and values put. -/

section Reads
variable {κ : Kind} {sp : Space} {s : Shape} {e : EltTy}

theorem readAt_window (v : View sig κ sp s e) (f : v.ty.Contents (Elt F)) {off size : Fin s.rank → ℕ} (inb : ∀ a, off a + size a ≤ s.size a) :
    v.readAt (Elt F) (Rect.unit off size inb).toLoadRect f = VecWindow.window (v.read (Elt F) f) off size inb :=
  View.readAt_unit v f inb rfl inb

theorem readCov_window (v : View sig κ sp s e) (L : List (View.Piece (Elt F) s e)) {off size : Fin s.rank → ℕ} (inb : ∀ a, off a + size a ≤ s.size a) :
    v.readCov L (Rect.unit off size inb).toLoadRect = VecWindow.window (v.read (Elt F) (v.writes (Elt F) v.junk L)) off size inb :=
  View.readAt_unit v _ inb rfl inb

theorem read_put (v : View sig κ sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

theorem window_congr {α : Type} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h
  rfl

end Reads

section Leaves
variable {α : Type}

theorem q1a (k : Fin k0_t1_loop.trips) (x : S4096x256.Idx → α) (inb) : VecWindow.window x (k0_off2 k 1#32) ![512, 128] inb = qWin x ((2 * k.val + 2) / 16) 0 := window_congr x (off2_1 k) _ _
theorem q1b (k : Fin k0_t1_loop.trips) (x : S4096x256.Idx → α) (inb) : VecWindow.window x (k0_off5 k 1#32) ![512, 128] inb = qWin x ((2 * k.val + 2) / 16) 1 := window_congr x (off5_1 k) _ _
theorem q2a (k : Fin k0_t1_loop.trips) (x : S4096x256.Idx → α) (inb) : VecWindow.window x (k0_off2 k 2#32) ![512, 128] inb = qWin x ((2 * k.val + 3) / 16) 0 := window_congr x (off2_2 k) _ _
theorem q2b (k : Fin k0_t1_loop.trips) (x : S4096x256.Idx → α) (inb) : VecWindow.window x (k0_off5 k 2#32) ![512, 128] inb = qWin x ((2 * k.val + 3) / 16) 1 := window_congr x (off5_2 k) _ _
theorem k1a (k : Fin k0_t1_loop.trips) (x : S8192x256.Idx → α) (inb) : VecWindow.window x (k0_off4 k 1#32) ![512, 128] inb = kWin x (2 * k.val + 2) 0 := window_congr x (off4_1 k) _ _
theorem k1b (k : Fin k0_t1_loop.trips) (x : S8192x256.Idx → α) (inb) : VecWindow.window x (k0_off6 k 1#32) ![512, 128] inb = kWin x (2 * k.val + 2) 1 := window_congr x (off6_1 k) _ _
theorem k2a (k : Fin k0_t1_loop.trips) (x : S8192x256.Idx → α) (inb) : VecWindow.window x (k0_off4 k 2#32) ![512, 128] inb = kWin x (2 * k.val + 3) 0 := window_congr x (off4_2 k) _ _
theorem k2b (k : Fin k0_t1_loop.trips) (x : S8192x256.Idx → α) (inb) : VecWindow.window x (k0_off6 k 2#32) ![512, 128] inb = kWin x (2 * k.val + 3) 1 := window_congr x (off6_2 k) _ _
theorem b1 (i : grid0.Coords) (k : Fin k0_t1_loop.trips) (x : S1x7x512x512.Idx → α) (inb) : VecWindow.window x (k0_off3 i k 1#32) ![1, 1, 512, 512] inb = bWin x (relTile ((2 * k.val + 2) % 16) (8 * (i 1).val + (2 * k.val + 2) / 16 % 8)) := window_congr x (off3_1 i k) _ _
theorem b2 (i : grid0.Coords) (k : Fin k0_t1_loop.trips) (x : S1x7x512x512.Idx → α) (inb) : VecWindow.window x (k0_off3 i k 2#32) ![1, 1, 512, 512] inb = bWin x (relTile ((2 * k.val + 3) % 16) (8 * (i 1).val + (2 * k.val + 3) / 16 % 8)) := window_congr x (off3_2 i k) _ _
theorem v1 (k : Fin k0_t1_loop.trips) (x : S16x272x512.Idx → α) (inb) : VecWindow.window x (k0_off7 k) ![1, 272, 512] inb = vWin x (2 * k.val) := window_congr x (off7_1 k) _ _
theorem v2 (k : Fin k0_t1_loop.trips) (x : S16x272x512.Idx → α) (inb) : VecWindow.window x (k0_off8 k) ![1, 272, 512] inb = vWin x (2 * k.val + 1) := window_congr x (off8_1 k) _ _

theorem num_fst (A B : S1x272x512.Idx → α) (inb) : VecWindow.window (two A B) ![0, 0, 0] ![1, 256, 512] inb = numWin A := window_two_fst_sub A B _ _
theorem num_snd (A B : S1x272x512.Idx → α) (inb) : VecWindow.window (two A B) ![1, 0, 0] ![1, 256, 512] inb = numWin B := window_two_snd_sub A B _ _
theorem den_fst (A B : S1x272x512.Idx → α) (inb) : VecWindow.window (two A B) ![0, 256, 0] ![1, 1, 512] inb = denWin A := window_two_fst_sub A B _ _
theorem den_snd (A B : S1x272x512.Idx → α) (inb) : VecWindow.window (two A B) ![1, 256, 0] ![1, 1, 512] inb = denWin B := window_two_snd_sub A B _ _

end Leaves

/-- The key block the trip's first softmax step works on. -/
abbrev wordOdd (k : Fin k0_t1_loop.trips) : BitVec 32 :=
  Scalar.select (0#1)
    (Scalar.addi (Scalar.remsi (Scalar.addi (Scalar.muli (2#32) (Scf.iv 0#32 1#32 k)) 1#32) 16#32) 16#32)
    (Scalar.remsi (Scalar.addi (Scalar.muli (2#32) (Scf.iv 0#32 1#32 k)) 1#32) 16#32)

/-- The key block the trip's second softmax step works on. -/
abbrev wordEven (k : Fin k0_t1_loop.trips) : BitVec 32 :=
  Scalar.select (0#1)
    (Scalar.addi (Scalar.remsi (Scalar.addi (Scalar.addi (Scalar.muli (2#32) (Scf.iv 0#32 1#32 k)) 1#32) 1#32) 16#32) 16#32)
    (Scalar.remsi (Scalar.addi (Scalar.addi (Scalar.muli (2#32) (Scf.iv 0#32 1#32 k)) 1#32) 1#32) 16#32)

theorem bit_odd : ∀ k : Fin k0_t1_loop.trips, Scalar.cmpi .eq (wordOdd k) 0#32 = 0#1 := by decide +kernel
theorem bit_even : ∀ k : Fin k0_t1_loop.trips, Scalar.cmpi .eq (wordEven k) 0#32 = firstBit (2 * k.val + 2) := by decide +kernel

section Steps
variable (k : Fin k0_t1_loop.trips) (s : Vec F S1x512x512 .f32) (m : Vec F S1x1x512 .f32)

theorem pay47_eq : k0_pay47 (wordOdd k) s m = k0_pay42 (k0_pay40 s) 0#1 m := by
  show k0_pay42 (k0_pay40 s) (Scalar.cmpi .eq (wordOdd k) 0#32) m = _
  rw [bit_odd]
theorem pay48_eq : k0_pay48 (wordOdd k) s m = exp2 (subf (k0_pay41 0#1 m) (k0_pay42 (k0_pay40 s) 0#1 m)) := by
  show exp2 (subf (k0_pay41 (Scalar.cmpi .eq (wordOdd k) 0#32) m) (k0_pay42 (k0_pay40 s) (Scalar.cmpi .eq (wordOdd k) 0#32) m)) = _
  rw [bit_odd]
/-- The bit of the trip's second softmax step, from the trip's step number. -/
def bit60 (v326 : BitVec 32) : BitVec 1 :=
  let v702 : BitVec 32 := Scalar.addi v326 1#32
  let v703 : BitVec 1 := Scalar.cmpi .eq 16#32 0#32
  let v704 : BitVec 32 := Scalar.select v703 1#32 16#32
  let v705 : BitVec 32 := Scalar.remsi v702 v704
  let v706 : BitVec 1 := Scalar.cmpi .ne v705 0#32
  let v707 : BitVec 1 := Scalar.cmpi .slt v705 0#32
  let v708 : BitVec 1 := Scalar.cmpi .slt v704 0#32
  let v709 : BitVec 1 := Scalar.xori v707 v708
  let v710 : BitVec 1 := Scalar.andi v709 v706
  let v711 : BitVec 32 := Scalar.addi v705 v704
  let v712 : BitVec 32 := Scalar.select v710 v711 v705
  Scalar.cmpi .eq v712 0#32

theorem bit60_eq : ∀ k : Fin k0_t1_loop.trips, bit60 (Scalar.addi (Scalar.muli (2#32) (Scf.iv 0#32 1#32 k)) 1#32) = firstBit (2 * k.val + 2) := by decide +kernel

theorem pay61_eq : k0_pay61 (Scalar.addi (Scalar.muli (2#32) (Scf.iv 0#32 1#32 k)) 1#32) s m = k0_pay42 (k0_pay40 s) (firstBit (2 * k.val + 2)) m := by
  show k0_pay42 (k0_pay40 s) (bit60 (Scalar.addi (Scalar.muli (2#32) (Scf.iv 0#32 1#32 k)) 1#32)) m = _
  rw [bit60_eq]
theorem pay62_eq : k0_pay62 (Scalar.addi (Scalar.muli (2#32) (Scf.iv 0#32 1#32 k)) 1#32) s m = k0_pay43 (k0_pay40 s) (firstBit (2 * k.val + 2)) m := by
  show k0_pay43 (k0_pay40 s) (bit60 (Scalar.addi (Scalar.muli (2#32) (Scf.iv 0#32 1#32 k)) 1#32)) m = _
  rw [bit60_eq]
theorem pay66_eq : k0_pay66 (wordEven k) s m = k0_pay42 (k0_pay40 s) (firstBit (2 * k.val + 2)) m := by
  show k0_pay42 (k0_pay40 s) (Scalar.cmpi .eq (wordEven k) 0#32) m = _
  rw [bit_even]
theorem pay67_eq : k0_pay67 (wordEven k) s m = k0_pay43 (k0_pay40 s) (firstBit (2 * k.val + 2)) m := by
  show k0_pay43 (k0_pay40 s) (Scalar.cmpi .eq (wordEven k) 0#32) m = _
  rw [bit_even]
theorem pay68_eq : k0_pay68 (wordEven k) s m = k0_pay44 (k0_pay40 s) (firstBit (2 * k.val + 2)) m := by
  show k0_pay44 (k0_pay40 s) (Scalar.cmpi .eq (wordEven k) 0#32) m = _
  rw [bit_even]

theorem firstBit_odd (n : ℕ) : firstBit (2 * n + 1) = 0#1 := if_neg (by omega)

variable (L : ℕ → Vec F S1x512x512 .f32) (v : ℕ → Vec F S1x272x512 .bf16) (n : ℕ)

theorem mx_odd : mx L (2 * n + 1) = k0_pay44 (k0_pay40 (L (2 * n + 1))) 0#1 (mx L (2 * n)) := by
  rw [mx_eq, firstBit_odd]; rfl
theorem mx_even : mx L (2 * n + 2) = k0_pay44 (k0_pay40 (L (2 * n + 2))) (firstBit (2 * n + 2)) (k0_pay44 (k0_pay40 (L (2 * n + 1))) 0#1 (mx L (2 * n))) := by
  rw [← mx_odd]; rfl
theorem al_odd : al L (2 * n + 1) = k0_pay43 (k0_pay40 (L (2 * n + 1))) 0#1 (mx L (2 * n)) := by
  rw [al, firstBit_odd]; rfl
theorem al_even : al L (2 * n + 2) = k0_pay43 (k0_pay40 (L (2 * n + 2))) (firstBit (2 * n + 2)) (k0_pay44 (k0_pay40 (L (2 * n + 1))) 0#1 (mx L (2 * n))) := by
  rw [← mx_odd]; rfl
theorem pr_odd : pr L (2 * n + 1) = k0_pay45 (k0_pay40 (L (2 * n + 1))) 0#1 (mx L (2 * n)) (L (2 * n + 1)) := by
  rw [pr, firstBit_odd]; rfl
theorem pr_even : pr L (2 * n + 2) = k0_pay45 (k0_pay40 (L (2 * n + 2))) (firstBit (2 * n + 2)) (k0_pay44 (k0_pay40 (L (2 * n + 1))) 0#1 (mx L (2 * n))) (L (2 * n + 2)) := by
  rw [← mx_odd]; rfl
theorem ac_even : ac L v (2 * n + 2) = k0_pay53 (k0_pay52 (k0_pay53 (k0_pay52 (ac L v (2 * n)) (al L (2 * n))) (v (2 * n)) (pr L (2 * n)))
    (k0_pay43 (k0_pay40 (L (2 * n + 1))) 0#1 (mx L (2 * n)))) (v (2 * n + 1)) (k0_pay45 (k0_pay40 (L (2 * n + 1))) 0#1 (mx L (2 * n)) (L (2 * n + 1))) := by
  rw [← al_odd, ← pr_odd]; rfl

end Steps

section Trip
variable (c : Dev nD) (i : grid0.Coords) (arg2 : Memref sig .tc .vmem S4096x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x7x512x512 .f32) (harg5 : arg5.IsWhole) (arg6 : Memref sig .tc .vmem S4x128 .f32) (harg6 : arg6.IsWhole) (arg7 : Memref sig .tc .vmem S256x1 .f32) (harg7 : arg7.IsWhole) (arg8 : Memref sig .tc .vmem S4096x256 .bf16) (harg8 : arg8.IsWhole) (arg9 : Memref sig .tc .vmem S16x272x512 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x272x512 .f32) (harg17 : arg17.IsWhole)
  (X2 : S4096x256.Idx → Elt F .bf16) (X3 : S8192x256.Idx → Elt F .bf16) (X5 : S1x7x512x512.Idx → Elt F .f32)
  (X6 : S4x128.Idx → Elt F .f32) (X7 : S256x1.Idx → Elt F .f32) (X8 : S4096x256.Idx → Elt F .bf16) (X9 : S16x272x512.Idx → Elt F .bf16)

/-- The logits of component `d`. -/
abbrev lgs (d : Fin 2) : ℕ → Vec F S1x512x512 .f32 := lg (i 1).val X2 X3 X5 d

set_option maxHeartbeats 4000000 in
set_option maxRecDepth 65536 in
theorem trip (arg1 : BitVec 32) (v129 : Vec F S1x512x512 .f32) (k : Fin k0_t1_loop.trips)
   (A10 B10 : Vec F S1x512x512 .f32) (A13 B13 : Vec F S1x512x512 .bf16) (A15 B15 : Vec F S1x1x512 .f32) :
  iprop(held c arg2 X2 ∗ held c arg3 X3 ∗ held c arg5 X5 ∗ held c arg6 X6 ∗ held c arg7 X7 ∗ held c arg8 (outs (i 1).val X2 X3 X5 X6 X7 X9 X8 k) ∗ held c arg9 X9
    ∗ held c arg10 (two A10 B10) ∗ held c arg11 (two (lgs i X2 X3 X5 0 (2 * k + 1)) (lgs i X2 X3 X5 1 (2 * k + 1)))
    ∗ held c arg12 (two (pr (lgs i X2 X3 X5 0) (2 * k)) (pr (lgs i X2 X3 X5 1) (2 * k))) ∗ held c arg13 (two A13 B13)
    ∗ held c arg14 (two (al (lgs i X2 X3 X5 0) (2 * k)) (al (lgs i X2 X3 X5 1) (2 * k))) ∗ held c arg15 (two A15 B15)
    ∗ held c arg16 (two (mx (lgs i X2 X3 X5 0) (2 * k)) (mx (lgs i X2 X3 X5 1) (2 * k)))
    ∗ held c arg17 (two (acc (i 1).val X2 X3 X5 X9 0 (2 * k)) (acc (i 1).val X2 X3 X5 X9 1 (2 * k))))
  ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v129 k ()) (fun _ =>
   iprop(∃ (A10 B10 : Vec F S1x512x512 .f32) (A13 B13 : Vec F S1x512x512 .bf16) (A15 B15 : Vec F S1x1x512 .f32), held c arg2 X2 ∗ held c arg3 X3 ∗ held c arg5 X5 ∗ held c arg6 X6 ∗ held c arg7 X7 ∗ held c arg8 (outs (i 1).val X2 X3 X5 X6 X7 X9 X8 (k + 1)) ∗ held c arg9 X9
    ∗ held c arg10 (two A10 B10) ∗ held c arg11 (two (lgs i X2 X3 X5 0 (2 * k + 3)) (lgs i X2 X3 X5 1 (2 * k + 3)))
    ∗ held c arg12 (two (pr (lgs i X2 X3 X5 0) (2 * k + 2)) (pr (lgs i X2 X3 X5 1) (2 * k + 2))) ∗ held c arg13 (two A13 B13)
    ∗ held c arg14 (two (al (lgs i X2 X3 X5 0) (2 * k + 2)) (al (lgs i X2 X3 X5 1) (2 * k + 2))) ∗ held c arg15 (two A15 B15)
    ∗ held c arg16 (two (mx (lgs i X2 X3 X5 0) (2 * k + 2)) (mx (lgs i X2 X3 X5 1) (2 * k + 2)))
    ∗ held c arg17 (two (acc (i 1).val X2 X3 X5 X9 0 (2 * k + 2)) (acc (i 1).val X2 X3 X5 X9 1 (2 * k + 2))))) := by
  iintro ⟨H2, H3, H5, H6, H7, H8, H9, H10, H11, H12, H13, H14, H15, H16, H17⟩
  by_cases hk : k0_cond2 k = 1#1
  all_goals
    sl_unfold [k0_t1_body]
    sl_exec
    sl_step
    iexists lgs i X2 X3 X5 0 (2 * k + 2), lgs i X2 X3 X5 1 (2 * k + 2), pr (lgs i X2 X3 X5 0) (2 * k + 1), pr (lgs i X2 X3 X5 1) (2 * k + 1), al (lgs i X2 X3 X5 0) (2 * k + 1), al (lgs i X2 X3 X5 1) (2 * k + 1)
    isplitl [H2]
    · iexact H2
    isplitl [H3]
    · iexact H3
    isplitl [H5]
    · iexact H5
    isplitl [H6]
    · iexact H6
    isplitl [H7]
    · iexact H7
    isplitl [H8]
    · iapply (held_of ?_) $$ H8
      rw [cond2_iff] at hk
      first
        | rw [outs_succ, if_neg hk]
          exact View.read_rep _ _
        | rw [outs_succ, if_pos hk]
          sl_unfold_run_names
          simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq, num_fst, num_snd, den_fst, den_snd, window_whole]
          have e : 16 * (k.val / 8) + 16 = 2 * k.val + 2 := by omega
          rw [tileOut, e, off9_1]
          simp only [acc, ac_even]
          rfl
    isplitl [H9]
    · iexact H9
    isplitl [H10]
    · iapply (held_of ?_) $$ H10
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      refine congrArg₂ two ?_ ?_
      · rfl
      · rfl
    isplitl [H11]
    · iapply (held_of ?_) $$ H11
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      refine congrArg₂ two ?_ ?_
      · rfl
      · rfl
    isplitl [H12]
    · iapply (held_of ?_) $$ H12
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      rw [pr_even, pr_even]
      refine congrArg₂ two ?_ ?_
      · rfl
      · rfl
    isplitl [H13]
    · iapply (held_of ?_) $$ H13
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      rw [pr_odd, pr_odd]
      refine congrArg₂ two ?_ ?_
      · rfl
      · rfl
    isplitl [H14]
    · iapply (held_of ?_) $$ H14
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      rw [al_even, al_even]
      refine congrArg₂ two ?_ ?_
      · rfl
      · rfl
    isplitl [H15]
    · iapply (held_of ?_) $$ H15
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      rw [al_odd, al_odd]
      refine congrArg₂ two ?_ ?_
      · rfl
      · rfl
    isplitl [H16]
    · iapply (held_of ?_) $$ H16
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      rw [mx_even, mx_even]
      refine congrArg₂ two ?_ ?_
      · rfl
      · rfl
    · iapply (held_of ?_) $$ H17
      sl_unfold_run_names
      simp only [readAt_window, readCov_window, read_put, View.writes_nil, View.read_rep, window_two_fst, window_two_snd, VecWindow.window_put_same, window_put_fst_snd, window_put_snd_fst, put_two_fst, put_two_snd, put_put_two, q1a, q1b, q2a, q2b, k1a, k1b, k2a, k2b, b1, b2, v1, v2, pay47_eq, pay48_eq, pay61_eq, pay62_eq, pay66_eq, pay67_eq, pay68_eq]
      simp only [acc, ac_even]
      refine congrArg₂ two ?_ ?_
      · rfl
      · rfl

end Trip
end Cert.KernelIdeal.Attn
end
-- ==== Proof.Body.lean ====
module
public import proofs.«01_k».proof.Proof.Trip
@[expose] public section
noncomputable section
namespace Cert.KernelIdeal.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pair
variable {F : FTy → Type} [FloatOps F] [Named F]
local notation "𝕄" => MT nD τ sig Unit (Elt F) ℕ (UR sig nD τ) ℕ
section
variable (c : Dev nD) (i : grid0.Coords) (arg2 : Memref sig .tc .vmem S4096x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x7x512x512 .f32) (harg5 : arg5.IsWhole) (arg6 : Memref sig .tc .vmem S4x128 .f32) (harg6 : arg6.IsWhole) (arg7 : Memref sig .tc .vmem S256x1 .f32) (harg7 : arg7.IsWhole) (arg8 : Memref sig .tc .vmem S4096x256 .bf16) (harg8 : arg8.IsWhole) (arg9 : Memref sig .tc .vmem S16x272x512 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x272x512 .f32) (harg17 : arg17.IsWhole)
  (X2 : S4096x256.Idx → Elt F .bf16) (X3 : S8192x256.Idx → Elt F .bf16) (X4 : S8192x256.Idx → Elt F .bf16) (X5 : S1x7x512x512.Idx → Elt F .f32)
  (X6 : S4x128.Idx → Elt F .f32) (X7 : S256x1.Idx → Elt F .f32) (X8 : S4096x256.Idx → Elt F .bf16) (X9 : S16x272x512.Idx → Elt F .bf16)

/-- What the buffers hold before trip `k` of the loop over pairs of blocks. -/
def Inv (k : ℕ) (_ : PUnit) : sProp 𝕄 :=
  iprop(∃ (A10 B10 : Vec F S1x512x512 .f32) (A13 B13 : Vec F S1x512x512 .bf16) (A15 B15 : Vec F S1x1x512 .f32), held c arg2 X2 ∗ held c arg3 X3 ∗ held c arg5 X5 ∗ held c arg6 X6 ∗ held c arg7 X7 ∗ held c arg8 (outs (i 1).val X2 X3 X5 X6 X7 X9 X8 k) ∗ held c arg9 X9
    ∗ held c arg10 (two A10 B10) ∗ held c arg11 (two (lgs i X2 X3 X5 0 (2 * k + 1)) (lgs i X2 X3 X5 1 (2 * k + 1)))
    ∗ held c arg12 (two (pr (lgs i X2 X3 X5 0) (2 * k)) (pr (lgs i X2 X3 X5 1) (2 * k))) ∗ held c arg13 (two A13 B13)
    ∗ held c arg14 (two (al (lgs i X2 X3 X5 0) (2 * k)) (al (lgs i X2 X3 X5 1) (2 * k))) ∗ held c arg15 (two A15 B15)
    ∗ held c arg16 (two (mx (lgs i X2 X3 X5 0) (2 * k)) (mx (lgs i X2 X3 X5 1) (2 * k)))
    ∗ held c arg17 (two (acc (i 1).val X2 X3 X5 X9 0 (2 * k)) (acc (i 1).val X2 X3 X5 X9 1 (2 * k))))

theorem inv_step (arg1 : BitVec 32) (v129 : Vec F S1x512x512 .f32) (k : Fin k0_t1_loop.trips) (u : PUnit) :
  Inv c i arg2 arg3 arg5 arg6 arg7 arg8 arg9 arg10 arg11 arg12 arg13 arg14 arg15 arg16 arg17 X2 X3 X5 X6 X7 X8 X9 k u
  ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v129 k u) (fun u' =>
    Inv c i arg2 arg3 arg5 arg6 arg7 arg8 arg9 arg10 arg11 arg12 arg13 arg14 arg15 arg16 arg17 X2 X3 X5 X6 X7 X8 X9 (k + 1) u') := by
  unfold Inv
  iintro ⟨%A10, %B10, %A13, %B13, %A15, %B15, H⟩
  iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X5 X6 X7 X8 X9 arg1 v129 k A10 B10 A13 B13 A15 B15) $$ H

/-- The transposed values a point works with: the fill of this head's values at the first query half, what the scratch held
   at the second. -/
def vals (i : grid0.Coords) (X4 : S8192x256.Idx → Elt F .bf16) (X9 : S16x272x512.Idx → Elt F .bf16) : S16x272x512.Idx → Elt F .bf16 :=
  if (i 1).val = 0 then fill X4 else X9

theorem trips_eq : Scf.trips k0_t1_loop.lb k0_t1_loop.ub k0_t1_loop.st = 63 := by decide +kernel

theorem start_iff : ∀ i : grid0.Coords, Scalar.cmpi .ne (Scalar.extui (Scalar.cmpi .eq (BitVec.ofNat 32 (i 1).val) 0#32) : BitVec 32) 0#32 = 1#1 ↔ (i 1).val = 0 := by
  decide +kernel

theorem b0 {α : Type} (i : grid0.Coords) (x : S1x7x512x512.Idx → α) (inb) : VecWindow.window x (k0_off1 i 0#32) ![1, 1, 512, 512] inb = bWin x (relTile (0 % 16) (8 * (i 1).val + 0 / 16 % 8)) := window_congr x (off1_0 i) _ _
theorem b0' {α : Type} (i : grid0.Coords) (x : S1x7x512x512.Idx → α) (inb) : VecWindow.window x (k0_off1 i 1#32) ![1, 1, 512, 512] inb = bWin x (relTile (1 % 16) (8 * (i 1).val + 1 / 16 % 8)) := window_congr x (off1_1 i) _ _

set_option maxHeartbeats 4000000 in
set_option maxRecDepth 65536 in
theorem body (X10 X11 : S2x512x512.Idx → Elt F .f32) (X12 X13 : S2x512x512.Idx → Elt F .bf16)
  (X14 X15 X16 : S2x1x512.Idx → Elt F .f32) (X17 : S2x272x512.Idx → Elt F .f32) :
  iprop(held c arg2 X2 ∗ held c arg3 X3 ∗ held c arg4 X4 ∗ held c arg5 X5 ∗ held c arg6 X6 ∗ held c arg7 X7 ∗ held c arg8 X8 ∗ held c arg9 X9
    ∗ held c arg10 X10 ∗ held c arg11 X11 ∗ held c arg12 X12 ∗ held c arg13 X13 ∗ held c arg14 X14 ∗ held c arg15 X15 ∗ held c arg16 X16 ∗ held c arg17 X17)
  ⊢ wp frame (wpE (defs₀ (F := F)) 𝒱₀ (c : Thread nD τ) none) Set.univ (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ =>
   iprop(held c arg2 X2 ∗ held c arg3 X3 ∗ held c arg4 X4 ∗ held c arg5 X5 ∗ held c arg6 X6 ∗ held c arg7 X7
    ∗ held c arg8 (outEnd (i 1).val X2 X3 X5 X6 X7 (vals i X4 X9) X8) ∗ held c arg9 (vals i X4 X9)
    ∗ (∃ X, held c arg10 X) ∗ (∃ X, held c arg11 X) ∗ (∃ X, held c arg12 X) ∗ (∃ X, held c arg13 X) ∗ (∃ X, held c arg14 X) ∗ (∃ X, held c arg15 X) ∗ (∃ X, held c arg16 X) ∗ (∃ X, held c arg17 X))) := by
  obtain ⟨A13, B13, rfl⟩ := exists_two X13
  obtain ⟨A15, B15, rfl⟩ := exists_two X15
  iintro ⟨H2, H3, H4, H5, H6, H7, H8, H9, H10, H11, H12, H13, H14, H15, H16, H17⟩
  sl_unfold [cc0_diff_attn]
  sl_exec
  sl_for (Inv c i arg2 arg3 arg5 arg6 arg7 arg8 arg9 arg10 arg11 arg12 arg13 arg14 arg15 arg16 arg17 X2 X3 X5 X6 X7 X8 (vals i X4 X9)) $$ [H2 H3 H5 H6 H7 H8 H9 H10 H11 H12 H13 H14 H15 H16 H17]
  case region =>
    intro k u
    exact inv_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X5 X6 X7 X8 (vals i X4 X9) _ _ k u
  · unfold Inv
    iexists lgs i X2 X3 X5 0 0, lgs i X2 X3 X5 1 0, A13, B13, A15, B15
    isplitl [H2]
    · iexact H2
    isplitl [H3]
    · iexact H3
    isplitl [H5]
    · iexact H5
    isplitl [H6]
    · iexact H6
    isplitl [H7]
    · iexact H7
    isplitl [H8]
    · iexact H8
    isplitl [H9]
    · iapply (held_of ?_) $$ H9
      rw [vals]
      by_cases hi : (i 1).val = 0
      · have hb : body.sl.v2 i = 1#1 := (start_iff i).2 hi
        rw [dif_pos hb, if_pos hi]
        sl_unfold_run_names
        simp only [readAt_window, read_put, View.writes_nil, View.read_rep]
        refine filled_all X4 _ ?_
        iterate 16
          refine filled_succ X4 _ ?_ _ ?_
          swap
        · exact filled_zero X4 _
        all_goals decide
      · have hb : ¬ body.sl.v2 i = 1#1 := fun h => hi ((start_iff i).1 h)
        rw [dif_neg hb, if_neg hi]
        exact View.read_rep _ _
    isplitl [H10]
    · iapply (held_of ?_) $$ H10
      sl_unfold_run_names
      simp only [readAt_window, readCov_window, read_put, View.writes_nil, View.read_rep, window_two_fst, window_two_snd, VecWindow.window_put_same, window_put_fst_snd, window_put_snd_fst, put_two_fst, put_two_snd, put_put_two, put_whole_two, b0, b0']
      refine congrArg₂ two ?_ ?_
      · rfl
      · rfl
    isplitl [H11]
    · iapply (held_of ?_) $$ H11
      sl_unfold_run_names
      simp only [readAt_window, readCov_window, read_put, View.writes_nil, View.read_rep, window_two_fst, window_two_snd, VecWindow.window_put_same, window_put_fst_snd, window_put_snd_fst, put_two_fst, put_two_snd, put_put_two, put_whole_two, b0, b0']
      refine congrArg₂ two ?_ ?_
      · rfl
      · rfl
    isplitl [H12]
    · iapply (held_of ?_) $$ H12
      sl_unfold_run_names
      simp only [readAt_window, readCov_window, read_put, View.writes_nil, View.read_rep, window_two_fst, window_two_snd, VecWindow.window_put_same, window_put_fst_snd, window_put_snd_fst, put_two_fst, put_two_snd, put_put_two, put_whole_two, b0, b0']
      refine congrArg₂ two ?_ ?_
      · rfl
      · rfl
    isplitl [H13]
    · iexact H13
    isplitl [H14]
    · iapply (held_of ?_) $$ H14
      sl_unfold_run_names
      simp only [readAt_window, readCov_window, read_put, View.writes_nil, View.read_rep, window_two_fst, window_two_snd, VecWindow.window_put_same, window_put_fst_snd, window_put_snd_fst, put_two_fst, put_two_snd, put_put_two, put_whole_two, b0, b0']
      refine congrArg₂ two ?_ ?_
      · rfl
      · rfl
    isplitl [H15]
    · iexact H15
    isplitl [H16]
    · iapply (held_of ?_) $$ H16
      sl_unfold_run_names
      simp only [readAt_window, readCov_window, read_put, View.writes_nil, View.read_rep, window_two_fst, window_two_snd, VecWindow.window_put_same, window_put_fst_snd, window_put_snd_fst, put_two_fst, put_two_snd, put_put_two, put_whole_two, b0, b0']
      refine congrArg₂ two ?_ ?_
      · rfl
      · rfl
    · iapply (held_of ?_) $$ H17
      sl_unfold_run_names
      simp only [readAt_window, readCov_window, read_put, View.writes_nil, View.read_rep, window_two_fst, window_two_snd, VecWindow.window_put_same, window_put_fst_snd, window_put_snd_fst, put_two_fst, put_two_snd, put_put_two, put_whole_two, b0, b0']
      funext y
      show _ = ite _ _ _
      split
      · rfl
      · rfl
  iintro %u HI
  unfold Inv
  rw [trips_eq]
  icases HI with ⟨%A10, %B10, %A13, %B13, %A15, %B15, H2, H3, H5, H6, H7, H8, H9, H10, H11, H12, H13, H14, H15, H16, H17⟩
  sl_exec
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (held_of ?_) $$ H8
    rw [outEnd]
    sl_unfold_run_names
    simp only [readAt_window, readCov_window, read_put, View.writes_nil, View.read_rep, window_two_fst, window_two_snd, VecWindow.window_put_same, window_put_fst_snd, window_put_snd_fst, put_two_fst, put_two_snd, put_put_two, num_fst, num_snd, den_fst, den_snd, window_whole]
    refine congrArg (VecWindow.put _ _ _) ?_
    rw [tileOut]
    have e : 16 * 7 + 16 = 2 * 63 + 2 := rfl
    rw [e]
    simp only [acc, ac_even]
    rfl
  isplitl [H9]
  · iexact H9
  isplitl [H10]
  · iexists _
    iapply (held_of ?_) $$ H10
    rfl
  isplitl [H11]
  · iexists _
    iapply (held_of ?_) $$ H11
    rfl
  isplitl [H12]
  · iexists _
    iapply (held_of ?_) $$ H12
    rfl
  isplitl [H13]
  · iexists _
    iapply (held_of ?_) $$ H13
    rfl
  isplitl [H14]
  · iexists _
    iapply (held_of ?_) $$ H14
    rfl
  isplitl [H15]
  · iexists _
    iapply (held_of ?_) $$ H15
    rfl
  isplitl [H16]
  · iexists _
    iapply (held_of ?_) $$ H16
    rfl
  · iexists _
    iapply (held_of ?_) $$ H17
    rfl
end
end Cert.KernelIdeal.Attn
end
-- ==== Proof.Run.lean ====
module
public import proofs.«01_k».proof.Proof.Body
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.ValueKit
@[expose] public section
noncomputable section
namespace Cert.KernelIdeal.Attn
open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Cert.Pair
variable {F : FTy → Type} [FloatOps F] [Named F]
local notation "𝕄" => MT nD τ sig Unit (Elt F) ℕ (UR sig nD τ) ℕ

section Block
variable (j : ℕ) (X2 : S4096x256.Idx → Elt F .bf16) (X3 : S8192x256.Idx → Elt F .bf16) (X5 : S1x7x512x512.Idx → Elt F .f32)
  (X6 : S4x128.Idx → Elt F .f32) (X7 : S256x1.Idx → Elt F .f32) (X9 : S16x272x512.Idx → Elt F .bf16)

/-- The block a point leaves: query tile `t` in the rows from `512 * t`. -/
def outBlock : S4096x256.Idx → Elt F .bf16 := fun y =>
  tileOut j X2 X3 X5 X6 X7 X9 ((y 0).val / 512) (ix2 (⟨(y 0).val % 512, Nat.mod_lt _ (by decide)⟩ : Fin 512) (y 1))

theorem put_rows (x : S4096x256.Idx → Elt F .bf16) (t : ℕ) (w : S512x256.Idx → Elt F .bf16) (y : S4096x256.Idx) :
    VecWindow.put x ![512 * t, 0] S512x256.size w y
      = if (y 0).val / 512 = t then w (ix2 (⟨(y 0).val % 512, Nat.mod_lt _ (by decide)⟩ : Fin 512) (y 1)) else x y := by
  have h1 : (y 1).val < 256 := (y 1).isLt
  by_cases h : (y 0).val / 512 = t
  · have ins : ∀ a, (![512 * t, 0] : Fin 2 → ℕ) a ≤ (y a).val ∧ (y a).val < (![512 * t, 0] : Fin 2 → ℕ) a + S512x256.size a := by
      intro a
      fin_cases a
      · exact ⟨by show 512 * t ≤ (y 0).val; omega, by show (y 0).val < 512 * t + 512; omega⟩
      · exact ⟨Nat.zero_le _, by show (y 1).val < 0 + 256; omega⟩
    unfold VecWindow.put
    rw [dif_pos ins, if_pos h]
    refine congrArg w ?_
    funext a
    fin_cases a
    · exact Fin.ext (show (y 0).val - 512 * t = (y 0).val % 512 by omega)
    · rfl
  · have out : ¬ ∀ a, (![512 * t, 0] : Fin 2 → ℕ) a ≤ (y a).val ∧ (y a).val < (![512 * t, 0] : Fin 2 → ℕ) a + S512x256.size a := by
      intro hall
      have h0 : 512 * t ≤ (y 0).val ∧ (y 0).val < 512 * t + 512 := hall 0
      omega
    unfold VecWindow.put
    rw [dif_neg out, if_neg h]

theorem outs_apply (X8 : S4096x256.Idx → Elt F .bf16) (y : S4096x256.Idx) : ∀ k, outs j X2 X3 X5 X6 X7 X9 X8 k y
    = if (y 0).val / 512 < k / 8 then outBlock j X2 X3 X5 X6 X7 X9 y else X8 y
  | 0 => by rw [outs_zero, if_neg (by omega)]
  | k + 1 => by
    rw [outs_succ]
    by_cases hk : k % 8 = 7
    · rw [if_pos hk, put_rows]
      by_cases h : (y 0).val / 512 = k / 8
      · rw [if_pos h, if_pos (by omega), outBlock, h]
      · rw [if_neg h, outs_apply X8 y k]
        by_cases h' : (y 0).val / 512 < k / 8
        · rw [if_pos h', if_pos (by omega)]
        · rw [if_neg h', if_neg (by omega)]
    · rw [if_neg hk, outs_apply X8 y k]
      have e : (k + 1) / 8 = k / 8 := by omega
      rw [e]

theorem outEnd_eq (X8 : S4096x256.Idx → Elt F .bf16) : outEnd j X2 X3 X5 X6 X7 X9 X8 = outBlock j X2 X3 X5 X6 X7 X9 := by
  funext y
  have h0 : (y 0).val < 4096 := (y 0).isLt
  rw [outEnd]
  refine (put_rows _ 7 _ y).trans ?_
  by_cases h : (y 0).val / 512 = 7
  · rw [if_pos h, outBlock, h]
  · rw [if_neg h, outs_apply, if_pos (by omega)]
end Block

section Data
variable (m : (ℓ : Loc nD τ sig) → Buf (Elt F) ℓ) (ρ : Dev nD → PrngReg)

/-- The value rows staged at point `n`. -/
def vrow (c : Dev nD) (n : ℕ) : S8192x256.Idx → Elt F .bf16 :=
  if h : n < cfg0.N then iblk m c 2 ⟨n, h⟩ else fun _ => Scalar.ofBits .bf16 0

/-- What the body's buffers hold before point `n`: at the second query half of a head the scratch of transposed values is
   this head's fill; the rest is unread before it is written. -/
def Phi (c : Dev nD) (n : ℕ) : sProp 𝕄 :=
  iprop((∃ X, ⌜n % 2 = 1 → X = fill (vrow m c n)⌝ ∗ held c (Memref.whole cc0_scratch0) X)
    ∗ (∃ X, held c (Memref.whole cc0_scratch1) X) ∗ (∃ X, held c (Memref.whole cc0_scratch2) X)
    ∗ (∃ X, held c (Memref.whole cc0_scratch3) X) ∗ (∃ X, held c (Memref.whole cc0_scratch4) X)
    ∗ (∃ X, held c (Memref.whole cc0_scratch5) X) ∗ (∃ X, held c (Memref.whole cc0_scratch6) X)
    ∗ (∃ X, held c (Memref.whole cc0_scratch7) X) ∗ (∃ X, held c (Memref.whole cc0_scratch8) X)
    ∗ ∃ r, prngReg c r)

/-- What a point leaves in the output's buffer. -/
def outAt (c : Dev nD) (t : Fin cfg0.N) : S4096x256.Idx → Elt F .bf16 :=
  outBlock ((grid0.coords t) 1).val (iblk m c 0 t) (iblk m c 1 t) (iblk m c 3 t) (iblk m c 4 t) (iblk m c 5 t) (fill (iblk m c 2 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem index2 : ∀ t : Fin cfg0.N, win0_2.index t = ![0, 16 + t.val / 2] := (by decide +kernel : ∀ t : Fin grid0.N, _)

theorem blk2_next (c : Dev nD) : ∀ (t : Fin cfg0.N), t.val % 2 = 0 → ∀ h : t.val + 1 < cfg0.N, iblk m c 2 ⟨t.val + 1, h⟩ = iblk m c 2 t := by
  intro t ht h
  have e : ∀ y, ((win0_2.blk ⟨t.val + 1, h⟩).view.emb y : S8192x6144.Idx) = (win0_2.blk t).view.emb y := by
    intro y
    have i0 := index2 ⟨t.val + 1, h⟩
    have i1 := index2 t
    blk_ext [i0, i1]
  funext y
  exact congrArg (V m c main_v9) (e y)

theorem odd_of : ∀ t : Fin grid0.N, ¬ ((grid0.coords t) 1).val = 0 → t.val % 2 = 1 := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6]
  unfold Phi
  iintro ⟨⟨⟨%X9, %h9, S0⟩, ⟨%X10, S1⟩, ⟨%X11, S2⟩, ⟨%X12, S3⟩, ⟨%X13, S4⟩, ⟨%X14, S5⟩, ⟨%X15, S6⟩, ⟨%X16, S7⟩, ⟨%X17, S8⟩, Hr⟩, Ho, ⟨%d0, H0⟩, ⟨%d1, H1⟩, ⟨%d2, H2⟩, ⟨%d3, H3⟩, ⟨%d4, H4⟩, ⟨%d5, H5⟩, ⟨%d6, H6⟩⟩
  have hv : vals (grid0.coords t) (iblk m c 2 t) X9 = fill (iblk m c 2 t) := by
    rw [vals]
    by_cases hz : ((grid0.coords t) 1).val = 0
    · rw [if_pos hz]
    · have ho : t.val % 2 = 1 := odd_of t hz
      rw [if_neg hz, h9 ho, vrow, dif_pos t.isLt]
  have hn : (t.val + 1) % 2 = 1 → fill (iblk m c 2 t) = fill (vrow m c (t.val + 1)) := by
    intro hodd
    have hlt : t.val + 1 < cfg0.N := by have h16 := t.isLt; have e16 : cfg0.N = 16 := N_0; omega
    rw [vrow, dif_pos hlt, blk2_next m c t (by omega) hlt]
  ihave H0 := rep_of_owns (c : Thread nD τ) _ _ _ $$ H0
  ihave H1 := rep_of_owns (c : Thread nD τ) _ _ _ $$ H1
  ihave H2 := rep_of_owns (c : Thread nD τ) _ _ _ $$ H2
  ihave H3 := rep_of_owns (c : Thread nD τ) _ _ _ $$ H3
  ihave H4 := rep_of_owns (c : Thread nD τ) _ _ _ $$ H4
  ihave H5 := rep_of_owns (c : Thread nD τ) _ _ _ $$ H5
  ihave H6 := rep_of_owns (c : Thread nD τ) _ _ _ $$ H6
  iapply wp_wand_r
  isplitl [H0 H1 H2 H3 H4 H5 H6 S0 S1 S2 S3 S4 S5 S6 S7 S8]
  · iapply (body c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _ X9 X10 X11 X12 X13 X14 X15 X16 X17)
    iframe
  iintro %u ⟨H0, H1, H2, H3, H4, H5, H6, S0, S1, S2, S3, S4, S5, S6, S7, S8⟩
  rw [hv, outEnd_eq]
  isplitl [S0 S1 S2 S3 S4 S5 S6 S7 S8 Hr]
  · isplitl [S0]
    · iexists fill (iblk m c 2 t)
      isplitr
      · ipureintro
        exact hn
      · iexact S0
    iframe
  isplitl [Ho]; · iexact Ho
  isplitl [H0]; · iapply owns_of_rep (c : Thread nD τ) _ _ _ $$ H0
  isplitl [H1]; · iapply owns_of_rep (c : Thread nD τ) _ _ _ $$ H1
  isplitl [H2]; · iapply owns_of_rep (c : Thread nD τ) _ _ _ $$ H2
  isplitl [H3]; · iapply owns_of_rep (c : Thread nD τ) _ _ _ $$ H3
  isplitl [H4]; · iapply owns_of_rep (c : Thread nD τ) _ _ _ $$ H4
  isplitl [H5]; · iapply owns_of_rep (c : Thread nD τ) _ _ _ $$ H5
  iapply owns_of_rep (c : Thread nD τ) _ _ _ $$ H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem held_0 (c : Dev nD) (f : Vec F S16x272x512 .bf16) :
    held c (Memref.whole cc0_scratch0) f = (((c : Thread nD τ).loc cc0_scratch0) ↦{fullShare} f) :=
  (owns_eq_rep (c : Thread nD τ) (Memref.whole cc0_scratch0) fullShare f).symm.trans (owns_whole (c : Thread nD τ) cc0_scratch0 fullShare f)

theorem held_1 (c : Dev nD) (f : Vec F S2x512x512 .f32) :
    held c (Memref.whole cc0_scratch1) f = (((c : Thread nD τ).loc cc0_scratch1) ↦{fullShare} f) :=
  (owns_eq_rep (c : Thread nD τ) (Memref.whole cc0_scratch1) fullShare f).symm.trans (owns_whole (c : Thread nD τ) cc0_scratch1 fullShare f)

theorem held_2 (c : Dev nD) (f : Vec F S2x512x512 .f32) :
    held c (Memref.whole cc0_scratch2) f = (((c : Thread nD τ).loc cc0_scratch2) ↦{fullShare} f) :=
  (owns_eq_rep (c : Thread nD τ) (Memref.whole cc0_scratch2) fullShare f).symm.trans (owns_whole (c : Thread nD τ) cc0_scratch2 fullShare f)

theorem held_3 (c : Dev nD) (f : Vec F S2x512x512 .bf16) :
    held c (Memref.whole cc0_scratch3) f = (((c : Thread nD τ).loc cc0_scratch3) ↦{fullShare} f) :=
  (owns_eq_rep (c : Thread nD τ) (Memref.whole cc0_scratch3) fullShare f).symm.trans (owns_whole (c : Thread nD τ) cc0_scratch3 fullShare f)

theorem held_4 (c : Dev nD) (f : Vec F S2x512x512 .bf16) :
    held c (Memref.whole cc0_scratch4) f = (((c : Thread nD τ).loc cc0_scratch4) ↦{fullShare} f) :=
  (owns_eq_rep (c : Thread nD τ) (Memref.whole cc0_scratch4) fullShare f).symm.trans (owns_whole (c : Thread nD τ) cc0_scratch4 fullShare f)

theorem held_5 (c : Dev nD) (f : Vec F S2x1x512 .f32) :
    held c (Memref.whole cc0_scratch5) f = (((c : Thread nD τ).loc cc0_scratch5) ↦{fullShare} f) :=
  (owns_eq_rep (c : Thread nD τ) (Memref.whole cc0_scratch5) fullShare f).symm.trans (owns_whole (c : Thread nD τ) cc0_scratch5 fullShare f)

theorem held_6 (c : Dev nD) (f : Vec F S2x1x512 .f32) :
    held c (Memref.whole cc0_scratch6) f = (((c : Thread nD τ).loc cc0_scratch6) ↦{fullShare} f) :=
  (owns_eq_rep (c : Thread nD τ) (Memref.whole cc0_scratch6) fullShare f).symm.trans (owns_whole (c : Thread nD τ) cc0_scratch6 fullShare f)

theorem held_7 (c : Dev nD) (f : Vec F S2x1x512 .f32) :
    held c (Memref.whole cc0_scratch7) f = (((c : Thread nD τ).loc cc0_scratch7) ↦{fullShare} f) :=
  (owns_eq_rep (c : Thread nD τ) (Memref.whole cc0_scratch7) fullShare f).symm.trans (owns_whole (c : Thread nD τ) cc0_scratch7 fullShare f)

theorem held_8 (c : Dev nD) (f : Vec F S2x272x512 .f32) :
    held c (Memref.whole cc0_scratch8) f = (((c : Thread nD τ).loc cc0_scratch8) ↦{fullShare} f) :=
  (owns_eq_rep (c : Thread nD τ) (Memref.whole cc0_scratch8) fullShare f).symm.trans (owns_whole (c : Thread nD τ) cc0_scratch8 fullShare f)

theorem enter (c : Dev nD) : Pipeline.ΦA spec0 c ⊢ (dats (F := F) m 0 c).Φ 0 := by
  rw [show (dats m 0 c).Φ 0 = Phi m c 0 from rfl]
  unfold Pipeline.ΦA Phi
  simp only [held_0, held_1, held_2, held_3, held_4, held_5, held_6, held_7, held_8]
  rw [scopedRest0_eq]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩⟩, Hr⟩
  isplitl [S0]
  · iexists f0
    isplitr
    · ipureintro
      intro h
      exact absurd h (by decide)
    · iexact S0
  isplitl [S1]
  · iexists f1
    iexact S1
  isplitl [S2]
  · iexists f2
    iexact S2
  isplitl [S3]
  · iexists f3
    iexact S3
  isplitl [S4]
  · iexists f4
    iexact S4
  isplitl [S5]
  · iexists f5
    iexact S5
  isplitl [S6]
  · iexists f6
    iexact S6
  isplitl [S7]
  · iexists f7
    iexact S7
  isplitl [S8]
  · iexists f8
    iexact S8
  iexact Hr

theorem leave (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi
  simp only [held_0, held_1, held_2, held_3, held_4, held_5, held_6, held_7, held_8]
  rw [scopedRest0_eq]
  iintro ⟨⟨%f0, -, S0⟩, ⟨%f1, S1⟩, ⟨%f2, S2⟩, ⟨%f3, S3⟩, ⟨%f4, S4⟩, ⟨%f5, S5⟩, ⟨%f6, S6⟩, ⟨%f7, S7⟩, ⟨%f8, S8⟩, Hr⟩
  isplitl [S0 S1 S2 S3 S4 S5 S6 S7 S8]
  · isplitl [S0]
    · iexists f0
      iexact S0
    isplitl [S1]
    · iexists f1
      iexact S1
    isplitl [S2]
    · iexists f2
      iexact S2
    isplitl [S3]
    · iexists f3
      iexact S3
    isplitl [S4]
    · iexists f4
      iexact S4
    isplitl [S5]
    · iexists f5
      iexact S5
    isplitl [S6]
    · iexists f6
      iexact S6
    isplitl [S7]
    · iexists f7
      iexact S7
    · iexists f8
      iexact S8
  iexact Hr

set_option backward.isDefEq.respectTransparency.types false in
/-- Every run of the kernel ends; it leaves what the point-by-point data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hin := enter m) (hout := leave m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Data
end Cert.KernelIdeal.Attn
end
-- ==== Proof.Frames.lean ====
/- The frames of the programs: every run ends, the arguments unchanged, every counter at zero. -/
module

public import proofs.«01_k».proof.Defs
public import proofs.«01_k».proof.Proof.Run
public import proofs.«01_k».proof.Proof.KernelRun
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal.Run

@[expose] public section

noncomputable section

namespace Cert.Frames

open Idealize.ShloMosaic Idealize.SL.Sem

theorem kernel : Cert.quiescent_Kernel := fun m ρ _ => Cert.Kernel.Attn.frame (F := Bits) m ρ

theorem kernelIdeal : Cert.quiescent_KernelIdeal := fun m ρ _ => Cert.KernelIdeal.Attn.frame (F := Ideal) m ρ

theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem reference6Ideal : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The mask of the idealized kernel is the name for minus infinity. -/
theorem preserves : Cert.preserves_Kernel_KernelIdeal := IdealRules.named_const.statement _ _ _ _ _ rfl

end Cert.Frames

end
-- ==== Proof.Math.lean ====
/- The real functions of differential attention, and the sums over key blocks that an online softmax keeps. -/
module

public import Idealize.ShloMosaic.PureOps.Ideal
public import Idealize.ShloMosaic.Lib.Pointwise

@[expose] public section
noncomputable section
namespace Cert.Attn
open Idealize.ShloMosaic

/-! ## The constants -/

/-- The constant under the root. -/
def eps : ℝ := 8796093 / 2 ^ 43
/-- The scale of the result. -/
def scale : ℝ := 10812764 / 2 ^ 24
/-- The mixing factor's start. -/
def lam0 : ℝ := 11928905 / 2 ^ 25

theorem eps_pos : 0 < eps := by unfold eps; positivity

theorem bits_eps : Ideal.ofBits .f32 897988541#32 = ((eps : ℝ) : EReal) := by
  unfold eps; simp [Ideal.ofBits, Ideal.ieee, -EReal.coe_mul]; norm_num
theorem bits_scale : Ideal.ofBits .f32 1059388764#32 = ((scale : ℝ) : EReal) := by
  unfold scale; simp [Ideal.ofBits, Ideal.ieee, -EReal.coe_mul]; norm_num
theorem bits_lam0 : Ideal.ofBits .f32 1052116297#32 = ((lam0 : ℝ) : EReal) := by
  unfold lam0; simp [Ideal.ofBits, Ideal.ieee, -EReal.coe_mul]; norm_num
theorem bits_128 : Ideal.ofBits .f32 1124073472#32 = ((128 : ℝ) : EReal) := by
  simp [Ideal.ofBits, Ideal.ieee, -EReal.coe_mul]; norm_num
theorem bits_256 : Ideal.ofBits .f32 1132462080#32 = ((256 : ℝ) : EReal) := by
  simp [Ideal.ofBits, Ideal.ieee, -EReal.coe_mul]; norm_num
theorem bits_two : Ideal.ofBits .f32 1073741824#32 = ((2 : ℝ) : EReal) := by
  simp [Ideal.ofBits, Ideal.ieee, -EReal.coe_mul]; norm_num
theorem bits_inf : Ideal.ofBits .f32 2139095040#32 = ⊤ := by
  simp [Ideal.ofBits, Ideal.ieee, -EReal.coe_mul]
theorem bits_neg_inf : Ideal.ofBits .f32 4286578688#32 = ⊥ := by
  simp [Ideal.ofBits, Ideal.ieee, -EReal.coe_mul]

/-! ## What is computed -/

/-- The relative-position tile of key block `kb` against query block `qb`. -/
def rel (kb qb : ℕ) : ℕ := min 6 (kb + 3 - qb)

section Spec
variable (P : ℕ → ℕ → ℝ) (T : ℕ → ℕ → ℕ → ℕ → ℝ) (lam : ℝ) (g : ℕ → EReal)

/-- The logit of query `q` and key `k` in head `h`, component `c`. -/
def logit (h c q k : ℕ) : ℝ :=
  (∑ d : Fin 128, P q (h * 256 + c * 128 + d.val) * P k (2048 + (h * 256 + c * 128 + d.val))) / √128
    + T h (rel (k / 512) (q / 512)) (k % 512) (q % 512)

/-- The softmax's denominator. -/
def den (h c q : ℕ) : ℝ := ∑ k : Fin 8192, Real.exp (logit P T h c q k.val)

/-- The softmax's numerator against value column `e`. -/
def num (h c q e : ℕ) : ℝ := ∑ k : Fin 8192, P k.val (4096 + (h * 256 + e)) * Real.exp (logit P T h c q k.val)

/-- The difference of the two attentions. -/
def dif (h q e : ℕ) : ℝ := num P T h 0 q e / den P T h 0 q - lam * (num P T h 1 q e / den P T h 1 q)

/-- The mean square over the 256 value columns, and the constant that keeps it from zero. -/
def msq (h q : ℕ) : ℝ := (∑ e : Fin 256, dif P T lam h q e.val * dif P T lam h q e.val) / 256 + eps

/-- The result. -/
def res (h q e : ℕ) : EReal := ((dif P T lam h q e * (√(msq P T lam h q))⁻¹ : ℝ) : EReal) * (g e * ((scale : ℝ) : EReal))

theorem den_pos (h c q : ℕ) : 0 < den P T h c q :=
  Finset.sum_pos (fun _ _ => Real.exp_pos _) ⟨0, Finset.mem_univ _⟩

theorem msq_pos (h q : ℕ) : 0 < msq P T lam h q :=
  add_pos_of_nonneg_of_pos (div_nonneg (Finset.sum_nonneg fun _ _ => mul_self_nonneg _) (by norm_num)) eps_pos

end Spec

/-! ## Extended reals that are real -/

theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

theorem exists_fold_max {n : ℕ} (hn : 0 < n) (f : Fin n → ℝ) :
    ∃ M : ℝ, Finset.fold max (⊥ : EReal) (fun k => ((f k : ℝ) : EReal)) Finset.univ = (M : EReal) := by
  obtain ⟨i, -, hi⟩ := Finset.exists_mem_eq_sup (Finset.univ : Finset (Fin n)) ⟨⟨0, hn⟩, Finset.mem_univ _⟩ (fun k => ((f k : ℝ) : EReal))
  exact ⟨f i, hi⟩

theorem coe_max' (a b : ℝ) : max (a : EReal) (b : EReal) = ((max a b : ℝ) : EReal) :=
  (EReal.coe_strictMono.monotone.map_max).symm

theorem div_real {x y : ℝ} (hy : y ≠ 0) : Ideal.div (x : EReal) (y : EReal) = ((x / y : ℝ) : EReal) := by
  rw [Ideal.div_coe hy, ← EReal.coe_mul, mul_one_div]

theorem rsqrt_real {x : ℝ} (hx : 0 < x) : Ideal.rsqrt (x : EReal) = (((√x)⁻¹ : ℝ) : EReal) := by
  rw [Ideal.rsqrt_coe, if_neg (not_lt.mpr hx.le), if_neg hx.ne']

theorem exists_real {x : EReal} (h : max x (-x) < ⊤) : ∃ r : ℝ, x = (r : EReal) := by
  cases x using EReal.rec with
  | bot => simp at h
  | top => simp at h
  | coe r => exact ⟨r, rfl⟩

/-! ## Key blocks -/

/-- A sum over all keys is the sum over blocks of the sums within. -/
theorem sum_blocks (f : ℕ → ℝ) : ∑ k : Fin 8192, f k.val = ∑ i ∈ Finset.range 16, ∑ k : Fin 512, f (512 * i + k.val) := by
  rw [Finset.sum_range]
  rw [← Fintype.sum_prod_type' (fun (i : Fin 16) (k : Fin 512) => f (512 * i.val + k.val))]
  exact (Equiv.sum_comp (finProdFinEquiv (m := 16) (n := 512)) (fun x : Fin (16 * 512) => f x.val)).symm.trans
    (Finset.sum_congr rfl fun x _ => congrArg f (by show x.2.val + 512 * x.1.val = _; omega))

/-- One more block, seen from the new maximum. -/
theorem rescale (s : Finset ℕ) (w l : ℕ → Fin 512 → ℝ) (M M' : ℝ) :
    (∑ i ∈ s, ∑ k : Fin 512, w i k * (2 : ℝ) ^ (l i k - M)) * (2 : ℝ) ^ (M - M')
      = ∑ i ∈ s, ∑ k : Fin 512, w i k * (2 : ℝ) ^ (l i k - M') := by
  rw [Finset.sum_mul]
  refine Finset.sum_congr rfl fun i _ => ?_
  rw [Finset.sum_mul]
  refine Finset.sum_congr rfl fun k _ => ?_
  rw [mul_assoc, ← Real.rpow_add two_pos]
  congr 2
  ring

/-- A power of two whose exponent is a logit over `log 2`. -/
theorem two_pow (z M : ℝ) : (2 : ℝ) ^ (z / Real.log 2 - M) = Real.exp z * (2 : ℝ) ^ (-M) := by
  rw [sub_eq_add_neg, Real.rpow_add two_pos]
  congr 1
  rw [Real.rpow_def_of_pos two_pos, mul_div_cancel₀ _ (Real.log_pos one_lt_two).ne']

end Cert.Attn
end
-- ==== Proof.KernelAt.lean ====
/- The attention kernel's rows at an index, as the real function of `Math.lean` where its blocks are real. -/
module

public import proofs.«01_k».proof.Proof.Steps
public import proofs.«01_k».proof.Proof.Math

@[expose] public section
set_option maxRecDepth 16384
noncomputable section
namespace Cert.KernelIdeal.Attn
open Cert.KernelIdeal Cert.KernelIdeal.Gen
open Idealize.ShloMosaic Idealize.ShloMosaic.TcCoe
open Cert.Attn

/-! ## The steps at an index -/

theorem logits_at (a : Vec Ideal S512x128 .bf16) (b : Vec Ideal S1x1x512x512 .f32) (d : Vec Ideal S512x128 .bf16) (k q : Fin 512) :
    k0_pay37 (k0_pay34 a) (k0_pay35 b) (k0_pay36 d) (ix3 (0 : Fin 1) k q)
      = ∑ x : Fin 128, d (ix2 k x) * a (ix2 q x) + b (ix4 (0 : Fin 1) (0 : Fin 1) k q) := by
  pointwise [k0_pay37, k0_pay34, k0_pay35, k0_pay36]

theorem max_at (L : Vec Ideal S1x512x512 .f32) (f : BitVec 1) (p : Vec Ideal S1x1x512 .f32) (q : Fin 512) :
    k0_pay44 (k0_pay40 L) f p (ix3 (0 : Fin 1) (0 : Fin 1) q)
      = max (Scalar.select f (⊥ : EReal) (p (ix3 (0 : Fin 1) (0 : Fin 1) q)))
          (Finset.fold max (⊥ : EReal) (fun k : Fin 512 => L (ix3 (0 : Fin 1) k q)) Finset.univ) := by
  pointwise [k0_pay44, k0_pay41, k0_pay42, k0_pay40]
  rw [bits_neg_inf, IdealRules.named_const.ideal_named_scalar κ "mask" _ ⊥ rfl]

theorem factor_at (L : Vec Ideal S1x512x512 .f32) (f : BitVec 1) (p : Vec Ideal S1x1x512 .f32) (q : Fin 512) :
    k0_pay43 (k0_pay40 L) f p (ix3 (0 : Fin 1) (0 : Fin 1) q)
      = Ideal.exp2 (Scalar.select f (⊥ : EReal) (p (ix3 (0 : Fin 1) (0 : Fin 1) q))
          - k0_pay44 (k0_pay40 L) f p (ix3 (0 : Fin 1) (0 : Fin 1) q)) := by
  pointwise [k0_pay43, k0_pay44, k0_pay41, k0_pay42, k0_pay40]
  rw [IdealRules.named_const.ideal_named_scalar κ "mask" _ ⊥ rfl]
  rfl

theorem power_at (L : Vec Ideal S1x512x512 .f32) (f : BitVec 1) (p : Vec Ideal S1x1x512 .f32) (k q : Fin 512) :
    k0_pay45 (k0_pay40 L) f p L (ix3 (0 : Fin 1) k q)
      = Ideal.exp2 (L (ix3 (0 : Fin 1) k q) - k0_pay44 (k0_pay40 L) f p (ix3 (0 : Fin 1) (0 : Fin 1) q)) := by
  pointwise [k0_pay45, k0_pay44, k0_pay41, k0_pay42, k0_pay40]
  rfl

theorem accum_at (a : Vec Ideal S1x272x512 .f32) (b : Vec Ideal S1x1x512 .f32) (v : Vec Ideal S1x272x512 .bf16) (p : Vec Ideal S1x512x512 .bf16)
    (e : Fin 272) (q : Fin 512) : k0_pay53 (k0_pay52 a b) v p (ix3 (0 : Fin 1) e q)
      = a (ix3 (0 : Fin 1) e q) * b (ix3 (0 : Fin 1) (0 : Fin 1) q) + ∑ k : Fin 512, v (ix3 (0 : Fin 1) e k) * p (ix3 (0 : Fin 1) k q) := by
  pointwise [k0_pay53, k0_pay52]

theorem mixing_at (a : Vec Ideal S4x128 .f32) : k0_pay31 a (ix2 (0 : Fin 1) (0 : Fin 1))
    = Ideal.exp (∑ x : Fin 128, a (ix2 (0 : Fin 4) x) * a (ix2 (1 : Fin 4) x)) - Ideal.exp (∑ x : Fin 128, a (ix2 (2 : Fin 4) x) * a (ix2 (3 : Fin 4) x))
      + Ideal.ofBits .f32 1052116297#32 := by
  pointwise [k0_pay31]

theorem rows_at (l : FVec Ideal S1x1 .f32) (n0 : Vec Ideal S1x256x512 .f32) (d0 : Vec Ideal S1x1x512 .f32) (n1 : Vec Ideal S1x256x512 .f32)
    (d1 : Vec Ideal S1x1x512 .f32) (g : Vec Ideal S256x1 .f32) (o : Fin 256 → EReal) (q : Fin 512) (e : Fin 256)
    (ho : ∀ x : Fin 256, n0 (ix3 (0 : Fin 1) x q) * Ideal.div 1 (d0 (ix3 (0 : Fin 1) (0 : Fin 1) q))
      - l (ix2 (0 : Fin 1) (0 : Fin 1)) * (n1 (ix3 (0 : Fin 1) x q) * Ideal.div 1 (d1 (ix3 (0 : Fin 1) (0 : Fin 1) q))) = o x) :
    k0_pay98 l (k0_pay32 n0) (k0_pay33 d0) n1 d1 g (ix2 q e)
      = o e * Ideal.rsqrt (Ideal.div (∑ x : Fin 256, o x * o x) (Ideal.ofBits .f32 1132462080#32) + Ideal.ofBits .f32 897988541#32)
        * (g (ix2 e (0 : Fin 1)) * Ideal.ofBits .f32 1059388764#32) := by
  pointwise [k0_pay98, k0_pay32, k0_pay33]
  simp only [ho]

theorem turned_at (a : Vec Ideal S512x256 .bf16) (e : Fin 256) (q : Fin 512) : k0_pay2 a (ix3 (0 : Fin 1) e q) = a (ix2 q e) := by
  pointwise [k0_pay2]

theorem ones_at (q : Fin 512) : k0_pay3 (F := Ideal) (ix3 (0 : Fin 1) (0 : Fin 16) q) = 1 := by
  pointwise [k0_pay3, k0_pay1]

/-! ## The online softmax of one query column -/

section Online
variable (L : ℕ → Vec Ideal S1x512x512 .f32) (v : ℕ → Vec Ideal S1x272x512 .bf16) (q : Fin 512) (e : Fin 272)
variable (n0 : ℕ) (l w : ℕ → ℕ → ℝ)

/-- After each step of a query tile the running maximum is real and the accumulator is the sum so far seen from it. -/
theorem online (h0 : n0 % 16 = 0)
    (hL : ∀ i < 16, ∀ k : Fin 512, L (n0 + i) (ix3 (0 : Fin 1) k q) = ((l i k.val : ℝ) : EReal))
    (hv : ∀ i < 16, ∀ k : Fin 512, v (n0 + i) (ix3 (0 : Fin 1) e k) = ((w i k.val : ℝ) : EReal)) :
    ∀ j < 16, ∃ M : ℝ, mx L (n0 + j) (ix3 (0 : Fin 1) (0 : Fin 1) q) = ((M : ℝ) : EReal)
      ∧ ac L v (n0 + j + 1) (ix3 (0 : Fin 1) e q)
        = ((∑ i ∈ Finset.range (j + 1), ∑ k : Fin 512, w i k.val * (2 : ℝ) ^ (l i k.val - M) : ℝ) : EReal) := by
  intro j
  induction j with
  | zero =>
    intro hj
    obtain ⟨M, hM⟩ := exists_fold_max (n := 512) (by decide) (fun k => l 0 k.val)
    have hmx : mx L (n0 + 0) (ix3 (0 : Fin 1) (0 : Fin 1) q) = ((M : ℝ) : EReal) := by
      rw [mx_eq, max_at, show firstBit (n0 + 0) = 1#1 from if_pos h0]
      simp only [hL 0 hj]
      rw [hM]
      exact max_eq_right bot_le
    refine ⟨M, hmx, ?_⟩
    have hf : firstBit (n0 + 0) = 1#1 := if_pos h0
    show k0_pay53 (k0_pay52 (ac L v (n0 + 0)) (al L (n0 + 0))) (v (n0 + 0)) (pr L (n0 + 0)) (ix3 (0 : Fin 1) e q) = _
    rw [accum_at]
    have hal : al L (n0 + 0) (ix3 (0 : Fin 1) (0 : Fin 1) q) = 0 := by
      show k0_pay43 _ _ _ _ = _
      rw [factor_at, ← mx_eq, hmx, hf]
      show Ideal.exp2 ((⊥ : EReal) - ((M : ℝ) : EReal)) = 0
      rfl
    have hpr (k : Fin 512) : pr L (n0 + 0) (ix3 (0 : Fin 1) k q) = (((2 : ℝ) ^ (l 0 k.val - M) : ℝ) : EReal) := by
      show k0_pay45 _ _ _ _ _ = _
      rw [power_at, ← mx_eq, hmx, hL 0 hj, ← EReal.coe_sub, Ideal.exp2_coe]
      rfl
    rw [hal, mul_zero, zero_add]
    simp only [hpr, hv 0 hj, ← EReal.coe_mul]
    rw [coe_sum, Finset.sum_range_one]
  | succ j ih =>
    intro hj
    obtain ⟨M, hM, hS⟩ := ih (by omega)
    obtain ⟨K, hK⟩ := exists_fold_max (n := 512) (by decide) (fun k => l (j + 1) k.val)
    have hf : firstBit (n0 + (j + 1)) = 0#1 := if_neg (by omega)
    have hprev : mxPrev L (n0 + (j + 1)) = mx L (n0 + j) := rfl
    have hmx : mx L (n0 + (j + 1)) (ix3 (0 : Fin 1) (0 : Fin 1) q) = ((max M K : ℝ) : EReal) := by
      rw [mx_eq, max_at, hf, hprev]
      simp only [hL (j + 1) hj]
      rw [hK, ← coe_max']
      exact congrArg (max · _) hM
    refine ⟨max M K, hmx, ?_⟩
    show k0_pay53 (k0_pay52 (ac L v (n0 + j + 1)) (al L (n0 + (j + 1)))) (v (n0 + (j + 1))) (pr L (n0 + (j + 1))) (ix3 (0 : Fin 1) e q) = _
    rw [accum_at, hS]
    have hal : al L (n0 + (j + 1)) (ix3 (0 : Fin 1) (0 : Fin 1) q) = (((2 : ℝ) ^ (M - max M K) : ℝ) : EReal) := by
      show k0_pay43 _ _ _ _ = _
      rw [factor_at, ← mx_eq, hmx, hf, hprev]
      show Ideal.exp2 (mx L (n0 + j) (ix3 (0 : Fin 1) (0 : Fin 1) q) - _) = _
      rw [hM, ← EReal.coe_sub, Ideal.exp2_coe]
      rfl
    have hpr (k : Fin 512) : pr L (n0 + (j + 1)) (ix3 (0 : Fin 1) k q) = (((2 : ℝ) ^ (l (j + 1) k.val - max M K) : ℝ) : EReal) := by
      show k0_pay45 _ _ _ _ _ = _
      rw [power_at, ← mx_eq, hmx, hL (j + 1) hj, ← EReal.coe_sub, Ideal.exp2_coe]
      rfl
    rw [hal]
    simp only [hpr, hv (j + 1) hj, ← EReal.coe_mul]
    rw [coe_sum, ← EReal.coe_add, rescale, Finset.sum_range_succ _ (j + 1)]

end Online

end Cert.KernelIdeal.Attn
end
-- ==== Proof.Tile.lean ====
/- One tile of output rows, as the real function of `Math.lean` where the point's blocks are real. -/
module

public import proofs.«01_k».proof.Proof.KernelAt
public import Idealize.ShloMosaic.Lib.Pipeline.ValueKit

@[expose] public section
set_option maxRecDepth 16384
noncomputable section
namespace Cert.KernelIdeal.Attn
open Cert.KernelIdeal Cert.KernelIdeal.Gen
open Idealize.ShloMosaic Idealize.ShloMosaic.TcCoe
open Cert.Attn

/-! ## Windows at an index -/

section Windows
variable {α : Type}

theorem qWin_at (x : S4096x256.Idx → α) (t : ℕ) (c : Fin 2) (q : Fin 512) (d : Fin 128) :
    qWin x t c (ix2 q d) = x (ix2 (⟨512 * (t % 8) + q.val, by omega⟩ : Fin 4096) (⟨128 * c.val + d.val, by omega⟩ : Fin 256)) := by
  unfold qWin VecWindow.window
  congr 1
  funext a
  refine Fin.ext ?_
  refine (ValueKit.rect_emb_unit_val _ _ _ _ a).trans ?_
  fin_cases a <;> simp

theorem kWin_at (x : S8192x256.Idx → α) (n : ℕ) (c : Fin 2) (k : Fin 512) (d : Fin 128) :
    kWin x n c (ix2 k d) = x (ix2 (⟨512 * (n % 16) + k.val, by omega⟩ : Fin 8192) (⟨128 * c.val + d.val, by omega⟩ : Fin 256)) := by
  unfold kWin VecWindow.window
  congr 1
  funext a
  refine Fin.ext ?_
  refine (ValueKit.rect_emb_unit_val _ _ _ _ a).trans ?_
  fin_cases a <;> simp

theorem bWin_at (x : S1x7x512x512.Idx → α) (r : ℕ) (k q : Fin 512) :
    bWin x r (ix4 (0 : Fin 1) (0 : Fin 1) k q) = x (ix4 (0 : Fin 1) (⟨min 6 r, by omega⟩ : Fin 7) k q) := by
  unfold bWin VecWindow.window
  congr 1
  funext a
  refine Fin.ext ?_
  refine (ValueKit.rect_emb_unit_val _ _ _ _ a).trans ?_
  fin_cases a <;> simp

theorem vWin_at (x : S16x272x512.Idx → α) (n : ℕ) (e : Fin 272) (k : Fin 512) :
    vWin x n (ix3 (0 : Fin 1) e k) = x (ix3 (⟨n % 16, by omega⟩ : Fin 16) e k) := by
  unfold vWin VecWindow.window
  congr 1
  funext a
  refine Fin.ext ?_
  refine (ValueKit.rect_emb_unit_val _ _ _ _ a).trans ?_
  fin_cases a <;> simp

theorem rowWin_at (x : S8192x256.Idx → Elt Ideal .bf16) (n : ℕ) (hn : n < 16) (k : Fin 512) (e : Fin 256) :
    rowWin x n hn (ix2 k e) = x (ix2 (⟨512 * n + k.val, by omega⟩ : Fin 8192) e) := by
  unfold rowWin VecWindow.window
  congr 1
  funext a
  refine Fin.ext ?_
  refine (ValueKit.rect_emb_unit_val _ _ _ _ a).trans ?_
  fin_cases a <;> simp

theorem numWin_at (x : S1x272x512.Idx → α) (e : Fin 256) (q : Fin 512) :
    numWin x (ix3 (0 : Fin 1) e q) = x (ix3 (0 : Fin 1) (⟨e.val, by omega⟩ : Fin 272) q) := by
  unfold numWin VecWindow.window
  congr 1
  funext a
  refine Fin.ext ?_
  refine (ValueKit.rect_emb_unit_val _ _ _ _ a).trans ?_
  fin_cases a <;> simp

theorem denWin_at (x : S1x272x512.Idx → α) (q : Fin 512) :
    denWin x (ix3 (0 : Fin 1) (0 : Fin 1) q) = x (ix3 (0 : Fin 1) (⟨256, by decide⟩ : Fin 272) q) := by
  unfold denWin VecWindow.window
  congr 1
  funext a
  refine Fin.ext ?_
  refine (ValueKit.rect_emb_unit_val _ _ _ _ a).trans ?_
  fin_cases a <;> simp

end Windows

section Fill
variable (X4 : S8192x256.Idx → Elt Ideal .bf16)

theorem fill_value (i : Fin 16) (e : Fin 256) (k : Fin 512) :
    fill X4 (ix3 i (⟨e.val, by omega⟩ : Fin 272) k) = X4 (ix2 (⟨512 * i.val + k.val, by omega⟩ : Fin 8192) e) := by
  refine (dif_pos (show e.val < 256 from e.isLt)).trans ?_
  exact (turned_at _ e k).trans (rowWin_at X4 i.val i.isLt k e)

theorem fill_one (i : Fin 16) (k : Fin 512) : fill X4 (ix3 i (⟨256, by decide⟩ : Fin 272) k) = 1 := by
  refine (dif_neg (show ¬ 256 < 256 by decide)).trans ?_
  exact ones_at k

end Fill

/-! ## The tile -/

section Tile
variable (P : ℕ → ℕ → ℝ) (T : ℕ → ℕ → ℕ → ℕ → ℝ) (lam : ℝ) (g : ℕ → EReal) (h j : ℕ)
variable (X2 : S4096x256.Idx → Elt Ideal .bf16) (X3 X4 : S8192x256.Idx → Elt Ideal .bf16) (X5 : S1x7x512x512.Idx → Elt Ideal .f32)
variable (X6 : Vec Ideal S4x128 .f32) (X7 : Vec Ideal S256x1 .f32)
variable (h2 : ∀ (a : Fin 4096) (b : Fin 256), X2 (ix2 a b) = ((P (4096 * j + a.val) (h * 256 + b.val) * (1 / Real.log 2 / √128) : ℝ) : EReal))
variable (h3 : ∀ (a : Fin 8192) (b : Fin 256), X3 (ix2 a b) = ((P a.val (2048 + (h * 256 + b.val)) : ℝ) : EReal))
variable (h4 : ∀ (a : Fin 8192) (b : Fin 256), X4 (ix2 a b) = ((P a.val (4096 + (h * 256 + b.val)) : ℝ) : EReal))
variable (h5 : ∀ (r : Fin 7) (k q : Fin 512), X5 (ix4 (0 : Fin 1) r k q) = ((T h r.val k.val q.val * (1 / Real.log 2) : ℝ) : EReal))
variable (h6 : k0_pay31 X6 (ix2 (0 : Fin 1) (0 : Fin 1)) = ((lam : ℝ) : EReal))
variable (h7 : ∀ e : Fin 256, X7 (ix2 e (0 : Fin 1)) = g e.val)

include h2 h3 h5 in
/-- The logits of a tile, over `log 2`. -/
theorem lg_real (c : Fin 2) (t : ℕ) (ht : t < 8) (i : ℕ) (hi : i < 16) (k q : Fin 512) :
    lg j X2 X3 X5 c (16 * t + i) (ix3 (0 : Fin 1) k q)
      = ((logit P T h c.val (4096 * j + 512 * t + q.val) (512 * i + k.val) / Real.log 2 : ℝ) : EReal) := by
  unfold lg
  rw [logits_at, bWin_at, h5]
  simp only [qWin_at, kWin_at, h2, h3, ← EReal.coe_mul]
  rw [coe_sum, ← EReal.coe_add]
  congr 1
  have e1 : (16 * t + i) / 16 % 8 = t := by omega
  have e2 : (16 * t + i) % 16 = i := by omega
  have e3 : (512 * i + k.val) / 512 = i := by omega
  have e4 : (512 * i + k.val) % 512 = k.val := by omega
  have e5 : (4096 * j + 512 * t + q.val) / 512 = 8 * j + t := by omega
  have e6 : (4096 * j + 512 * t + q.val) % 512 = q.val := by omega
  have e7 : min 6 (relTile i (8 * j + t)) = rel i (8 * j + t) := by unfold relTile rel; omega
  unfold logit
  rw [e1, e2, e3, e4, e5, e6, e7, add_div, div_div]
  simp only [Finset.sum_div]
  congr 1
  · refine Finset.sum_congr rfl fun d _ => ?_
    rw [show h * 256 + (128 * c.val + d.val) = h * 256 + c.val * 128 + d.val by omega, show 4096 * j + (512 * t + q.val) = 4096 * j + 512 * t + q.val by omega]
    ring
  · ring

include h2 h3 h4 h5 in
/-- A component's accumulator after a tile: numerators and denominator up to one common factor. -/
theorem acc_real (c : Fin 2) (t : ℕ) (ht : t < 8) (q : Fin 512) : ∃ s : ℝ, 0 < s
    ∧ (∀ e : Fin 256, acc j X2 X3 X5 (fill X4) c (16 * t + 16) (ix3 (0 : Fin 1) (⟨e.val, by omega⟩ : Fin 272) q)
      = ((num P T h c.val (4096 * j + 512 * t + q.val) e.val * s : ℝ) : EReal))
    ∧ acc j X2 X3 X5 (fill X4) c (16 * t + 16) (ix3 (0 : Fin 1) (⟨256, by decide⟩ : Fin 272) q)
      = ((den P T h c.val (4096 * j + 512 * t + q.val) * s : ℝ) : EReal) := by
  have hL : ∀ i < 16, ∀ k : Fin 512, lg j X2 X3 X5 c (16 * t + i) (ix3 (0 : Fin 1) k q)
      = ((logit P T h c.val (4096 * j + 512 * t + q.val) (512 * i + k.val) / Real.log 2 : ℝ) : EReal) :=
    fun i hi k => lg_real P T h j X2 X3 X5 h2 h3 h5 c t ht i hi k q
  have hn (i : ℕ) (hi : i < 16) : (⟨(16 * t + i) % 16, by omega⟩ : Fin 16) = ⟨i, hi⟩ := Fin.ext (by show (16 * t + i) % 16 = i; omega)
  obtain ⟨M, hM, hd⟩ := online (lg j X2 X3 X5 c) (vWin (fill X4)) q (⟨256, by decide⟩ : Fin 272) (16 * t)
    (fun i k => logit P T h c.val (4096 * j + 512 * t + q.val) (512 * i + k) / Real.log 2) (fun _ _ => 1) (by omega) hL
    (fun i hi k => by rw [vWin_at, hn i hi, fill_one]; rfl) 15 (by decide)
  refine ⟨(2 : ℝ) ^ (-M), Real.rpow_pos_of_pos two_pos _, fun e => ?_, ?_⟩
  · obtain ⟨M', hM', hs⟩ := online (lg j X2 X3 X5 c) (vWin (fill X4)) q (⟨e.val, by omega⟩ : Fin 272) (16 * t)
      (fun i k => logit P T h c.val (4096 * j + 512 * t + q.val) (512 * i + k) / Real.log 2)
      (fun i k => P (512 * i + k) (4096 + (h * 256 + e.val))) (by omega) hL
      (fun i hi k => by rw [vWin_at, hn i hi, fill_value, h4]) 15 (by decide)
    obtain rfl : M' = M := EReal.coe_injective (hM'.symm.trans hM)
    refine hs.trans (congrArg _ ?_)
    simp only [two_pow]
    unfold num
    rw [sum_blocks (fun k => P k (4096 + (h * 256 + e.val)) * Real.exp (logit P T h c.val (4096 * j + 512 * t + q.val) k)), Finset.sum_mul]
    refine Finset.sum_congr rfl fun i _ => ?_
    rw [Finset.sum_mul]
    exact Finset.sum_congr rfl fun k _ => (mul_assoc _ _ _).symm
  · refine hd.trans (congrArg _ ?_)
    simp only [two_pow]
    unfold den
    rw [sum_blocks (fun k => Real.exp (logit P T h c.val (4096 * j + 512 * t + q.val) k)), Finset.sum_mul]
    refine Finset.sum_congr rfl fun i _ => ?_
    rw [Finset.sum_mul]
    exact Finset.sum_congr rfl fun k _ => one_mul _

include h2 h3 h4 h5 h6 h7 in
theorem tile_real (t : ℕ) (ht : t < 8) (q : Fin 512) (e : Fin 256) : tileOut j X2 X3 X5 X6 X7 (fill X4) t (ix2 q e)
    = res P T lam g h (4096 * j + 512 * t + q.val) e.val := by
  obtain ⟨s0, hs0, hn0, hd0⟩ := acc_real P T h j X2 X3 X4 X5 h2 h3 h4 h5 0 t ht q
  obtain ⟨s1, hs1, hn1, hd1⟩ := acc_real P T h j X2 X3 X4 X5 h2 h3 h4 h5 1 t ht q
  have p0 : 0 < den P T h (0 : Fin 2).val (4096 * j + 512 * t + q.val) := den_pos P T _ _ _
  have p1 : 0 < den P T h (1 : Fin 2).val (4096 * j + 512 * t + q.val) := den_pos P T _ _ _
  have inv (x : ℝ) (hx : 0 < x) : Ideal.div (1 : EReal) ((x : ℝ) : EReal) = ((1 / x : ℝ) : EReal) := div_real (x := 1) hx.ne'
  unfold tileOut
  rw [rows_at _ _ _ _ _ _ (fun x : Fin 256 => ((dif P T lam h (4096 * j + 512 * t + q.val) x.val : ℝ) : EReal)) q e ?_]
  · simp only [h7, ← EReal.coe_mul]
    rw [coe_sum, bits_256, bits_eps, bits_scale, div_real (by norm_num), ← EReal.coe_add,
      show (∑ i : Fin 256, dif P T lam h (4096 * j + 512 * t + q.val) i.val * dif P T lam h (4096 * j + 512 * t + q.val) i.val) / 256 + eps
        = msq P T lam h (4096 * j + 512 * t + q.val) from rfl,
      rsqrt_real (msq_pos P T lam _ _), ← EReal.coe_mul]
    rfl
  · intro x
    rw [numWin_at, denWin_at, numWin_at, denWin_at, hn0, hd0, hn1, hd1, h6, inv _ (mul_pos p0 hs0), inv _ (mul_pos p1 hs1)]
    simp only [← EReal.coe_mul, ← EReal.coe_sub]
    congr 1
    unfold dif
    simp only [Fin.val_zero, Fin.val_one] at p0 p1 ⊢
    have a0 := p0.ne'; have a1 := p1.ne'; have b0 := hs0.ne'; have b1 := hs1.ne'
    field_simp

end Tile
end Cert.KernelIdeal.Attn
end
-- ==== Proof.Result.lean ====
/- The array the idealized kernel leaves, where its arguments but the gains are real: the function of `Math.lean`, entry by entry. -/
module

public import proofs.«01_k».proof.Proof.Run
public import proofs.«01_k».proof.Proof.Tile
public import Idealize.ShloMosaic.Lib.Claim
import Idealize.ShloMosaic.Lib.StableHlo.RunRead

@[expose] public section

set_option maxRecDepth 16384

noncomputable section

namespace Cert.KernelIdeal.Attn
open Cert.KernelIdeal Cert.KernelIdeal.Gen
open Idealize.ShloMosaic Idealize.ShloMosaic.TcCoe Idealize.ShloMosaic.StableHlo
open Cert.Attn

variable (m : (ℓ : Loc nD τ sig) → Buf (Elt Ideal) ℓ)

/-! ## The host's arrays -/

abbrev arg0 (c : Dev nD) : S8192x6144.Idx → EReal := m (c, Proc.tc.devRef main_arg0)
abbrev arg1 (c : Dev nD) : S8x7x512x512.Idx → EReal := m (c, Proc.tc.devRef main_arg1)
abbrev arg2 (c : Dev nD) : S128.Idx → EReal := m (c, Proc.tc.devRef main_arg2)
abbrev arg3 (c : Dev nD) : S128.Idx → EReal := m (c, Proc.tc.devRef main_arg3)
abbrev arg4 (c : Dev nD) : S128.Idx → EReal := m (c, Proc.tc.devRef main_arg4)
abbrev arg5 (c : Dev nD) : S128.Idx → EReal := m (c, Proc.tc.devRef main_arg5)
abbrev arg6 (c : Dev nD) : S256.Idx → EReal := m (c, Proc.tc.devRef main_arg6)

/-- The factor on the logits, `1 / log 2`, as the host computes it. -/
theorem log2_e : Ideal.div (1 : EReal) (Ideal.log (Ideal.ofBits .f32 1073741824#32)) = ((1 / Real.log 2 : ℝ) : EReal) := by
  rw [bits_two, Ideal.log_coe, if_neg (by norm_num)]
  exact div_real (x := 1) (Real.log_pos (by norm_num)).ne'

theorem log2_e_scaled : Ideal.div (Ideal.div (1 : EReal) (Ideal.log (Ideal.ofBits .f32 1073741824#32))) (Ideal.sqrt (Ideal.ofBits .f32 1124073472#32))
    = ((1 / Real.log 2 / √128 : ℝ) : EReal) := by
  rw [log2_e, bits_128, Ideal.sqrt_coe, if_neg (by norm_num)]
  exact div_real (Real.sqrt_pos.2 (by norm_num)).ne'

theorem v9_at (c : Dev nD) (a : Fin 8192) (b : Fin 6144) : V m c main_v9 (ix2 a b)
    = arg0 m c (ix2 a b) * (if b.val < 2048 then ((1 / Real.log 2 / √128 : ℝ) : EReal) else 1) := by
  rw [← log2_e_scaled]
  entry_read
  pointwise
  simp only [dite_eq_ite]

theorem v11_at (c : Dev nD) (h : Fin 8) (r : Fin 7) (i j : Fin 512) : V m c main_v11 (ix4 h r i j)
    = arg1 m c (ix4 h r i j) * ((1 / Real.log 2 : ℝ) : EReal) := by
  rw [← log2_e]
  entry_read
  pointwise

theorem v17_at (c : Dev nD) (e : Fin 256) : V m c main_v17 (ix2 e (0 : Fin 1)) = arg6 m c (ix1 e) := by
  entry_read
  pointwise

theorem concat4 {a a' b b' d d' e e' : S1x128.Idx → EReal} (h) (ha : a = a') (hb : b = b') (hd : d = d') (he : e = e') :
    concatenate S4x128 0 [⟨S1x128, a⟩, ⟨S1x128, b⟩, ⟨S1x128, d⟩, ⟨S1x128, e⟩] h
      = concatenate S4x128 0 [⟨S1x128, a'⟩, ⟨S1x128, b'⟩, ⟨S1x128, d'⟩, ⟨S1x128, e'⟩] h := by
  subst ha hb hd he
  rfl

theorem v16_at (c : Dev nD) (r : Fin 4) (i : Fin 128) : V m c main_v16 (ix2 r i)
    = if r.val < 1 then arg2 m c (ix1 i) else if r.val - 1 < 1 then arg3 m c (ix1 i)
      else if r.val - 1 - 1 < 1 then arg4 m c (ix1 i) else arg5 m c (ix1 i) := by
  have e : V m c main_v16 = concatenate S4x128 0 [⟨S1x128, broadcastInDim S1x128 ![1] bcast_S128_S1x128_1 (arg2 m c)⟩,
      ⟨S1x128, broadcastInDim S1x128 ![1] bcast_S128_S1x128_1 (arg3 m c)⟩,
      ⟨S1x128, broadcastInDim S1x128 ![1] bcast_S128_S1x128_1 (arg4 m c)⟩,
      ⟨S1x128, broadcastInDim S1x128 ![1] bcast_S128_S1x128_1 (arg5 m c)⟩]
      concatenates_S1x128_S1x128_S1x128_S1x128_S4x128_d0 := by
    unfold V
    unfold Gen.hostOps0
    after_results
    refine concat4 _ ?_ ?_ ?_ ?_
    · show HloOp.result _ _ (Proc.tc.devRef main_v12) = _
      after_results_simp
    · show HloOp.result _ _ (Proc.tc.devRef main_v13) = _
      after_results_simp
    · show HloOp.result _ _ (Proc.tc.devRef main_v14) = _
      after_results_simp
    · show HloOp.result _ _ (Proc.tc.devRef main_v15) = _
      after_results_simp
  rw [e]
  pointwise
  simp only [dite_eq_ite]

/-! ## The blocks of a point -/

theorem idx : ∀ t : Fin cfg0.N, win0_0.index t = ![t.val % 2, t.val / 2] ∧ win0_1.index t = ![0, 8 + t.val / 2] ∧ win0_2.index t = ![0, 16 + t.val / 2]
    ∧ win0_3.index t = ![t.val / 2, 0, 0, 0] ∧ win0_4.index t = ![0, 0] ∧ win0_5.index t = ![0, 0] ∧ win0_6.index t = ![t.val % 2, t.val / 2]
    ∧ ((grid0.coords t) 1).val = t.val % 2 ∧ t.val < 16 :=
  (by decide +kernel : ∀ t : Fin grid0.N, _)

theorem block0 (c : Dev nD) (t : Fin cfg0.N) (i : Fin 4096) (j : Fin 256) :
    ∃ h1 h2, iblk m c 0 t (ix2 i j) = V m c main_v9 (ix2 (⟨4096 * (t.val % 2) + i.val, h1⟩ : Fin 8192) (⟨t.val / 2 * 256 + j.val, h2⟩ : Fin 6144)) := by
  obtain ⟨i0, i1, i2, i3, i4, i5, i6, i7, i8⟩ := idx t
  refine ⟨by omega, by omega, ?_⟩
  blk_ext [iblk, V, i0]

theorem block1 (c : Dev nD) (t : Fin cfg0.N) (i : Fin 8192) (j : Fin 256) :
    ∃ h2, iblk m c 1 t (ix2 i j) = V m c main_v9 (ix2 i (⟨2048 + (t.val / 2 * 256 + j.val), h2⟩ : Fin 6144)) := by
  obtain ⟨i0, i1, i2, i3, i4, i5, i6, i7, i8⟩ := idx t
  refine ⟨by omega, ?_⟩
  blk_ext [iblk, V, i1]

theorem block2 (c : Dev nD) (t : Fin cfg0.N) (i : Fin 8192) (j : Fin 256) :
    ∃ h2, iblk m c 2 t (ix2 i j) = V m c main_v9 (ix2 i (⟨4096 + (t.val / 2 * 256 + j.val), h2⟩ : Fin 6144)) := by
  obtain ⟨i0, i1, i2, i3, i4, i5, i6, i7, i8⟩ := idx t
  refine ⟨by omega, ?_⟩
  blk_ext [iblk, V, i2]

theorem block3 (c : Dev nD) (t : Fin cfg0.N) (r : Fin 7) (k q : Fin 512) :
    ∃ h1, iblk m c 3 t (ix4 (0 : Fin 1) r k q) = V m c main_v11 (ix4 (⟨t.val / 2, h1⟩ : Fin 8) r k q) := by
  obtain ⟨i0, i1, i2, i3, i4, i5, i6, i7, i8⟩ := idx t
  refine ⟨by omega, ?_⟩
  blk_ext [iblk, V, i3]

theorem block4 (c : Dev nD) (t : Fin cfg0.N) (r : Fin 4) (i : Fin 128) : iblk m c 4 t (ix2 r i) = V m c main_v16 (ix2 r i) := by
  obtain ⟨i0, i1, i2, i3, i4, i5, i6, i7, i8⟩ := idx t
  blk_ext [iblk, V, i4]

theorem block5 (c : Dev nD) (t : Fin cfg0.N) (e : Fin 256) : iblk m c 5 t (ix2 e (0 : Fin 1)) = V m c main_v17 (ix2 e (0 : Fin 1)) := by
  obtain ⟨i0, i1, i2, i3, i4, i5, i6, i7, i8⟩ := idx t
  blk_ext [iblk, V, i5]

/-- The factor of the second softmax, from the four vectors. -/
theorem block_mixing (c : Dev nD) (t : Fin cfg0.N) : k0_pay31 (iblk m c 4 t) (ix2 (0 : Fin 1) (0 : Fin 1))
    = Ideal.exp (∑ x : Fin 128, arg2 m c (ix1 x) * arg3 m c (ix1 x))
      - Ideal.exp (∑ x : Fin 128, arg4 m c (ix1 x) * arg5 m c (ix1 x)) + Ideal.ofBits .f32 1052116297#32 := by
  have r0 (x : Fin 128) : iblk m c 4 t (ix2 (0 : Fin 4) x) = arg2 m c (ix1 x) := by
    rw [block4, v16_at, if_pos (by decide)]
  have r1 (x : Fin 128) : iblk m c 4 t (ix2 (1 : Fin 4) x) = arg3 m c (ix1 x) := by
    rw [block4, v16_at, if_neg (by decide), if_pos (by decide)]
  have r2 (x : Fin 128) : iblk m c 4 t (ix2 (2 : Fin 4) x) = arg4 m c (ix1 x) := by
    rw [block4, v16_at, if_neg (by decide), if_neg (by decide), if_pos (by decide)]
  have r3 (x : Fin 128) : iblk m c 4 t (ix2 (3 : Fin 4) x) = arg5 m c (ix1 x) := by
    rw [block4, v16_at, if_neg (by decide), if_neg (by decide), if_neg (by decide)]
  refine (mixing_at _).trans ?_
  simp only [r0, r1, r2, r3]

/-! ## The output -/

section Real
variable (c : Dev nD) (P : ℕ → ℕ → ℝ) (T : ℕ → ℕ → ℕ → ℕ → ℝ) (lam : ℝ) (g : ℕ → EReal)
variable (h0 : ∀ (a : Fin 8192) (b : Fin 6144), arg0 m c (ix2 a b) = ((P a.val b.val : ℝ) : EReal))
variable (h1 : ∀ (h : Fin 8) (r : Fin 7) (i j : Fin 512), arg1 m c (ix4 h r i j) = ((T h.val r.val i.val j.val : ℝ) : EReal))
variable (hl : Ideal.exp (∑ x : Fin 128, arg2 m c (ix1 x) * arg3 m c (ix1 x))
    - Ideal.exp (∑ x : Fin 128, arg4 m c (ix1 x) * arg5 m c (ix1 x))
    + Ideal.ofBits .f32 1052116297#32 = ((lam : ℝ) : EReal))
variable (h6 : ∀ e : Fin 256, arg6 m c (ix1 e) = g e.val)

include h0 h1 hl h6 in
/-- What a point leaves in its block of the output. -/
theorem outAt_real (t : Fin cfg0.N) (q : Fin 4096) (e : Fin 256) : outAt m c t (ix2 q e)
    = res P T lam g (t.val / 2) (4096 * (t.val % 2) + q.val) e.val := by
  obtain ⟨i0, i1, i2, i3, i4, i5, i6, i7, i8⟩ := idx t
  have k := tile_real P T lam g (t.val / 2) (t.val % 2) (iblk m c 0 t) (iblk m c 1 t) (iblk m c 2 t) (iblk m c 3 t) (iblk m c 4 t) (iblk m c 5 t)
    (by
      intro a b
      obtain ⟨x1, x2, hx⟩ := block0 m c t a b
      rw [hx, v9_at, h0, if_pos (show t.val / 2 * 256 + b.val < 2048 by omega), ← EReal.coe_mul])
    (by
      intro a b
      obtain ⟨x2, hx⟩ := block1 m c t a b
      rw [hx, v9_at, h0, if_neg (show ¬ (2048 + (t.val / 2 * 256 + b.val) < 2048) by omega), mul_one])
    (by
      intro a b
      obtain ⟨x2, hx⟩ := block2 m c t a b
      rw [hx, v9_at, h0, if_neg (show ¬ (4096 + (t.val / 2 * 256 + b.val) < 2048) by omega), mul_one])
    (by
      intro r k q
      obtain ⟨x1, hx⟩ := block3 m c t r k q
      rw [hx, v11_at, h1, ← EReal.coe_mul])
    ((block_mixing m c t).trans hl)
    (by
      intro e
      rw [block5, v17_at, h6])
    (q.val / 512) (by omega) (⟨q.val % 512, by omega⟩ : Fin 512) e
  unfold outAt outBlock
  rw [i7]
  refine k.trans ?_
  congr 1
  show 4096 * (t.val % 2) + 512 * (q.val / 512) + q.val % 512 = _
  omega

/-- The output. -/
def realOut : FVec Ideal S8192x2048 .bf16 := fun y => res P T lam g ((y 1).val / 256) (y 0).val ((y 1).val % 256)

include h0 h1 hl h6 in
theorem final : (dats m 0 c).arrAt 6 (cfgs 0).N = realOut P T lam g := by
  refine (dats m 0 c).arrAt_eq_of_covers 6 _ (by decide +kernel) fun t _ y => ?_
  obtain ⟨i0, i1, i2, i3, i4, i5, i6, i7, i8⟩ := idx t
  blk_simp
  rw [after0_6]
  have b1 : (y 1).val < 256 := (y 1).isLt
  have e : (win0_6.blk t).view.emb y = ix2 (⟨4096 * (t.val % 2) + (y 0).val, by have : (y 0).val < 4096 := (y 0).isLt; omega⟩ : Fin 8192)
      (⟨256 * (t.val / 2) + (y 1).val, by omega⟩ : Fin 2048) := by
    blk_ext [i6]
  have y2 : y = ix2 (y 0) (y 1) := by
    funext a
    fin_cases a <;> rfl
  rw [e]
  refine (congrArg (outAt m c t) y2).trans ((outAt_real m c P T lam g h0 h1 hl h6 t (y 0) (y 1)).trans ?_)
  show res P T lam g (t.val / 2) (4096 * (t.val % 2) + (y 0).val) (y 1).val
    = res P T lam g ((256 * (t.val / 2) + (y 1).val) / 256) (4096 * (t.val % 2) + (y 0).val) ((256 * (t.val / 2) + (y 1).val) % 256)
  congr 1 <;> omega

end Real
end Cert.KernelIdeal.Attn

end
-- ==== Proof.RefParts.lean ====
/- The reference's result in the pieces its text falls into: the bias, the logits, their exponentials, the softmax, the
   mixing factor, the difference of attentions, the normalised result. -/
module

public import proofs.«01_k».proof.Proof.Gen.ReferenceIdeal.Run
public import Idealize.ShloMosaic.Lib.Pointwise

@[expose] public section
noncomputable section
namespace Cert.ReferenceIdeal.Attn
open Cert.ReferenceIdeal Cert.ReferenceIdeal.Gen Idealize.ShloMosaic Idealize.ShloMosaic.TcCoe

/-- Relative position of key block (first axis) and query block, held within 3 and counted from 0. -/
def clipped : IVec S16x16 32 :=
  addi (minsi (broadcastInDim S16x16 ![] bcast_S_S16x16 (id (constantI S_ 32 3#32))) (maxsi (broadcastInDim S16x16 ![] bcast_S_S16x16 (id (constantI S_ 32 4294967293#32))) (subi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0)))))) (broadcastInDim S16x16 ![] bcast_S_S16x16 (constantI S_ 32 3#32))

/-- The same as start indices. -/
def tileIdx : IVec S16x16x1 32 :=
  broadcastInDim S16x16x1 ![0, 1] bcast_S16x16_S16x16x1_0_1 (select (cmpi .slt clipped (broadcastInDim S16x16 ![] bcast_S_S16x16 (constantI S_ 32 0#32))) (addi clipped (broadcastInDim S16x16 ![] bcast_S_S16x16 (constantI S_ 32 7#32))) clipped)

/-- Per head the bias of every query and key. -/
def bias (A1 : FVec Ideal S8x7x512x512 .f32) : FVec Ideal S8x8192x8192 .f32 :=
  shapeCast _ (transpose S8x16x512x16x512 [0, 2, 4, 1, 3] (Host.gather gather_S8x7x512x512_S16x16x1_S8x16x16x512x512_034_1_n_n_1_2_81512512 A1 tileIdx) transposes_S8x16x16x512x512_S8x16x512x16x512_0_2_4_1_3) shapeCasts_S8x16x512x16x512_S8x8192x8192

/-- The logits. -/
def logits (A0 : FVec Ideal S8192x6144 .f32) (B : FVec Ideal S8x8192x8192 .f32) : FVec Ideal S8x2x8192x8192 .f32 :=
  addf (Host.divf (Host.dotGeneral dot_S8192x8x2x128_S8192x8x2x128_S8x2x8192x8192_3_3_0_0_12_12 none (shapeCast _ (extractStridedSlice S8192x2048 ![0, 0] A0 slices_S8192x6144_S8192x2048_0_0) shapeCasts_S8192x2048_S8192x8x2x128) (shapeCast _ (extractStridedSlice S8192x2048 ![0, 2048] A0 slices_S8192x6144_S8192x2048_0_2048) shapeCasts_S8192x2048_S8192x8x2x128)) (broadcastInDim S8x2x8192x8192 ![] bcast_S_S8x2x8192x8192 (Host.sqrt (constant S_ .f32 0x43000000#32)))) (broadcastInDim S8x2x8192x8192 ![0, 1, 2, 3] bcast_S8x1x8192x8192_S8x2x8192x8192_0_1_2_3 (broadcastInDim S8x1x8192x8192 ![0, 2, 3] bcast_S8x8192x8192_S8x1x8192x8192_0_2_3 B))

/-- Each row's largest. -/
def rowMax (Z : FVec Ideal S8x2x8192x8192 .f32) : FVec Ideal S8x2x8192 .f32 :=
  Host.reduce FloatOps.maximumf Z (constant S_ .f32 0xFF800000#32) reducesTo_S8x2x8192x8192_S8x2x8192_d3 h_S_

/-- The exponentials of the logits less each row's largest. -/
def expo (Z : FVec Ideal S8x2x8192x8192 .f32) (M : FVec Ideal S8x2x8192 .f32) : FVec Ideal S8x2x8192x8192 .f32 :=
  Host.exp (subf Z (broadcastInDim S8x2x8192x8192 ![0, 1, 2, 3] bcast_S8x2x8192x1_S8x2x8192x8192_0_1_2_3 (broadcastInDim S8x2x8192x1 ![0, 1, 2] bcast_S8x2x8192_S8x2x8192x1_0_1_2 (maximumf (broadcastInDim S8x2x8192 ![] bcast_S_S8x2x8192 (constant S_ .f32 0xFF800000#32)) M))))

/-- Each row over its sum. -/
def softm (E : FVec Ideal S8x2x8192x8192 .f32) : FVec Ideal S8x2x8192x8192 .f32 :=
  Host.divf E (broadcastInDim S8x2x8192x8192 ![0, 1, 2, 3] bcast_S8x2x8192x1_S8x2x8192x8192_0_1_2_3 (broadcastInDim S8x2x8192x1 ![0, 1, 2] bcast_S8x2x8192_S8x2x8192x1_0_1_2 (Host.reduceAdd E (constant S_ .f32 0x00000000#32) reducesTo_S8x2x8192x8192_S8x2x8192_d3 h_S_)))

/-- The mixing factor. -/
def mixing (A2 A3 A4 A5 : FVec Ideal S128 .f32) : FVec Ideal S_ .f32 :=
  addf (subf (Host.exp (Host.reduceAdd (mulf A2 A3) (constant S_ .f32 0x00000000#32) reducesTo_S128_S_d0 h_S_)) (Host.exp (Host.reduceAdd (mulf A4 A5) (constant S_ .f32 0x00000000#32) reducesTo_S128_S_d0 h_S_))) (constant S_ .f32 0x3EB60549#32)

/-- The values under the difference of the two softmaxes. -/
def attend (A0 : FVec Ideal S8192x6144 .f32) (P : FVec Ideal S8x2x8192x8192 .f32) (l : FVec Ideal S_ .f32) : FVec Ideal S8192x8x256 .f32 :=
  transpose S8192x8x256 [2, 0, 1] (Host.dotGeneral dot_S8192x8x256_S8x8192x8192_S8x256x8192_0_2_2_1_1_0 none (shapeCast _ (extractStridedSlice S8192x2048 ![0, 4096] A0 slices_S8192x6144_S8192x2048_0_4096) shapeCasts_S8192x2048_S8192x8x256) (subf (shapeCast _ (extractStridedSlice S8x1x8192x8192 ![0, 0, 0, 0] P slices_S8x2x8192x8192_S8x1x8192x8192_0_0_0_0) shapeCasts_S8x1x8192x8192_S8x8192x8192) (mulf (broadcastInDim S8x8192x8192 ![] bcast_S_S8x8192x8192 l) (shapeCast _ (extractStridedSlice S8x1x8192x8192 ![0, 1, 0, 0] P slices_S8x2x8192x8192_S8x1x8192x8192_0_1_0_0) shapeCasts_S8x1x8192x8192_S8x8192x8192)))) transposes_S8x256x8192_S8192x8x256_2_0_1

/-- Normalised and scaled. -/
def normed (O : FVec Ideal S8192x8x256 .f32) (A6 : FVec Ideal S256 .f32) : FVec Ideal S8192x2048 .bf16 :=
  truncf .bf16 (shapeCast _ (mulf (mulf (mulf O (broadcastInDim S8192x8x256 ![0, 1, 2] bcast_S8192x8x1_S8192x8x256_0_1_2 (Host.rsqrt (addf (Host.divf (broadcastInDim S8192x8x1 ![0, 1] bcast_S8192x8_S8192x8x1_0_1 (Host.reduceAdd (mulf O O) (constant S_ .f32 0x00000000#32) reducesTo_S8192x8x256_S8192x8_d2 h_S_)) (broadcastInDim S8192x8x1 ![] bcast_S_S8192x8x1 (constant S_ .f32 0x43800000#32))) (broadcastInDim S8192x8x1 ![] bcast_S_S8192x8x1 (constant S_ .f32 0x358637BD#32)))))) (broadcastInDim S8192x8x256 ![0, 1, 2] bcast_S1x1x256_S8192x8x256_0_1_2 (broadcastInDim S1x1x256 ![2] bcast_S256_S1x1x256_2 A6))) (broadcastInDim S8192x8x256 ![] bcast_S_S8192x8x256 (constant S_ .f32 0x3F24FD5C#32))) shapeCasts_S8192x8x256_S8192x2048) bitsLt_bf16_f32

variable (m : (ℓ : Loc nD τ sig) → Buf (Elt Ideal) ℓ) (c : Dev nD)

theorem res_eq : Value.res_out0 m c
    = normed (attend (m (c.tc.loc main_arg0))
        (softm (expo (logits (m (c.tc.loc main_arg0)) (bias (m (c.tc.loc main_arg1))))
          (rowMax (logits (m (c.tc.loc main_arg0)) (bias (m (c.tc.loc main_arg1)))))))
        (mixing (m (c.tc.loc main_arg2)) (m (c.tc.loc main_arg3)) (m (c.tc.loc main_arg4)) (m (c.tc.loc main_arg5))))
      (m (c.tc.loc main_arg6)) := rfl

end Cert.ReferenceIdeal.Attn
end
-- ==== Proof.RefAt.lean ====
/- The reference's result at an index, as the real function of `Math.lean` where the arguments are real. -/
module

public import proofs.«01_k».proof.Proof.RefParts
public import proofs.«01_k».proof.Proof.Math

@[expose] public section
set_option maxRecDepth 16384
noncomputable section
namespace Cert.ReferenceIdeal.Attn
open Cert.ReferenceIdeal Cert.ReferenceIdeal.Gen Idealize.ShloMosaic Idealize.ShloMosaic.TcCoe
open Cert.Attn

/-! ## The bias tiles -/

theorem clipped_at : ∀ a b : Fin 16, clipped (ix2 a b) = BitVec.ofNat 32 (rel a.val b.val) := by
  decide +kernel

theorem select_clipped : ∀ a b : Fin 16, Scalar.select (IntOp.cmpi CmpIPredicate.slt (BitVec.ofNat 32 (rel a.val b.val)) 0#32)
    (IntOp.addi (BitVec.ofNat 32 (rel a.val b.val)) 7#32) (BitVec.ofNat 32 (rel a.val b.val)) = BitVec.ofNat 32 (rel a.val b.val) := by
  decide +kernel

theorem tile_toNat : ∀ a b : Fin 16, min (BitVec.ofNat 32 (rel a.val b.val)).toInt.toNat 6 = rel a.val b.val := by
  decide +kernel

theorem tileIdx_at (a b : Fin 16) : tileIdx (ix3 a b (0 : Fin 1)) = BitVec.ofNat 32 (rel a.val b.val) := by
  pointwise [tileIdx]
  rw [clipped_at, select_clipped]

theorem gather_at (A1 : FVec Ideal S8x7x512x512 .f32) (h : Fin 8) (a b : Fin 16) (i j : Fin 512) (I : IVec S16x16x1 32) :
    Host.gather gather_S8x7x512x512_S16x16x1_S8x16x16x512x512_034_1_n_n_1_2_81512512 A1 I (ix5 h a b i j)
      = A1 (ix4 h (⟨min (I (ix3 a b (0 : Fin 1))).toInt.toNat 6, by omega⟩ : Fin 7) i j) := by
  unfold Host.gather
  congr 1
  funext x
  refine Fin.ext ?_
  show (gather_S8x7x512x512_S16x16x1_S8x16x16x512x512_034_1_n_n_1_2_81512512).start (ix5 h a b i j) I x
    + (gather_S8x7x512x512_S16x16x1_S8x16x16x512x512_034_1_n_n_1_2_81512512).batchCoord (ix5 h a b i j) x
    + (gather_S8x7x512x512_S16x16x1_S8x16x16x512x512_034_1_n_n_1_2_81512512).offCoord (ix5 h a b i j) x = _
  rw [GatherDims.batchCoord_eq_zero _ _ _ List.not_mem_nil, Nat.add_zero]
  have off (x : Fin 4) (hx : x ≠ 1) : (gather_S8x7x512x512_S16x16x1_S8x16x16x512x512_034_1_n_n_1_2_81512512).start (ix5 h a b i j) I x = 0 := by
    unfold GatherDims.start
    exact dif_neg fun hm => hx (List.mem_singleton.mp hm)
  have hx : x = (0 : Fin 4) ∨ x = (1 : Fin 4) ∨ x = (2 : Fin 4) ∨ x = (3 : Fin 4) := by revert x; decide
  rcases hx with rfl | rfl | rfl | rfl
  · rw [off 0 (by decide), Nat.zero_add]; unfold GatherDims.offCoord; rw [dif_pos (by decide)]; rfl
  · rw [GatherDims.offCoord_eq_zero _ _ _ (by decide), Nat.add_zero]
    unfold GatherDims.start
    rw [dif_pos (show (1 : Fin 4) ∈ (gather_S8x7x512x512_S16x16x1_S8x16x16x512x512_034_1_n_n_1_2_81512512).startIndexMap from List.mem_singleton.mpr rfl)]
    have hsi : (gather_S8x7x512x512_S16x16x1_S8x16x16x512x512_034_1_n_n_1_2_81512512).siIdx (ix5 h a b i j) ⟨List.idxOf (1 : Fin 4) [1],
        by decide⟩ = ix3 a b (0 : Fin 1) := by
      funext y; refine Fin.ext ?_
      match y with
      | ⟨0, _⟩ => rfl
      | ⟨1, _⟩ => rfl
      | ⟨2, _⟩ => rfl
    exact congrArg (fun y => min (I y).toInt.toNat 6) hsi
  · rw [off 2 (by decide), Nat.zero_add]; unfold GatherDims.offCoord; rw [dif_pos (by decide)]; rfl
  · rw [off 3 (by decide), Nat.zero_add]; unfold GatherDims.offCoord; rw [dif_pos (by decide)]; rfl

theorem rel_lt (a b : ℕ) : rel a b < 7 := by unfold rel; omega

theorem bias_at (A1 : FVec Ideal S8x7x512x512 .f32) (h : Fin 8) (q k : Fin 8192) :
    bias A1 (ix3 h q k) = A1 (ix4 h (⟨rel (k.val / 512) (q.val / 512), rel_lt _ _⟩ : Fin 7)
      (⟨k.val % 512, Nat.mod_lt _ (by decide)⟩ : Fin 512) (⟨q.val % 512, Nat.mod_lt _ (by decide)⟩ : Fin 512)) := by
  pointwise [bias]
  rw [gather_at]
  have e (a b : Fin 16) : (⟨min (tileIdx (ix3 a b (0 : Fin 1))).toInt.toNat 6, by omega⟩ : Fin 7) = ⟨rel a.val b.val, rel_lt _ _⟩ :=
    Fin.ext (by show min (tileIdx (ix3 a b (0 : Fin 1))).toInt.toNat 6 = _; rw [tileIdx_at, tile_toNat])
  rw [e]

/-! ## The pieces at an index -/

theorem logits_at (A0 : FVec Ideal S8192x6144 .f32) (B : FVec Ideal S8x8192x8192 .f32) (h : Fin 8) (c : Fin 2) (q k : Fin 8192) :
    logits A0 B (ix4 h c q k) = Ideal.div (∑ d : Fin 128, A0 (ix2 q (⟨h.val * 256 + c.val * 128 + d.val, by omega⟩ : Fin 6144))
        * A0 (ix2 k (⟨2048 + (h.val * 256 + c.val * 128 + d.val), by omega⟩ : Fin 6144)))
      (Ideal.sqrt (Ideal.ofBits .f32 1124073472#32)) + B (ix3 h q k) := by
  pointwise [logits]

theorem rowMax_at (Z : FVec Ideal S8x2x8192x8192 .f32) (h : Fin 8) (c : Fin 2) (q : Fin 8192) :
    rowMax Z (ix3 h c q) = Finset.fold max (Ideal.ofBits .f32 4286578688#32) (fun k : Fin 8192 => Z (ix4 h c q k)) Finset.univ := by
  pointwise [rowMax]

theorem expo_at (Z : FVec Ideal S8x2x8192x8192 .f32) (M : FVec Ideal S8x2x8192 .f32) (h : Fin 8) (c : Fin 2) (q k : Fin 8192) :
    expo Z M (ix4 h c q k) = Ideal.exp (Z (ix4 h c q k) - max (Ideal.ofBits .f32 4286578688#32) (M (ix3 h c q))) := by
  pointwise [expo]

theorem softm_at (E : FVec Ideal S8x2x8192x8192 .f32) (h : Fin 8) (c : Fin 2) (q k : Fin 8192) :
    softm E (ix4 h c q k) = Ideal.div (E (ix4 h c q k)) (∑ x : Fin 8192, E (ix4 h c q x)) := by
  pointwise [softm]

theorem mixing_at (A2 A3 A4 A5 : FVec Ideal S128 .f32) :
    mixing A2 A3 A4 A5 ix0 = Ideal.exp (∑ x : Fin 128, A2 (ix1 x) * A3 (ix1 x)) - Ideal.exp (∑ x : Fin 128, A4 (ix1 x) * A5 (ix1 x))
      + Ideal.ofBits .f32 1052116297#32 := by
  pointwise [mixing]

theorem attend_at (A0 : FVec Ideal S8192x6144 .f32) (S : FVec Ideal S8x2x8192x8192 .f32) (l : FVec Ideal S_ .f32) (h : Fin 8) (q : Fin 8192)
    (e : Fin 256) : attend A0 S l (ix3 q h e) = ∑ x : Fin 8192, A0 (ix2 x (⟨4096 + (h.val * 256 + e.val), by omega⟩ : Fin 6144))
      * (S (ix4 h (0 : Fin 2) q x) - l ix0 * S (ix4 h (1 : Fin 2) q x)) := by
  pointwise [attend]

theorem normed_at (O : FVec Ideal S8192x8x256 .f32) (A6 : FVec Ideal S256 .f32) (q : Fin 8192) (e : Fin 2048) :
    normed O A6 (ix2 q e) = O (ix3 q (⟨e.val / 256, by omega⟩ : Fin 8) (⟨e.val % 256, Nat.mod_lt _ (by decide)⟩ : Fin 256))
      * Ideal.rsqrt (Ideal.div (∑ x : Fin 256, O (ix3 q (⟨e.val / 256, by omega⟩ : Fin 8) x) * O (ix3 q (⟨e.val / 256, by omega⟩ : Fin 8) x))
          (Ideal.ofBits .f32 1132462080#32) + Ideal.ofBits .f32 897988541#32)
      * A6 (ix1 (⟨e.val % 256, Nat.mod_lt _ (by decide)⟩ : Fin 256)) * Ideal.ofBits .f32 1059388764#32 := by
  pointwise [normed]

/-! ## At real arguments -/

section Real
variable (A0 : FVec Ideal S8192x6144 .f32) (A1 : FVec Ideal S8x7x512x512 .f32) (A2 A3 A4 A5 : FVec Ideal S128 .f32) (A6 : FVec Ideal S256 .f32)
variable (P : ℕ → ℕ → ℝ) (T : ℕ → ℕ → ℕ → ℕ → ℝ) (lam : ℝ) (g : ℕ → EReal)
variable (h0 : ∀ (a : Fin 8192) (b : Fin 6144), A0 (ix2 a b) = ((P a.val b.val : ℝ) : EReal))
variable (h1 : ∀ (h : Fin 8) (r : Fin 7) (i j : Fin 512), A1 (ix4 h r i j) = ((T h.val r.val i.val j.val : ℝ) : EReal))
variable (hl : mixing A2 A3 A4 A5 ix0 = ((lam : ℝ) : EReal))
variable (h6 : ∀ e : Fin 256, A6 (ix1 e) = g e.val)

include h0 h1 in
theorem logits_real (h : Fin 8) (c : Fin 2) (q k : Fin 8192) :
    logits A0 (bias A1) (ix4 h c q k) = ((logit P T h.val c.val q.val k.val : ℝ) : EReal) := by
  rw [logits_at, bias_at, h1, bits_128, Ideal.sqrt_coe, if_neg (by norm_num)]
  simp only [h0, ← EReal.coe_mul]
  rw [coe_sum, div_real (Real.sqrt_pos.mpr (by norm_num)).ne', ← EReal.coe_add]
  rfl

include h0 h1 in
theorem expo_real (h : Fin 8) (c : Fin 2) (q : Fin 8192) : ∃ M : ℝ, ∀ k : Fin 8192,
    expo (logits A0 (bias A1)) (rowMax (logits A0 (bias A1))) (ix4 h c q k) = ((Real.exp (logit P T h.val c.val q.val k.val - M) : ℝ) : EReal) := by
  obtain ⟨M, hM⟩ := exists_fold_max (n := 8192) (by decide) (fun k => logit P T h.val c.val q.val k.val)
  refine ⟨M, fun k => ?_⟩
  have e : (fun k : Fin 8192 => logits A0 (bias A1) (ix4 h c q k)) = fun k => ((logit P T h.val c.val q.val k.val : ℝ) : EReal) :=
    funext fun k => logits_real A0 A1 P T h0 h1 h c q k
  rw [expo_at, rowMax_at, e, logits_real A0 A1 P T h0 h1, bits_neg_inf, hM, max_eq_right bot_le, ← EReal.coe_sub, Ideal.exp_coe]

include h0 h1 in
theorem softm_real (h : Fin 8) (c : Fin 2) (q k : Fin 8192) :
    softm (expo (logits A0 (bias A1)) (rowMax (logits A0 (bias A1)))) (ix4 h c q k)
      = ((Real.exp (logit P T h.val c.val q.val k.val) / den P T h.val c.val q.val : ℝ) : EReal) := by
  obtain ⟨M, hM⟩ := expo_real A0 A1 P T h0 h1 h c q
  rw [softm_at]
  simp only [hM]
  rw [coe_sum]
  have e : ∑ x : Fin 8192, Real.exp (logit P T h.val c.val q.val x.val - M) = den P T h.val c.val q.val * Real.exp (-M) := by
    unfold den
    rw [Finset.sum_mul]
    exact Finset.sum_congr rfl fun x _ => by rw [sub_eq_add_neg, Real.exp_add]
  rw [e, div_real (mul_pos (den_pos P T _ _ _) (Real.exp_pos _)).ne', sub_eq_add_neg, Real.exp_add,
    mul_div_mul_right _ _ (Real.exp_pos _).ne']

include h0 h1 hl in
theorem attend_real (h : Fin 8) (q : Fin 8192) (e : Fin 256) :
    attend A0 (softm (expo (logits A0 (bias A1)) (rowMax (logits A0 (bias A1))))) (mixing A2 A3 A4 A5) (ix3 q h e)
      = ((dif P T lam h.val q.val e.val : ℝ) : EReal) := by
  rw [attend_at, hl]
  simp only [softm_real A0 A1 P T h0 h1, h0, ← EReal.coe_mul, ← EReal.coe_sub]
  rw [coe_sum]
  congr 1
  unfold dif num
  rw [Finset.sum_div, Finset.sum_div, Finset.mul_sum, ← Finset.sum_sub_distrib]
  exact Finset.sum_congr rfl fun x _ => by simp only [Fin.val_zero, Fin.val_one]; ring

include h0 h1 hl h6 in
theorem normed_real (q : Fin 8192) (e : Fin 2048) :
    normed (attend A0 (softm (expo (logits A0 (bias A1)) (rowMax (logits A0 (bias A1))))) (mixing A2 A3 A4 A5)) A6 (ix2 q e)
      = res P T lam g (e.val / 256) q.val (e.val % 256) := by
  rw [normed_at]
  simp only [attend_real A0 A1 A2 A3 A4 A5 P T lam h0 h1 hl, h6, ← EReal.coe_mul]
  rw [coe_sum, bits_256, bits_eps, bits_scale, div_real (by norm_num), ← EReal.coe_add]
  rw [show (∑ i : Fin 256, dif P T lam (e.val / 256) q.val i.val * dif P T lam (e.val / 256) q.val i.val) / 256 + eps = msq P T lam (e.val / 256) q.val from rfl,
    rsqrt_real (msq_pos P T lam (e.val / 256) q.val), ← EReal.coe_mul]
  exact mul_assoc _ _ _

end Real

end Cert.ReferenceIdeal.Attn
end
-- ==== Proof.Finite.lean ====
/- The precondition read back: where it holds, every entry of every argument but the gains is a real number. -/
module

public import proofs.«01_k».proof.Defs
public import proofs.«01_k».proof.Proof.Math
public import Idealize.ShloMosaic.Lib.ReduceAll
public import Idealize.ShloMosaic.Lib.Pointwise

@[expose] public section

noncomputable section

namespace Cert.Finite

open Idealize.ShloMosaic
open Cert.Attn

/-- The shape relations of the printed precondition. -/
theorem facts : Cert.Pre_finite.Facts where
  bcast_S_S8192x6144 := by decide
  reducesTo_S8192x6144_S_d0_1 := by decide
  h_S_ := by decide
  bcast_S_S8x7x512x512 := by decide
  reducesTo_S8x7x512x512_S_d0_1_2_3 := by decide
  bcast_S_S128 := by decide
  reducesTo_S128_S_d0 := by decide

/-- An array whose comparison with infinity is everywhere true holds real numbers. -/
theorem real_of {s : Shape} {axes : List (Fin s.rank)} (A : FVec Ideal s .f32) (hb : Pre_finite.S_.BroadcastsInDim s (![] : Fin 0 → Fin s.rank))
    (hr : s.ReducesTo axes Pre_finite.S_) (hu : 0 < Pre_finite.S_.numel) (j : Pre_finite.S_.Idx)
    (e : Host.reduce IntOp.andi (cmpf .olt (Host.absf A) (broadcastInDim s ![] hb (constant Pre_finite.S_ .f32 0x7F800000#32)))
      (constantI Pre_finite.S_ 1 1#1) hr hu j = 1#1) (i : s.Idx) : ∃ r : ℝ, A i = (r : EReal) := by
  have k := Host.reduce_andi_all _ _ hr hu j e i
  rw [show cmpf .olt (Host.absf A) (broadcastInDim s ![] hb (constant Pre_finite.S_ .f32 0x7F800000#32)) i
    = BitVec.ofBool (decide (max (A i) (-(A i)) < Ideal.ofBits .f32 2139095040#32)) from rfl, bits_inf] at k
  refine exists_real ?_
  by_contra h
  rw [decide_eq_false h] at k
  exact absurd k (by decide)

theorem and_ones {x y : IVec Pre_finite.S_ 1} {j : Pre_finite.S_.Idx} (e : andi x y j = 1#1) : x j = 1#1 ∧ y j = 1#1 := by
  have e' : x j &&& y j = 1#1 := e
  generalize x j = a at e' ⊢
  generalize y j = b at e' ⊢
  revert a b
  decide

theorem reals (A0 : FVec Ideal Pre_finite.S8192x6144 .f32) (A1 : FVec Ideal Pre_finite.S8x7x512x512 .f32) (A2 A3 A4 A5 : FVec Ideal Pre_finite.S128 .f32)
    (A6 : FVec Ideal Pre_finite.S256 .f32) (e : @Cert.Pre_finite.fn facts Ideal _ A0 A1 A2 A3 A4 A5 A6 = fun _ => 1#1) :
    (∀ i, ∃ r : ℝ, A0 i = (r : EReal)) ∧ (∀ i, ∃ r : ℝ, A1 i = (r : EReal)) ∧ (∀ i, ∃ r : ℝ, A2 i = (r : EReal)) ∧ (∀ i, ∃ r : ℝ, A3 i = (r : EReal))
      ∧ (∀ i, ∃ r : ℝ, A4 i = (r : EReal)) ∧ (∀ i, ∃ r : ℝ, A5 i = (r : EReal)) := by
  have k := congrFun e ix0
  unfold Cert.Pre_finite.fn Cert.Pre_finite.fn_part1 at k
  dsimp only at k
  obtain ⟨k, k5⟩ := and_ones k
  obtain ⟨k, k4⟩ := and_ones k
  obtain ⟨k, k3⟩ := and_ones k
  obtain ⟨k, k2⟩ := and_ones k
  obtain ⟨k0, k1⟩ := and_ones k
  exact ⟨real_of _ _ _ _ _ k0, real_of _ _ _ _ _ k1, real_of _ _ _ _ _ k2, real_of _ _ _ _ _ k3, real_of _ _ _ _ _ k4, real_of _ _ _ _ _ k5⟩

end Cert.Finite

end
-- ==== Proof.Value.lean ====
/- The value claim: where every argument but the gains is real, the idealized kernel and the reference leave the same array. -/
module

public import proofs.«01_k».proof.Proof.Result
public import proofs.«01_k».proof.Proof.RefAt
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Value

open Idealize.ShloMosaic Idealize.ShloMosaic.TcCoe Idealize.SL.Sem
open Cert.Attn

/-- Four real arrays have a real mixing factor. -/
theorem mixing_real (A2 A3 A4 A5 : FVec Ideal Pre_finite.S128 .f32) (h2 : ∀ i, ∃ r : ℝ, A2 i = (r : EReal)) (h3 : ∀ i, ∃ r : ℝ, A3 i = (r : EReal))
    (h4 : ∀ i, ∃ r : ℝ, A4 i = (r : EReal)) (h5 : ∀ i, ∃ r : ℝ, A5 i = (r : EReal)) :
    ∃ lam : ℝ, Ideal.exp (∑ x : Fin 128, A2 (ix1 x) * A3 (ix1 x)) - Ideal.exp (∑ x : Fin 128, A4 (ix1 x) * A5 (ix1 x)) + Ideal.ofBits .f32 1052116297#32
      = ((lam : ℝ) : EReal) := by
  choose a2 h2 using h2
  choose a3 h3 using h3
  choose a4 h4 using h4
  choose a5 h5 using h5
  simp only [h2, h3, h4, h5, ← EReal.coe_mul]
  rw [coe_sum, coe_sum, Ideal.exp_coe, Ideal.exp_coe, bits_lam0, ← EReal.coe_sub, ← EReal.coe_add]
  exact ⟨_, rfl⟩

/-- Both arrays, from the same arguments. -/
theorem same (m : (ℓ : Loc KernelIdeal.nD KernelIdeal.τ KernelIdeal.sig) → Buf (Elt Ideal) ℓ) (c : Dev KernelIdeal.nD)
    (A0 : FVec Ideal Pre_finite.S8192x6144 .f32) (A1 : FVec Ideal Pre_finite.S8x7x512x512 .f32) (A2 A3 A4 A5 : FVec Ideal Pre_finite.S128 .f32)
    (A6 : FVec Ideal Pre_finite.S256 .f32) (e : @Cert.Pre_finite.fn Finite.facts Ideal _ A0 A1 A2 A3 A4 A5 A6 = fun _ => 1#1)
    (e0 : KernelIdeal.Attn.arg0 m c = A0) (e1 : KernelIdeal.Attn.arg1 m c = A1) (e2 : KernelIdeal.Attn.arg2 m c = A2)
    (e3 : KernelIdeal.Attn.arg3 m c = A3) (e4 : KernelIdeal.Attn.arg4 m c = A4) (e5 : KernelIdeal.Attn.arg5 m c = A5) (e6 : KernelIdeal.Attn.arg6 m c = A6) :
    ReferenceIdeal.Attn.normed (ReferenceIdeal.Attn.attend A0 (ReferenceIdeal.Attn.softm (ReferenceIdeal.Attn.expo (ReferenceIdeal.Attn.logits A0
      (ReferenceIdeal.Attn.bias A1)) (ReferenceIdeal.Attn.rowMax (ReferenceIdeal.Attn.logits A0 (ReferenceIdeal.Attn.bias A1)))))
      (ReferenceIdeal.Attn.mixing A2 A3 A4 A5)) A6
    = (KernelIdeal.Attn.dats m 0 c).arrAt 6 (KernelIdeal.cfgs 0).N := by
  obtain ⟨r0, r1, r2, r3, r4, r5⟩ := Finite.reals A0 A1 A2 A3 A4 A5 A6 e
  obtain ⟨lam, hl⟩ := mixing_real A2 A3 A4 A5 r2 r3 r4 r5
  choose a0 h0 using r0
  choose a1 h1 using r1
  let P : ℕ → ℕ → ℝ := fun a b => if h : a < 8192 ∧ b < 6144 then a0 (ix2 (⟨a, h.1⟩ : Fin 8192) (⟨b, h.2⟩ : Fin 6144)) else 0
  let T : ℕ → ℕ → ℕ → ℕ → ℝ := fun h r i j => if p : h < 8 ∧ r < 7 ∧ i < 512 ∧ j < 512 then
    a1 (ix4 (⟨h, p.1⟩ : Fin 8) (⟨r, p.2.1⟩ : Fin 7) (⟨i, p.2.2.1⟩ : Fin 512) (⟨j, p.2.2.2⟩ : Fin 512)) else 0
  let g : ℕ → EReal := fun e => if h : e < 256 then A6 (ix1 (⟨e, h⟩ : Fin 256)) else 0
  have hP (a : Fin 8192) (b : Fin 6144) : A0 (ix2 a b) = ((P a.val b.val : ℝ) : EReal) := by
    rw [h0, show P a.val b.val = a0 (ix2 a b) from dif_pos ⟨a.isLt, b.isLt⟩]
  have hT (h : Fin 8) (r : Fin 7) (i j : Fin 512) : A1 (ix4 h r i j) = ((T h.val r.val i.val j.val : ℝ) : EReal) := by
    rw [h1, show T h.val r.val i.val j.val = a1 (ix4 h r i j) from dif_pos ⟨h.isLt, r.isLt, i.isLt, j.isLt⟩]
  have hg (e : Fin 256) : A6 (ix1 e) = g e.val := by
    rw [show g e.val = A6 (ix1 e) from dif_pos e.isLt]
  rw [KernelIdeal.Attn.final m c P T lam g (by rw [e0]; exact hP) (by rw [e1]; exact hT) (by rw [e2, e3, e4, e5]; exact hl) (by rw [e6]; exact hg)]
  funext y
  have y2 : y = ix2 (y 0) (y 1) := by
    funext a
    fin_cases a <;> rfl
  rw [y2]
  exact ReferenceIdeal.Attn.normed_real A0 A1 A2 A3 A4 A5 A6 P T lam g hP hT ((ReferenceIdeal.Attn.mixing_at A2 A3 A4 A5).trans hl) hg (y 0) (y 1)

theorem algebraic : @Cert.algebraic_KernelIdeal_ReferenceIdeal_pre_finite KernelIdeal.Gen.facts ReferenceIdeal.Gen.facts Finite.facts := by
  intro m ρ m' ρ' hpre hagree
  refine ⟨fun c => (KernelIdeal.Attn.dats m 0 c).arrAt 6 (KernelIdeal.cfgs 0).N, ?_, ?_⟩
  · run_from KernelIdeal.Attn.run_main m ρ
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6⟩ := hagree c
    refine (ReferenceIdeal.Attn.res_eq m' c).trans ?_
    refine same m c _ _ _ _ _ _ _ ?_ e0.symm e1.symm e2.symm e3.symm e4.symm e5.symm e6.symm
    rw [e0, e1, e2, e3, e4, e5, e6]
    exact hpre c

end Cert.Value

end
-- ==== Proof.Mlp.lean ====
/- The feed-forward part of the last layer at a point of its grid: the three stored values, entry by entry. -/
module

public import proofs.«01_k».proof.Proof.Gen.Kernel2Ideal.Value
public import Idealize.ShloMosaic.Lib.Pointwise
public import Idealize.ShloMosaic.Lib.Claim
import Idealize.ShloMosaic.Lib.Pipeline.ValueKit.Acc

@[expose] public section

set_option maxRecDepth 16384

noncomputable section

namespace Cert.Mlp
open Idealize.ShloMosaic

/-- A row over the root of its mean square. -/
def rms (row : Fin 2048 → EReal) (j : Fin 2048) : EReal :=
  row j * Ideal.rsqrt (Ideal.div (∑ i, row i * row i) (Ideal.ofBits .f32 1157627904#32) + Ideal.ofBits .f32 897988541#32)

/-- The square of the positive part. -/
def relu2 (a : EReal) : EReal := max a 0 * max a 0

/-- Layer `l`'s hidden entry `f` of row `i`, before the positive part. -/
def act (l : Fin 4) (A0 : (⟨2, ![8192, 2048]⟩ : Shape).Idx → EReal) (A1 : (⟨2, ![4, 2048]⟩ : Shape).Idx → EReal) (A3 : (⟨3, ![4, 2048, 8192]⟩ : Shape).Idx → EReal) (i f : Fin 8192) : EReal :=
  ∑ d : Fin 2048, rms (fun k => A0 (ix2 i k)) d * A1 (ix2 l d) * A3 (ix3 l d f)

/-- The stream after layer `l`. -/
def mid (l : Fin 4) (A0 : (⟨2, ![8192, 2048]⟩ : Shape).Idx → EReal) (A1 : (⟨2, ![4, 2048]⟩ : Shape).Idx → EReal) (A3 : (⟨3, ![4, 2048, 8192]⟩ : Shape).Idx → EReal)
    (A4 : (⟨3, ![4, 8192, 2048]⟩ : Shape).Idx → EReal) (i : Fin 8192) (j : Fin 2048) : EReal :=
  A0 (ix2 i j) + ∑ f : Fin 8192, relu2 (act l A0 A1 A3 i f) * A4 (ix3 l f j)

/-- The last layer's result: the stream after it, over the root of its mean square. -/
def entry (A0 : (⟨2, ![8192, 2048]⟩ : Shape).Idx → EReal) (A1 : (⟨2, ![4, 2048]⟩ : Shape).Idx → EReal) (A2 : (⟨1, ![2048]⟩ : Shape).Idx → EReal)
    (A3 : (⟨3, ![4, 2048, 8192]⟩ : Shape).Idx → EReal) (A4 : (⟨3, ![4, 8192, 2048]⟩ : Shape).Idx → EReal) (i : Fin 8192) (j : Fin 2048) : EReal :=
  rms (fun k => mid 3 A0 A1 A3 A4 i k) j * A2 (ix1 j)

end Cert.Mlp

namespace Cert.Kernel2Ideal.Mlp
open Cert.Kernel2Ideal Cert.Kernel2Ideal.Gen
open Idealize.ShloMosaic Idealize.ShloMosaic.TcCoe Idealize.ShloMosaic.StableHlo
open Cert.Mlp

theorem pay1_at (X : S1024x2048.Idx → EReal) (G : S1x2048.Idx → EReal) (i : Fin 1024) (j : Fin 2048) :
    k0_pay1 (F := Ideal) X G (ix2 i j) = rms (fun k => X (ix2 i k)) j * G (ix2 (0 : Fin 1) j) := by
  unfold rms
  pointwise [k0_pay1]

theorem pay3_at (X : S1024x2048.Idx → EReal) (G : S1x2048.Idx → EReal) (i : Fin 1024) (j : Fin 2048) :
    k0_pay3 (F := Ideal) X G (ix2 i j) = rms (fun k => X (ix2 i k)) j * G (ix2 (0 : Fin 1) j) := by
  unfold rms
  pointwise [k0_pay3]

theorem pay2_at (H : S1024x2048.Idx → EReal) (W : S1x2048x1024.Idx → EReal) (X : S1024x2048.Idx → EReal) (W' : S1x1024x2048.Idx → EReal) (i : Fin 1024) (j : Fin 2048) :
    k0_pay2 (F := Ideal) H W X W' (ix2 i j)
      = X (ix2 i j) + ∑ f : Fin 1024, relu2 (∑ d : Fin 2048, H (ix2 i d) * W (ix3 (0 : Fin 1) d f)) * W' (ix3 (0 : Fin 1) f j) := by
  unfold relu2
  pointwise [k0_pay2]

variable (m : (ℓ : Loc nD τ sig) → Buf (Elt Ideal) ℓ)

theorem out_A (c : Dev nD) (t : Fin cfg0.N) (h0 : t.val % 8 = 0) (h1 : ¬t.val % 8 = 7) :
    (outsAt0 m c t.val t.isLt).1 = k0_pay2 (k0_pay1 (iblk m c 0 t) (iblk m c 1 t)) (iblk m c 2 t) (iblk m c 0 t) (iblk m c 3 t)
    ∧ (outsAt0 m c t.val t.isLt).2 = k0_pay1 (iblk m c 0 t) (iblk m c 1 t) := by
  constructor
  · rw [outsAt0_A m c t h0 h1]
    frame_out
  · rw [outsAt0_A m c t h0 h1]
    frame_out

theorem out_B (c : Dev nD) (t : Fin cfg0.N) (h0 : ¬t.val % 8 = 0) (h1 : ¬t.val % 8 = 7) (h : t.val - 1 < cfg0.N) :
    (outsAt0 m c t.val t.isLt).1 = k0_pay2 (outsAt0 m c (t.val - 1) h).2 (iblk m c 2 t) (outsAt0 m c (t.val - 1) h).1 (iblk m c 3 t)
    ∧ (outsAt0 m c t.val t.isLt).2 = (outsAt0 m c (t.val - 1) h).2 := by
  constructor
  · rw [outsAt0_B m c t h0 h1]
    frame_out
    exact congrArg (fun H => k0_pay2 H (iblk m c 2 t) (outsAt0 m c (t.val - 1) h).1 (iblk m c 3 t))
      ((Memref.isWhole_whole cc0_scratch0).read_unread (outsAt0 m c (t.val - 1) h).2)
  · rw [outsAt0_B m c t h0 h1]
    rfl

theorem out_C (c : Dev nD) (t : Fin cfg0.N) (h0 : ¬t.val % 8 = 0) (h1 : t.val % 8 = 7) (h : t.val - 1 < cfg0.N) :
    (outsAt0 m c t.val t.isLt).1 = k0_pay3 (k0_pay2 (outsAt0 m c (t.val - 1) h).2 (iblk m c 2 t) (outsAt0 m c (t.val - 1) h).1 (iblk m c 3 t)) (iblk m c 4 t) := by
  rw [outsAt0_C m c t h0 h1]
  frame_out
  exact congrArg (fun H => k0_pay3 (k0_pay2 H (iblk m c 2 t) (outsAt0 m c (t.val - 1) h).1 (iblk m c 3 t)) (iblk m c 4 t))
    ((Memref.isWhole_whole cc0_scratch0).read_unread (outsAt0 m c (t.val - 1) h).2)

end Cert.Kernel2Ideal.Mlp
end
-- ==== Proof.MlpResult.lean ====
/- The array that the last layer's feed-forward call leaves: after each point the sum over the hidden entries seen so far,
   after the last of a row block's points the normalised stream. -/
module

public import proofs.«01_k».proof.Proof.Mlp
import Idealize.ShloMosaic.Lib.StableHlo.RunRead
import Idealize.ShloMosaic.Lib.Pipeline.ValueKit.Geometry

@[expose] public section

set_option maxRecDepth 16384

noncomputable section

namespace Cert.Kernel2Ideal.Mlp
open Cert.Kernel2Ideal Cert.Kernel2Ideal.Gen
open Idealize.ShloMosaic Idealize.ShloMosaic.TcCoe Idealize.ShloMosaic.StableHlo
open Cert.Mlp

variable (m : (ℓ : Loc nD τ sig) → Buf (Elt Ideal) ℓ)

/-! ## The host's arrays -/

abbrev arg0 (c : Dev nD) : S8192x2048.Idx → EReal := m (c, Proc.tc.devRef main_arg0)
abbrev arg1 (c : Dev nD) : S4x2048.Idx → EReal := m (c, Proc.tc.devRef main_arg1)
abbrev arg2 (c : Dev nD) : S2048.Idx → EReal := m (c, Proc.tc.devRef main_arg2)
abbrev arg3 (c : Dev nD) : S4x2048x8192.Idx → EReal := m (c, Proc.tc.devRef main_arg3)
abbrev arg4 (c : Dev nD) : S4x8192x2048.Idx → EReal := m (c, Proc.tc.devRef main_arg4)

theorem a0_at (c : Dev nD) (i : Fin 8192) (j : Fin 2048) : V m c main_arg0 (ix2 i j) = arg0 m c (ix2 i j) := by
  entry_read
  rfl

theorem v0_at (c : Dev nD) (l : Fin 4) (d : Fin 2048) (f : Fin 8192) : V m c main_v0 (ix3 l d f) = arg3 m c (ix3 l d f) := by
  entry_read
  pointwise

theorem v1_at (c : Dev nD) (l : Fin 4) (f : Fin 8192) (j : Fin 2048) : V m c main_v1 (ix3 l f j) = arg4 m c (ix3 l f j) := by
  entry_read
  pointwise

theorem v4_at (c : Dev nD) (j : Fin 2048) : V m c main_v4 (ix2 (0 : Fin 1) j) = arg1 m c (ix2 (3 : Fin 4) j) := by
  entry_read
  pointwise

theorem v5_at (c : Dev nD) (j : Fin 2048) : V m c main_v5 (ix2 (0 : Fin 1) j) = arg2 m c (ix1 j) := by
  entry_read
  pointwise

/-! ## The blocks of a point -/

theorem idx : ∀ t : Fin cfg0.N, win0_0.index t = ![t.val / 8, 0] ∧ win0_1.index t = ![0, 0] ∧ win0_2.index t = ![3, 0, t.val % 8]
    ∧ win0_3.index t = ![3, t.val % 8, 0] ∧ win0_4.index t = ![0, 0] ∧ t.val < 64 :=
  (by decide +kernel : ∀ t : Fin grid0.N, _)

/-- The array's row that is row `i` of the point's block. -/
def row (t : ℕ) (i : Fin 1024) : Fin 8192 := ⟨(t / 8 % 8) * 1024 + i.val, by omega⟩

/-- The hidden entry that is entry `f` of the point's block. -/
def hid (t : ℕ) (f : Fin 1024) : Fin 8192 := ⟨t % 8 * 1024 + f.val, by omega⟩

theorem block0 (c : Dev nD) (t : Fin cfg0.N) (i : Fin 1024) (j : Fin 2048) : iblk m c 0 t (ix2 i j) = arg0 m c (ix2 (row t.val i) j) := by
  obtain ⟨i0, i1, i2, i3, i4, i5⟩ := idx t
  have e : row t.val i = ⟨t.val / 8 * 1024 + i.val, by omega⟩ := Fin.ext (by show t.val / 8 % 8 * 1024 + i.val = _; rw [Nat.mod_eq_of_lt (by omega : t.val / 8 < 8)])
  rw [← a0_at, e]
  blk_ext [iblk, V, i0]

theorem block1 (c : Dev nD) (t : Fin cfg0.N) (j : Fin 2048) : iblk m c 1 t (ix2 (0 : Fin 1) j) = arg1 m c (ix2 (3 : Fin 4) j) := by
  obtain ⟨i0, i1, i2, i3, i4, i5⟩ := idx t
  rw [← v4_at]
  blk_ext [iblk, V, i1]

theorem block2 (c : Dev nD) (t : Fin cfg0.N) (d : Fin 2048) (f : Fin 1024) : iblk m c 2 t (ix3 (0 : Fin 1) d f) = arg3 m c (ix3 (3 : Fin 4) d (hid t.val f)) := by
  obtain ⟨i0, i1, i2, i3, i4, i5⟩ := idx t
  rw [← v0_at]
  unfold hid
  blk_ext [iblk, V, i2]

theorem block3 (c : Dev nD) (t : Fin cfg0.N) (f : Fin 1024) (j : Fin 2048) : iblk m c 3 t (ix3 (0 : Fin 1) f j) = arg4 m c (ix3 (3 : Fin 4) (hid t.val f) j) := by
  obtain ⟨i0, i1, i2, i3, i4, i5⟩ := idx t
  rw [← v1_at]
  unfold hid
  blk_ext [iblk, V, i3]

theorem block4 (c : Dev nD) (t : Fin cfg0.N) (j : Fin 2048) : iblk m c 4 t (ix2 (0 : Fin 1) j) = arg2 m c (ix1 j) := by
  obtain ⟨i0, i1, i2, i3, i4, i5⟩ := idx t
  rw [← v5_at]
  blk_ext [iblk, V, i4]

/-! ## The sum over the hidden entries, a block at a point -/

/-- Hidden entry `n`'s share of the stream, 0 past the last. -/
def term (c : Dev nD) (q : Fin 8192) (j : Fin 2048) (n : ℕ) : EReal :=
  if h : n < 8192 then relu2 (act 3 (arg0 m c) (arg1 m c) (arg3 m c) q ⟨n, h⟩) * arg4 m c (ix3 (3 : Fin 4) (⟨n, h⟩ : Fin 8192) j) else 0

theorem mid_eq (c : Dev nD) (q : Fin 8192) (j : Fin 2048) :
    mid 3 (arg0 m c) (arg1 m c) (arg3 m c) (arg4 m c) q j = arg0 m c (ix2 q j) + ∑ n ∈ Finset.range 8192, term m c q j n := by
  have e (f : Fin 8192) : relu2 (act 3 (arg0 m c) (arg1 m c) (arg3 m c) q f) * arg4 m c (ix3 (3 : Fin 4) f j) = term m c q j f.val := by
    unfold term
    rw [dif_pos f.isLt]
  unfold mid
  rw [Finset.sum_range, Finset.sum_congr rfl fun f _ => e f]

/-- The normalised block. -/
def Normed (c : Dev nD) (t : ℕ) (H : S1024x2048.Idx → EReal) : Prop :=
  ∀ (i : Fin 1024) (d : Fin 2048), H (ix2 i d) = rms (fun k => arg0 m c (ix2 (row t i) k)) d * arg1 m c (ix2 (3 : Fin 4) d)

theorem first (c : Dev nD) (t : Fin cfg0.N) : Normed m c t.val (k0_pay1 (F := Ideal) (iblk m c 0 t) (iblk m c 1 t)) := by
  intro i d
  refine (pay1_at _ _ i d).trans ?_
  simp only [block0, block1]

theorem step (c : Dev nD) (t : Fin cfg0.N) (H X : S1024x2048.Idx → EReal) (hH : Normed m c t.val H) (i : Fin 1024) (j : Fin 2048) :
    k0_pay2 (F := Ideal) H (iblk m c 2 t) X (iblk m c 3 t) (ix2 i j)
      = X (ix2 i j) + ∑ f ∈ Finset.range 1024, term m c (row t.val i) j (t.val % 8 * 1024 + f) := by
  refine (pay2_at _ _ _ _ i j).trans ?_
  rw [Finset.sum_range]
  refine congrArg (X (ix2 i j) + ·) (Finset.sum_congr rfl fun f _ => ?_)
  have e : ∀ d : Fin 2048, H (ix2 i d) * iblk m c 2 t (ix3 (0 : Fin 1) d f)
      = rms (fun k => arg0 m c (ix2 (row t.val i) k)) d * arg1 m c (ix2 (3 : Fin 4) d) * arg3 m c (ix3 (3 : Fin 4) d (hid t.val f)) := fun d => by
    rw [hH i d, block2]
  have hl : t.val % 8 * 1024 + f.val < 8192 := by omega
  unfold term
  rw [dif_pos hl, block3, Finset.sum_congr rfl fun d _ => e d]
  rfl

theorem row_eq (r b : ℕ) (hr : r < 8) (hb : b < 8) (i : Fin 1024) : row (8 * r + b) i = row (8 * r) i :=
  Fin.ext (by show (8 * r + b) / 8 % 8 * 1024 + i.val = 8 * r / 8 % 8 * 1024 + i.val; omega)

theorem sweep (c : Dev nD) (r : ℕ) (hr : r < 8) : ∀ (b : ℕ) (_ : b < 7) (h : 8 * r + b < cfg0.N),
    Normed m c (8 * r) (outsAt0 m c (8 * r + b) h).2
    ∧ ∀ (i : Fin 1024) (j : Fin 2048), (outsAt0 m c (8 * r + b) h).1 (ix2 i j)
        = arg0 m c (ix2 (row (8 * r) i) j) + ∑ n ∈ Finset.range ((b + 1) * 1024), term m c (row (8 * r) i) j n := by
  intro b
  induction b with
  | zero =>
    intro _ h
    obtain ⟨e1, e2⟩ := out_A m c ⟨8 * r + 0, h⟩ (by show (8 * r + 0) % 8 = 0; omega) (by show ¬(8 * r + 0) % 8 = 7; omega)
    have hn : Normed m c (8 * r) (k0_pay1 (F := Ideal) (iblk m c 0 ⟨8 * r + 0, h⟩) (iblk m c 1 ⟨8 * r + 0, h⟩)) := first m c ⟨8 * r + 0, h⟩
    refine ⟨fun i d => (congrFun e2 (ix2 i d)).trans (hn i d), fun i j => (congrFun e1 (ix2 i j)).trans ?_⟩
    refine (step m c ⟨8 * r + 0, h⟩ _ _ hn i j).trans ?_
    rw [block0]
    have hz : (8 * r + 0) % 8 = 0 := by omega
    simp only [hz, Nat.add_zero, Nat.mul_mod_right, Nat.zero_mul, Nat.zero_add, Nat.one_mul]
  | succ b ih =>
    intro hb h
    obtain ⟨n1, s1⟩ := ih (by omega) (by omega)
    obtain ⟨e1, e2⟩ := out_B m c ⟨8 * r + (b + 1), h⟩ (by show ¬(8 * r + (b + 1)) % 8 = 0; omega) (by show ¬(8 * r + (b + 1)) % 8 = 7; omega)
      (by show 8 * r + b < _; omega)
    refine ⟨fun i d => (congrFun e2 (ix2 i d)).trans (n1 i d), fun i j => (congrFun e1 (ix2 i j)).trans ?_⟩
    refine (step m c ⟨8 * r + (b + 1), h⟩ _ _ (fun i d => (n1 i d).trans (by rw [row_eq r (b + 1) hr (by omega)])) i j).trans ?_
    have hz : (8 * r + (b + 1)) % 8 = b + 1 := by omega
    simp only [hz, row_eq r (b + 1) hr (by omega)]
    rw [show (b + 1 + 1) * 1024 = (b + 1) * 1024 + 1024 by omega, Finset.sum_range_add, ← add_assoc (arg0 m c _)]
    exact congrArg (· + _) (s1 i j)

theorem last (c : Dev nD) (r : ℕ) (hr : r < 8) (h : 8 * r + 7 < cfg0.N) (i : Fin 1024) (j : Fin 2048) :
    (outsAt0 m c (8 * r + 7) h).1 (ix2 i j) = entry (arg0 m c) (arg1 m c) (arg2 m c) (arg3 m c) (arg4 m c) (row (8 * r) i) j := by
  obtain ⟨n1, s1⟩ := sweep m c r hr 6 (by omega) (by omega)
  have e1 := out_C m c ⟨8 * r + 7, h⟩ (by show ¬(8 * r + 7) % 8 = 0; omega) (by show (8 * r + 7) % 8 = 7; omega) (by show 8 * r + 6 < _; omega)
  refine (congrFun e1 (ix2 i j)).trans ((pay3_at _ _ i j).trans ?_)
  unfold entry
  have hm : ∀ k : Fin 2048, k0_pay2 (F := Ideal) (outsAt0 m c (8 * r + 6) (by omega)).2 (iblk m c 2 ⟨8 * r + 7, h⟩) (outsAt0 m c (8 * r + 6) (by omega)).1 (iblk m c 3 ⟨8 * r + 7, h⟩) (ix2 i k)
      = mid 3 (arg0 m c) (arg1 m c) (arg3 m c) (arg4 m c) (row (8 * r) i) k := fun k => by
    refine (step m c ⟨8 * r + 7, h⟩ _ _ (fun i d => (n1 i d).trans (by rw [row_eq r 7 hr (by omega)])) i k).trans ?_
    have hz : (8 * r + 7) % 8 = 7 := by omega
    simp only [hz, row_eq r 7 hr (by omega)]
    have hs : ∑ n ∈ Finset.range 8192, term m c (row (8 * r) i) k n = ∑ n ∈ Finset.range (7 * 1024), term m c (row (8 * r) i) k n
        + ∑ f ∈ Finset.range 1024, term m c (row (8 * r) i) k (7 * 1024 + f) := Finset.sum_range_add _ (7 * 1024) 1024
    rw [mid_eq, hs, ← add_assoc (arg0 m c _)]
    exact congrArg (· + _) (s1 i k)
  rw [block4]
  exact congrArg (· * _) (congrArg (fun R : Fin 2048 → EReal => rms R j) (funext hm))

/-- The array after the run, entry by entry. -/
theorem final (c : Dev nD) (i : Fin 8192) (j : Fin 2048) :
    Value.G5 m c (ix2 i j) = entry (arg0 m c) (arg1 m c) (arg2 m c) (arg3 m c) (arg4 m c) i j := by
  have hN : cfg0.N = 64 := N_0
  have hp : Value.pt5Of (ix2 i j) = 8 * (i.val / 1024) + 7 := by
    show 8 * (1 * (i.val / 1024 - 0) + 1 * (j.val / 2048 - 0)) + 7 = _
    omega
  have hl : Value.loc5Of (ix2 i j) = ix2 (⟨i.val % 1024, by omega⟩ : Fin 1024) j := by
    funext a
    apply Fin.ext
    match a with
    | ⟨0, _⟩ => rfl
    | ⟨1, _⟩ => show j.val % 2048 = j.val; omega
  have hlt : 8 * (i.val / 1024) + 7 < cfg0.N := by omega
  have hr : row (8 * (i.val / 1024)) ⟨i.val % 1024, by omega⟩ = i := Fin.ext (by show 8 * (i.val / 1024) / 8 % 8 * 1024 + i.val % 1024 = i.val; omega)
  unfold Value.G5
  rw [dif_pos (by rw [hp]; exact hlt), hl, Value.fold0_congr m c _ _ (8 * (i.val / 1024) + 7) (by omega) hp, ← Value.outsAt0_sweep m c _ hlt,
    last m c (i.val / 1024) (by omega) hlt, hr]

end Cert.Kernel2Ideal.Mlp
end
-- ==== Proof.MlpRef.lean ====
/- The reference of the last layer's feed-forward part, entry by entry. -/
module

public import proofs.«01_k».proof.Proof.Mlp
public import proofs.«01_k».proof.Proof.Gen.Reference2Ideal.Run

@[expose] public section

noncomputable section

namespace Cert.Reference2Ideal.Mlp
open Cert.Reference2Ideal Cert.Reference2Ideal.Gen Idealize.ShloMosaic Idealize.ShloMosaic.TcCoe
open Cert.Mlp

/-- Every row over the root of its mean square, times a row of gains. -/
def normed (X : FVec Ideal S8192x2048 .f32) (G : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The last layer's gains. -/
def gains (A1 : FVec Ideal S4x2048 .f32) : FVec Ideal S2048 .f32 :=
  shapeCast _ (extractStridedSlice S1x2048 ![3, 0] A1 slices_S4x2048_S1x2048_3_0) shapeCasts_S1x2048_S2048

/-- The positive part of the product with the last layer's first weights. -/
def hidden (H : FVec Ideal S8192x2048 .f32) (A3 : FVec Ideal S4x2048x8192 .f32) : FVec Ideal S8192x8192 .f32 :=
  maximumf (Host.dotGeneral dot_S8192x2048_S2048x8192_S8192x8192_1_0_0_1_n_n none H (shapeCast _ (extractStridedSlice S1x2048x8192 ![3, 0, 0] A3 slices_S4x2048x8192_S1x2048x8192_3_0_0) shapeCasts_S1x2048x8192_S2048x8192)) (broadcastInDim S8192x8192 ![] bcast_S_S8192x8192 (constant S_ .f32 0x00000000#32))

/-- The stream with the product of the squares and the last layer's second weights added. -/
def stream (X : FVec Ideal S8192x2048 .f32) (U : FVec Ideal S8192x8192 .f32) (A4 : FVec Ideal S4x8192x2048 .f32) : FVec Ideal S8192x2048 .f32 :=
  addf X (Host.dotGeneral dot_S8192x8192_S8192x2048_S8192x2048_1_0_0_1_n_n none (mulf U U) (shapeCast _ (extractStridedSlice S1x8192x2048 ![3, 0, 0] A4 slices_S4x8192x2048_S1x8192x2048_3_0_0) shapeCasts_S1x8192x2048_S8192x2048))

theorem normed_at (X : S8192x2048.Idx → EReal) (G : S2048.Idx → EReal) (i : Fin 8192) (j : Fin 2048) :
    normed X G (ix2 i j) = rms (fun k => X (ix2 i k)) j * G (ix1 j) := by
  unfold rms
  pointwise [normed]

theorem gains_at (A1 : S4x2048.Idx → EReal) (j : Fin 2048) : gains A1 (ix1 j) = A1 (ix2 (3 : Fin 4) j) := by
  pointwise [gains]

theorem hidden_at (H : S8192x2048.Idx → EReal) (A3 : S4x2048x8192.Idx → EReal) (i f : Fin 8192) :
    hidden H A3 (ix2 i f) = max (∑ d : Fin 2048, H (ix2 i d) * A3 (ix3 (3 : Fin 4) d f)) 0 := by
  pointwise [hidden]

theorem stream_at (X : S8192x2048.Idx → EReal) (U : S8192x8192.Idx → EReal) (A4 : S4x8192x2048.Idx → EReal) (i : Fin 8192) (j : Fin 2048) :
    stream X U A4 (ix2 i j) = X (ix2 i j) + ∑ f : Fin 8192, U (ix2 i f) * U (ix2 i f) * A4 (ix3 (3 : Fin 4) f j) := by
  pointwise [stream]

/-- The result's entry. -/
theorem ref_at (m : (ℓ : Loc nD τ sig) → Buf (Elt Ideal) ℓ) (c : Dev nD) (i : Fin 8192) (j : Fin 2048) :
    Value.res_out0 m c (ix2 i j) = entry (m (c.tc.loc main_arg0)) (m (c.tc.loc main_arg1)) (m (c.tc.loc main_arg2)) (m (c.tc.loc main_arg3)) (m (c.tc.loc main_arg4)) i j := by
  have e : Value.res_out0 m c = normed (stream (m (c.tc.loc main_arg0)) (hidden (normed (m (c.tc.loc main_arg0)) (gains (m (c.tc.loc main_arg1)))) (m (c.tc.loc main_arg3))) (m (c.tc.loc main_arg4)))
      (m (c.tc.loc main_arg2)) := rfl
  rw [e, normed_at]
  unfold entry mid act
  simp only [stream_at, hidden_at, normed_at, gains_at]
  rfl

end Cert.Reference2Ideal.Mlp
end
-- ==== Proof.MlpValue.lean ====
/- The value claim of the last layer's feed-forward part: the idealized kernel and the reference leave the same array. -/
module

public import proofs.«01_k».proof.Defs
public import proofs.«01_k».proof.Proof.MlpResult
public import proofs.«01_k».proof.Proof.MlpRef
public import proofs.«01_k».proof.Proof.Gen.Kernel2Ideal
public import proofs.«01_k».proof.Proof.Gen.Reference2Ideal

@[expose] public section

noncomputable section

namespace Cert.Value2

open Idealize.ShloMosaic Idealize.ShloMosaic.TcCoe Idealize.SL.Sem

theorem algebraic : @Cert.algebraic_Kernel2Ideal_Reference2Ideal Kernel2Ideal.Gen.facts Reference2Ideal.Gen.facts := by
  intro m ρ m' ρ' _ hagree
  refine ⟨fun c => Kernel2Ideal.Value.G5 m c, ?_, ?_⟩
  · exact Kernel2Ideal.Value.run m ρ
  · refine (θ_run Cert.Reference2Ideal.defs _ _).mono (fun r h c => ⟨(h c).1.trans ?_, (h c).2⟩) (Cert.Reference2Ideal.Value.run (F := Ideal) m' ρ')
    obtain ⟨e0, e1, e2, e3, e4⟩ := hagree c
    funext y
    have y2 : y = ix2 (y 0) (y 1) := by
      funext a
      fin_cases a <;> rfl
    rw [y2]
    refine (Reference2Ideal.Mlp.ref_at m' c (y 0) (y 1)).trans ?_
    rw [e0, e1, e2, e3, e4]
    exact (Kernel2Ideal.Mlp.final m c (y 0) (y 1)).symm

end Cert.Value2

end
-- ==== Proof.MlpRest.lean ====
/- The feed-forward part of a layer that isn't the last: the two stored values of a point of the grid, and the array that the
   call leaves: after each point the sum over the hidden entries seen so far. -/
module

public import proofs.«01_k».proof.Proof.Mlp
public import proofs.«01_k».proof.Proof.Gen.Kernel3Ideal.Value
public import Idealize.ShloMosaic.Lib.Pointwise
public import Idealize.ShloMosaic.Lib.Claim
import Idealize.ShloMosaic.Lib.Pipeline.ValueKit.Acc
import Idealize.ShloMosaic.Lib.StableHlo.RunRead
import Idealize.ShloMosaic.Lib.Pipeline.ValueKit.Geometry

@[expose] public section

set_option maxRecDepth 16384

noncomputable section

namespace Cert.Kernel3Ideal.Mlp
open Cert.Kernel3Ideal Cert.Kernel3Ideal.Gen
open Idealize.ShloMosaic Idealize.ShloMosaic.TcCoe Idealize.ShloMosaic.StableHlo
open Cert.Mlp

theorem pay1_at (X : S1024x2048.Idx → EReal) (G : S1x2048.Idx → EReal) (i : Fin 1024) (j : Fin 2048) :
    k0_pay1 (F := Ideal) X G (ix2 i j) = rms (fun k => X (ix2 i k)) j * G (ix2 (0 : Fin 1) j) := by
  unfold rms
  pointwise [k0_pay1]

theorem pay2_at (H : S1024x2048.Idx → EReal) (W : S1x2048x1024.Idx → EReal) (X : S1024x2048.Idx → EReal) (W' : S1x1024x2048.Idx → EReal) (i : Fin 1024) (j : Fin 2048) :
    k0_pay2 (F := Ideal) H W X W' (ix2 i j)
      = X (ix2 i j) + ∑ f : Fin 1024, relu2 (∑ d : Fin 2048, H (ix2 i d) * W (ix3 (0 : Fin 1) d f)) * W' (ix3 (0 : Fin 1) f j) := by
  unfold relu2
  pointwise [k0_pay2]

variable (m : (ℓ : Loc nD τ sig) → Buf (Elt Ideal) ℓ)

theorem out_A (c : Dev nD) (t : Fin cfg0.N) (h0 : t.val % 8 = 0) :
    (outsAt0 m c t.val t.isLt).1 = k0_pay2 (k0_pay1 (iblk m c 0 t) (iblk m c 1 t)) (iblk m c 2 t) (iblk m c 0 t) (iblk m c 3 t)
    ∧ (outsAt0 m c t.val t.isLt).2 = k0_pay1 (iblk m c 0 t) (iblk m c 1 t) := by
  constructor
  · rw [outsAt0_A m c t h0]
    frame_out
  · rw [outsAt0_A m c t h0]
    frame_out

theorem out_B (c : Dev nD) (t : Fin cfg0.N) (h0 : ¬t.val % 8 = 0) (h : t.val - 1 < cfg0.N) :
    (outsAt0 m c t.val t.isLt).1 = k0_pay2 (outsAt0 m c (t.val - 1) h).2 (iblk m c 2 t) (outsAt0 m c (t.val - 1) h).1 (iblk m c 3 t)
    ∧ (outsAt0 m c t.val t.isLt).2 = (outsAt0 m c (t.val - 1) h).2 := by
  constructor
  · rw [outsAt0_B m c t h0]
    frame_out
    exact congrArg (fun H => k0_pay2 H (iblk m c 2 t) (outsAt0 m c (t.val - 1) h).1 (iblk m c 3 t))
      ((Memref.isWhole_whole cc0_scratch0).read_unread (outsAt0 m c (t.val - 1) h).2)
  · rw [outsAt0_B m c t h0]
    rfl

/-! ## The host's arrays -/

abbrev arg0 (c : Dev nD) : S8192x2048.Idx → EReal := m (c, Proc.tc.devRef main_arg0)
abbrev arg1 (c : Dev nD) : S4x2048.Idx → EReal := m (c, Proc.tc.devRef main_arg1)
abbrev arg2 (c : Dev nD) : S2048.Idx → EReal := m (c, Proc.tc.devRef main_arg2)
abbrev arg3 (c : Dev nD) : S4x2048x8192.Idx → EReal := m (c, Proc.tc.devRef main_arg3)
abbrev arg4 (c : Dev nD) : S4x8192x2048.Idx → EReal := m (c, Proc.tc.devRef main_arg4)

theorem a0_at (c : Dev nD) (i : Fin 8192) (j : Fin 2048) : V m c main_arg0 (ix2 i j) = arg0 m c (ix2 i j) := by
  entry_read
  rfl

theorem v0_at (c : Dev nD) (l : Fin 4) (d : Fin 2048) (f : Fin 8192) : V m c main_v0 (ix3 l d f) = arg3 m c (ix3 l d f) := by
  entry_read
  pointwise

theorem v1_at (c : Dev nD) (l : Fin 4) (f : Fin 8192) (j : Fin 2048) : V m c main_v1 (ix3 l f j) = arg4 m c (ix3 l f j) := by
  entry_read
  pointwise

theorem v4_at (c : Dev nD) (j : Fin 2048) : V m c main_v4 (ix2 (0 : Fin 1) j) = arg1 m c (ix2 (0 : Fin 4) j) := by
  entry_read
  pointwise

/-! ## The blocks of a point -/

theorem idx : ∀ t : Fin cfg0.N, win0_0.index t = ![t.val / 8, 0] ∧ win0_1.index t = ![0, 0] ∧ win0_2.index t = ![0, 0, t.val % 8]
    ∧ win0_3.index t = ![0, t.val % 8, 0] ∧ win0_4.index t = ![0, 0] ∧ t.val < 64 :=
  (by decide +kernel : ∀ t : Fin grid0.N, _)

/-- The array's row that is row `i` of the point's block. -/
def row (t : ℕ) (i : Fin 1024) : Fin 8192 := ⟨(t / 8 % 8) * 1024 + i.val, by omega⟩

/-- The hidden entry that is entry `f` of the point's block. -/
def hid (t : ℕ) (f : Fin 1024) : Fin 8192 := ⟨t % 8 * 1024 + f.val, by omega⟩

theorem block0 (c : Dev nD) (t : Fin cfg0.N) (i : Fin 1024) (j : Fin 2048) : iblk m c 0 t (ix2 i j) = arg0 m c (ix2 (row t.val i) j) := by
  obtain ⟨i0, i1, i2, i3, i4, i5⟩ := idx t
  have e : row t.val i = ⟨t.val / 8 * 1024 + i.val, by omega⟩ := Fin.ext (by show t.val / 8 % 8 * 1024 + i.val = _; rw [Nat.mod_eq_of_lt (by omega : t.val / 8 < 8)])
  rw [← a0_at, e]
  blk_ext [iblk, V, i0]

theorem block1 (c : Dev nD) (t : Fin cfg0.N) (j : Fin 2048) : iblk m c 1 t (ix2 (0 : Fin 1) j) = arg1 m c (ix2 (0 : Fin 4) j) := by
  obtain ⟨i0, i1, i2, i3, i4, i5⟩ := idx t
  rw [← v4_at]
  blk_ext [iblk, V, i1]

theorem block2 (c : Dev nD) (t : Fin cfg0.N) (d : Fin 2048) (f : Fin 1024) : iblk m c 2 t (ix3 (0 : Fin 1) d f) = arg3 m c (ix3 (0 : Fin 4) d (hid t.val f)) := by
  obtain ⟨i0, i1, i2, i3, i4, i5⟩ := idx t
  rw [← v0_at]
  unfold hid
  blk_ext [iblk, V, i2]

theorem block3 (c : Dev nD) (t : Fin cfg0.N) (f : Fin 1024) (j : Fin 2048) : iblk m c 3 t (ix3 (0 : Fin 1) f j) = arg4 m c (ix3 (0 : Fin 4) (hid t.val f) j) := by
  obtain ⟨i0, i1, i2, i3, i4, i5⟩ := idx t
  rw [← v1_at]
  unfold hid
  blk_ext [iblk, V, i3]

/-! ## The sum over the hidden entries, a block at a point -/

/-- Hidden entry `n`'s share of the stream, 0 past the last. -/
def term (c : Dev nD) (q : Fin 8192) (j : Fin 2048) (n : ℕ) : EReal :=
  if h : n < 8192 then relu2 (act 0 (arg0 m c) (arg1 m c) (arg3 m c) q ⟨n, h⟩) * arg4 m c (ix3 (0 : Fin 4) (⟨n, h⟩ : Fin 8192) j) else 0

theorem mid_eq (c : Dev nD) (q : Fin 8192) (j : Fin 2048) :
    mid 0 (arg0 m c) (arg1 m c) (arg3 m c) (arg4 m c) q j = arg0 m c (ix2 q j) + ∑ n ∈ Finset.range 8192, term m c q j n := by
  have e (f : Fin 8192) : relu2 (act 0 (arg0 m c) (arg1 m c) (arg3 m c) q f) * arg4 m c (ix3 (0 : Fin 4) f j) = term m c q j f.val := by
    unfold term
    rw [dif_pos f.isLt]
  unfold mid
  rw [Finset.sum_range, Finset.sum_congr rfl fun f _ => e f]

/-- The normalised block. -/
def Normed (c : Dev nD) (t : ℕ) (H : S1024x2048.Idx → EReal) : Prop :=
  ∀ (i : Fin 1024) (d : Fin 2048), H (ix2 i d) = rms (fun k => arg0 m c (ix2 (row t i) k)) d * arg1 m c (ix2 (0 : Fin 4) d)

theorem first (c : Dev nD) (t : Fin cfg0.N) : Normed m c t.val (k0_pay1 (F := Ideal) (iblk m c 0 t) (iblk m c 1 t)) := by
  intro i d
  refine (pay1_at _ _ i d).trans ?_
  simp only [block0, block1]

theorem step (c : Dev nD) (t : Fin cfg0.N) (H X : S1024x2048.Idx → EReal) (hH : Normed m c t.val H) (i : Fin 1024) (j : Fin 2048) :
    k0_pay2 (F := Ideal) H (iblk m c 2 t) X (iblk m c 3 t) (ix2 i j)
      = X (ix2 i j) + ∑ f ∈ Finset.range 1024, term m c (row t.val i) j (t.val % 8 * 1024 + f) := by
  refine (pay2_at _ _ _ _ i j).trans ?_
  rw [Finset.sum_range]
  refine congrArg (X (ix2 i j) + ·) (Finset.sum_congr rfl fun f _ => ?_)
  have e : ∀ d : Fin 2048, H (ix2 i d) * iblk m c 2 t (ix3 (0 : Fin 1) d f)
      = rms (fun k => arg0 m c (ix2 (row t.val i) k)) d * arg1 m c (ix2 (0 : Fin 4) d) * arg3 m c (ix3 (0 : Fin 4) d (hid t.val f)) := fun d => by
    rw [hH i d, block2]
  have hl : t.val % 8 * 1024 + f.val < 8192 := by omega
  unfold term
  rw [dif_pos hl, block3, Finset.sum_congr rfl fun d _ => e d]
  rfl

theorem row_eq (r b : ℕ) (hr : r < 8) (hb : b < 8) (i : Fin 1024) : row (8 * r + b) i = row (8 * r) i :=
  Fin.ext (by show (8 * r + b) / 8 % 8 * 1024 + i.val = 8 * r / 8 % 8 * 1024 + i.val; omega)

theorem sweep (c : Dev nD) (r : ℕ) (hr : r < 8) : ∀ (b : ℕ) (_ : b < 8) (h : 8 * r + b < cfg0.N),
    Normed m c (8 * r) (outsAt0 m c (8 * r + b) h).2
    ∧ ∀ (i : Fin 1024) (j : Fin 2048), (outsAt0 m c (8 * r + b) h).1 (ix2 i j)
        = arg0 m c (ix2 (row (8 * r) i) j) + ∑ n ∈ Finset.range ((b + 1) * 1024), term m c (row (8 * r) i) j n := by
  intro b
  induction b with
  | zero =>
    intro _ h
    obtain ⟨e1, e2⟩ := out_A m c ⟨8 * r + 0, h⟩ (by show (8 * r + 0) % 8 = 0; omega)
    have hn : Normed m c (8 * r) (k0_pay1 (F := Ideal) (iblk m c 0 ⟨8 * r + 0, h⟩) (iblk m c 1 ⟨8 * r + 0, h⟩)) := first m c ⟨8 * r + 0, h⟩
    refine ⟨fun i d => (congrFun e2 (ix2 i d)).trans (hn i d), fun i j => (congrFun e1 (ix2 i j)).trans ?_⟩
    refine (step m c ⟨8 * r + 0, h⟩ _ _ hn i j).trans ?_
    rw [block0]
    have hz : (8 * r + 0) % 8 = 0 := by omega
    simp only [hz, Nat.add_zero, Nat.mul_mod_right, Nat.zero_mul, Nat.zero_add, Nat.one_mul]
  | succ b ih =>
    intro hb h
    obtain ⟨n1, s1⟩ := ih (by omega) (by omega)
    obtain ⟨e1, e2⟩ := out_B m c ⟨8 * r + (b + 1), h⟩ (by show ¬(8 * r + (b + 1)) % 8 = 0; omega)
      (by show 8 * r + b < _; omega)
    refine ⟨fun i d => (congrFun e2 (ix2 i d)).trans (n1 i d), fun i j => (congrFun e1 (ix2 i j)).trans ?_⟩
    refine (step m c ⟨8 * r + (b + 1), h⟩ _ _ (fun i d => (n1 i d).trans (by rw [row_eq r (b + 1) hr (by omega)])) i j).trans ?_
    have hz : (8 * r + (b + 1)) % 8 = b + 1 := by omega
    simp only [hz, row_eq r (b + 1) hr (by omega)]
    rw [show (b + 1 + 1) * 1024 = (b + 1) * 1024 + 1024 by omega, Finset.sum_range_add, ← add_assoc (arg0 m c _)]
    exact congrArg (· + _) (s1 i j)

/-- The array after the run, entry by entry. -/
theorem final (c : Dev nD) (i : Fin 8192) (j : Fin 2048) :
    Value.G5 m c (ix2 i j) = mid 0 (arg0 m c) (arg1 m c) (arg3 m c) (arg4 m c) i j := by
  have hN : cfg0.N = 64 := N_0
  have hp : Value.pt5Of (ix2 i j) = 8 * (i.val / 1024) + 7 := by
    show 8 * (1 * (i.val / 1024 - 0) + 1 * (j.val / 2048 - 0)) + 7 = _
    omega
  have hl : Value.loc5Of (ix2 i j) = ix2 (⟨i.val % 1024, by omega⟩ : Fin 1024) j := by
    funext a
    apply Fin.ext
    match a with
    | ⟨0, _⟩ => rfl
    | ⟨1, _⟩ => show j.val % 2048 = j.val; omega
  have hlt : 8 * (i.val / 1024) + 7 < cfg0.N := by omega
  have hr : row (8 * (i.val / 1024)) ⟨i.val % 1024, by omega⟩ = i := Fin.ext (by show 8 * (i.val / 1024) / 8 % 8 * 1024 + i.val % 1024 = i.val; omega)
  unfold Value.G5
  rw [dif_pos (by rw [hp]; exact hlt), hl, Value.fold0_congr m c _ _ (8 * (i.val / 1024) + 7) (by omega) hp, ← Value.outsAt0_sweep m c _ hlt,
    (sweep m c (i.val / 1024) (by omega) 7 (by omega) hlt).2, hr, mid_eq]

end Cert.Kernel3Ideal.Mlp
end
-- ==== Proof.MlpRestRef.lean ====
/- The reference of the feed-forward part of a layer that isn't the last, entry by entry. -/
module

public import proofs.«01_k».proof.Proof.Mlp
public import proofs.«01_k».proof.Proof.Gen.Reference3Ideal.Run

@[expose] public section

noncomputable section

namespace Cert.Reference3Ideal.Mlp
open Cert.Reference3Ideal Cert.Reference3Ideal.Gen Idealize.ShloMosaic Idealize.ShloMosaic.TcCoe
open Cert.Mlp

/-- Every row over the root of its mean square, times a row of gains. -/
def normed (X : FVec Ideal S8192x2048 .f32) (G : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The first layer's gains. -/
def gains (A1 : FVec Ideal S4x2048 .f32) : FVec Ideal S2048 .f32 :=
  shapeCast _ (extractStridedSlice S1x2048 ![0, 0] A1 slices_S4x2048_S1x2048_0_0) shapeCasts_S1x2048_S2048

/-- The positive part of the product with the first layer's first weights. -/
def hidden (H : FVec Ideal S8192x2048 .f32) (A3 : FVec Ideal S4x2048x8192 .f32) : FVec Ideal S8192x8192 .f32 :=
  maximumf (Host.dotGeneral dot_S8192x2048_S2048x8192_S8192x8192_1_0_0_1_n_n none H (shapeCast _ (extractStridedSlice S1x2048x8192 ![0, 0, 0] A3 slices_S4x2048x8192_S1x2048x8192_0_0_0) shapeCasts_S1x2048x8192_S2048x8192)) (broadcastInDim S8192x8192 ![] bcast_S_S8192x8192 (constant S_ .f32 0x00000000#32))

/-- The stream with the product of the squares and the first layer's second weights added. -/
def stream (X : FVec Ideal S8192x2048 .f32) (U : FVec Ideal S8192x8192 .f32) (A4 : FVec Ideal S4x8192x2048 .f32) : FVec Ideal S8192x2048 .f32 :=
  addf X (Host.dotGeneral dot_S8192x8192_S8192x2048_S8192x2048_1_0_0_1_n_n none (mulf U U) (shapeCast _ (extractStridedSlice S1x8192x2048 ![0, 0, 0] A4 slices_S4x8192x2048_S1x8192x2048_0_0_0) shapeCasts_S1x8192x2048_S8192x2048))

theorem normed_at (X : S8192x2048.Idx → EReal) (G : S2048.Idx → EReal) (i : Fin 8192) (j : Fin 2048) :
    normed X G (ix2 i j) = rms (fun k => X (ix2 i k)) j * G (ix1 j) := by
  unfold rms
  pointwise [normed]

theorem gains_at (A1 : S4x2048.Idx → EReal) (j : Fin 2048) : gains A1 (ix1 j) = A1 (ix2 (0 : Fin 4) j) := by
  pointwise [gains]

theorem hidden_at (H : S8192x2048.Idx → EReal) (A3 : S4x2048x8192.Idx → EReal) (i f : Fin 8192) :
    hidden H A3 (ix2 i f) = max (∑ d : Fin 2048, H (ix2 i d) * A3 (ix3 (0 : Fin 4) d f)) 0 := by
  pointwise [hidden]

theorem stream_at (X : S8192x2048.Idx → EReal) (U : S8192x8192.Idx → EReal) (A4 : S4x8192x2048.Idx → EReal) (i : Fin 8192) (j : Fin 2048) :
    stream X U A4 (ix2 i j) = X (ix2 i j) + ∑ f : Fin 8192, U (ix2 i f) * U (ix2 i f) * A4 (ix3 (0 : Fin 4) f j) := by
  pointwise [stream]

/-- The result. -/
def result (A0 : FVec Ideal S8192x2048 .f32) (A1 : FVec Ideal S4x2048 .f32) (A3 : FVec Ideal S4x2048x8192 .f32) (A4 : FVec Ideal S4x8192x2048 .f32) : FVec Ideal S8192x2048 .f32 :=
  stream A0 (hidden (normed A0 (gains A1)) A3) A4

theorem result_at (A0 : S8192x2048.Idx → EReal) (A1 : S4x2048.Idx → EReal) (A3 : S4x2048x8192.Idx → EReal) (A4 : S4x8192x2048.Idx → EReal) (i : Fin 8192) (j : Fin 2048) :
    result A0 A1 A3 A4 (ix2 i j) = mid 0 A0 A1 A3 A4 i j := by
  unfold result mid act
  simp only [stream_at, hidden_at, normed_at, gains_at]
  rfl

end Cert.Reference3Ideal.Mlp
end
-- ==== Proof.MlpRestValue.lean ====
/- The value claim of the feed-forward part of a layer that isn't the last: the idealized kernel and the reference leave the
   same array. -/
module

public import proofs.«01_k».proof.Defs
public import proofs.«01_k».proof.Proof.MlpRest
public import proofs.«01_k».proof.Proof.MlpRestRef
public import proofs.«01_k».proof.Proof.Gen.Kernel3Ideal
public import proofs.«01_k».proof.Proof.Gen.Reference3Ideal

@[expose] public section

noncomputable section

namespace Cert.Value3

open Idealize.ShloMosaic Idealize.ShloMosaic.TcCoe Idealize.SL.Sem

theorem algebraic : @Cert.algebraic_Kernel3Ideal_Reference3Ideal Kernel3Ideal.Gen.facts Reference3Ideal.Gen.facts := by
  intro m ρ m' ρ' _ hagree
  refine ⟨fun c => Kernel3Ideal.Value.G5 m c, ?_, ?_⟩
  · exact Kernel3Ideal.Value.run m ρ
  · refine (θ_run Cert.Reference3Ideal.defs _ _).mono (fun r h c => ⟨(h c).1.trans ?_, (h c).2⟩) (Cert.Reference3Ideal.Value.run (F := Ideal) m' ρ')
    obtain ⟨e0, e1, e2, e3, e4⟩ := hagree c
    refine Eq.trans (b := Reference3Ideal.Mlp.result (m' (c.tc.loc Reference3Ideal.main_arg0)) (m' (c.tc.loc Reference3Ideal.main_arg1)) (m' (c.tc.loc Reference3Ideal.main_arg3)) (m' (c.tc.loc Reference3Ideal.main_arg4))) rfl ?_
    funext y
    have y2 : y = ix2 (y 0) (y 1) := by
      funext a
      fin_cases a <;> rfl
    rw [y2, e0, e1, e3, e4]
    exact (Reference3Ideal.Mlp.result_at _ _ _ _ (y 0) (y 1)).trans (Kernel3Ideal.Mlp.final m c (y 0) (y 1)).symm

end Cert.Value3

end
-- ==== Proof.Proj.lean ====
/- The normalised product of the odd layers' mixers: the two stored values of a point of the grid, and the array that the call
   leaves. -/
module

public import proofs.«01_k».proof.Proof.Mlp
public import proofs.«01_k».proof.Proof.Gen.Kernel4Ideal.Value
public import Idealize.ShloMosaic.Lib.Pointwise
public import Idealize.ShloMosaic.Lib.Claim
import Idealize.ShloMosaic.Lib.Pipeline.ValueKit.Acc
import Idealize.ShloMosaic.Lib.StableHlo.RunRead
import Idealize.ShloMosaic.Lib.Pipeline.ValueKit.Geometry

@[expose] public section

set_option maxRecDepth 16384

noncomputable section

namespace Cert.Kernel4Ideal.Proj
open Cert.Kernel4Ideal Cert.Kernel4Ideal.Gen
open Idealize.ShloMosaic Idealize.ShloMosaic.TcCoe Idealize.ShloMosaic.StableHlo
open Cert.Mlp

/-- The product's entry: the normalised row with its gains, times a column of the weights, times the column's scale. -/
def entry (A0 : S8192x2048.Idx → EReal) (A1 : S4x2048.Idx → EReal) (A2 : S2x2048x6144.Idx → EReal) (A3 : S1x6144.Idx → EReal) (i : Fin 8192) (n : Fin 6144) : EReal :=
  (∑ d : Fin 2048, rms (fun k => A0 (ix2 i k)) d * A1 (ix2 (1 : Fin 4) d) * A2 (ix3 (0 : Fin 2) d n)) * A3 (ix2 (0 : Fin 1) n)

theorem pay1_at (X : S1024x2048.Idx → EReal) (G : S1x2048.Idx → EReal) (i : Fin 1024) (j : Fin 2048) :
    k0_pay1 (F := Ideal) X G (ix2 i j) = rms (fun k => X (ix2 i k)) j * G (ix2 (0 : Fin 1) j) := by
  unfold rms
  pointwise [k0_pay1]

theorem pay2_at (H : S1024x2048.Idx → EReal) (W : S1x2048x1024.Idx → EReal) (S : S1x1024.Idx → EReal) (i j : Fin 1024) :
    k0_pay2 (F := Ideal) H W S (ix2 i j) = (∑ d : Fin 2048, H (ix2 i d) * W (ix3 (0 : Fin 1) d j)) * S (ix2 (0 : Fin 1) j) := by
  pointwise [k0_pay2]

variable (m : (ℓ : Loc nD τ sig) → Buf (Elt Ideal) ℓ)

theorem out_A (c : Dev nD) (t : Fin cfg0.N) (h0 : t.val % 6 = 0) :
    (outsAt0 m c t.val t.isLt).1 = k0_pay2 (k0_pay1 (iblk m c 0 t) (iblk m c 1 t)) (iblk m c 2 t) (iblk m c 3 t)
    ∧ (outsAt0 m c t.val t.isLt).2 = k0_pay1 (iblk m c 0 t) (iblk m c 1 t) := by
  constructor
  · rw [outsAt0_A m c t h0]
    frame_out
  · rw [outsAt0_A m c t h0]
    frame_out

theorem out_B (c : Dev nD) (t : Fin cfg0.N) (h0 : ¬t.val % 6 = 0) (h : t.val - 1 < cfg0.N) :
    (outsAt0 m c t.val t.isLt).1 = k0_pay2 (outsAt0 m c (t.val - 1) h).2 (iblk m c 2 t) (iblk m c 3 t)
    ∧ (outsAt0 m c t.val t.isLt).2 = (outsAt0 m c (t.val - 1) h).2 := by
  constructor
  · rw [outsAt0_B m c t h0]
    frame_out
    exact congrArg (fun H => k0_pay2 H (iblk m c 2 t) (iblk m c 3 t))
      ((Memref.isWhole_whole cc0_scratch0).read_unread (outsAt0 m c (t.val - 1) h).2)
  · rw [outsAt0_B m c t h0]
    rfl

/-! ## The host's arrays -/

abbrev arg0 (c : Dev nD) : S8192x2048.Idx → EReal := m (c, Proc.tc.devRef main_arg0)
abbrev arg1 (c : Dev nD) : S4x2048.Idx → EReal := m (c, Proc.tc.devRef main_arg1)
abbrev arg2 (c : Dev nD) : S2x2048x6144.Idx → EReal := m (c, Proc.tc.devRef main_arg2)
abbrev arg3 (c : Dev nD) : S1x6144.Idx → EReal := m (c, Proc.tc.devRef main_arg3)

theorem a0_at (c : Dev nD) (i : Fin 8192) (j : Fin 2048) : V m c main_arg0 (ix2 i j) = arg0 m c (ix2 i j) := by
  entry_read
  rfl

theorem a3_at (c : Dev nD) (n : Fin 6144) : V m c main_arg3 (ix2 (0 : Fin 1) n) = arg3 m c (ix2 (0 : Fin 1) n) := by
  entry_read
  rfl

theorem v2_at (c : Dev nD) (l : Fin 2) (d : Fin 2048) (n : Fin 6144) : V m c main_v2 (ix3 l d n) = arg2 m c (ix3 l d n) := by
  entry_read
  pointwise

theorem v3_at (c : Dev nD) (j : Fin 2048) : V m c main_v3 (ix2 (0 : Fin 1) j) = arg1 m c (ix2 (1 : Fin 4) j) := by
  entry_read
  pointwise

/-! ## The blocks of a point -/

theorem idx : ∀ t : Fin cfg0.N, win0_0.index t = ![t.val / 6, 0] ∧ win0_1.index t = ![0, 0] ∧ win0_2.index t = ![0, 0, t.val % 6]
    ∧ win0_3.index t = ![0, t.val % 6] ∧ t.val < 48 :=
  (by decide +kernel : ∀ t : Fin grid0.N, _)

/-- The array's row that is row `i` of the point's block. -/
def row (t : ℕ) (i : Fin 1024) : Fin 8192 := ⟨(t / 6 % 8) * 1024 + i.val, by omega⟩

/-- The array's column that is column `j` of the point's block. -/
def col (t : ℕ) (j : Fin 1024) : Fin 6144 := ⟨t % 6 * 1024 + j.val, by omega⟩

theorem block0 (c : Dev nD) (t : Fin cfg0.N) (i : Fin 1024) (j : Fin 2048) : iblk m c 0 t (ix2 i j) = arg0 m c (ix2 (row t.val i) j) := by
  obtain ⟨i0, i1, i2, i3, i4⟩ := idx t
  have e : row t.val i = ⟨t.val / 6 * 1024 + i.val, by omega⟩ := Fin.ext (by show t.val / 6 % 8 * 1024 + i.val = _; rw [Nat.mod_eq_of_lt (by omega : t.val / 6 < 8)])
  rw [← a0_at, e]
  blk_ext [iblk, V, i0]

theorem block1 (c : Dev nD) (t : Fin cfg0.N) (j : Fin 2048) : iblk m c 1 t (ix2 (0 : Fin 1) j) = arg1 m c (ix2 (1 : Fin 4) j) := by
  obtain ⟨i0, i1, i2, i3, i4⟩ := idx t
  rw [← v3_at]
  blk_ext [iblk, V, i1]

theorem block2 (c : Dev nD) (t : Fin cfg0.N) (d : Fin 2048) (j : Fin 1024) : iblk m c 2 t (ix3 (0 : Fin 1) d j) = arg2 m c (ix3 (0 : Fin 2) d (col t.val j)) := by
  obtain ⟨i0, i1, i2, i3, i4⟩ := idx t
  rw [← v2_at]
  unfold col
  blk_ext [iblk, V, i2]

theorem block3 (c : Dev nD) (t : Fin cfg0.N) (j : Fin 1024) : iblk m c 3 t (ix2 (0 : Fin 1) j) = arg3 m c (ix2 (0 : Fin 1) (col t.val j)) := by
  obtain ⟨i0, i1, i2, i3, i4⟩ := idx t
  rw [← a3_at]
  unfold col
  blk_ext [iblk, V, i3]

/-! ## The normalised block is kept over a row of points -/

/-- The normalised block. -/
def Normed (c : Dev nD) (t : ℕ) (H : S1024x2048.Idx → EReal) : Prop :=
  ∀ (i : Fin 1024) (d : Fin 2048), H (ix2 i d) = rms (fun k => arg0 m c (ix2 (row t i) k)) d * arg1 m c (ix2 (1 : Fin 4) d)

theorem first (c : Dev nD) (t : Fin cfg0.N) : Normed m c t.val (k0_pay1 (F := Ideal) (iblk m c 0 t) (iblk m c 1 t)) := by
  intro i d
  refine (pay1_at _ _ i d).trans ?_
  simp only [block0, block1]

theorem step (c : Dev nD) (t : Fin cfg0.N) (H : S1024x2048.Idx → EReal) (hH : Normed m c t.val H) (i j : Fin 1024) :
    k0_pay2 (F := Ideal) H (iblk m c 2 t) (iblk m c 3 t) (ix2 i j) = entry (arg0 m c) (arg1 m c) (arg2 m c) (arg3 m c) (row t.val i) (col t.val j) := by
  refine (pay2_at _ _ _ i j).trans ?_
  unfold entry
  rw [block3]
  exact congrArg (· * _) (Finset.sum_congr rfl fun d _ => by rw [hH i d, block2])

theorem sweep (c : Dev nD) : ∀ (n : ℕ) (h : n < cfg0.N), Normed m c n (outsAt0 m c n h).2
    ∧ ∀ i j : Fin 1024, (outsAt0 m c n h).1 (ix2 i j) = entry (arg0 m c) (arg1 m c) (arg2 m c) (arg3 m c) (row n i) (col n j) := by
  intro n
  induction n with
  | zero =>
    intro h
    obtain ⟨e1, e2⟩ := out_A m c ⟨0, h⟩ (Nat.zero_mod _)
    have hn := first m c ⟨0, h⟩
    exact ⟨fun i d => (congrFun e2 (ix2 i d)).trans (hn i d), fun i j => (congrFun e1 (ix2 i j)).trans (step m c ⟨0, h⟩ _ hn i j)⟩
  | succ n ih =>
    intro h
    by_cases h0 : (n + 1) % 6 = 0
    · obtain ⟨e1, e2⟩ := out_A m c ⟨n + 1, h⟩ h0
      have hn := first m c ⟨n + 1, h⟩
      exact ⟨fun i d => (congrFun e2 (ix2 i d)).trans (hn i d), fun i j => (congrFun e1 (ix2 i j)).trans (step m c ⟨n + 1, h⟩ _ hn i j)⟩
    · obtain ⟨n1, -⟩ := ih (by omega)
      obtain ⟨e1, e2⟩ := out_B m c ⟨n + 1, h⟩ h0 (by show n < _; omega)
      have hr (i : Fin 1024) : row n i = row (n + 1) i := Fin.ext (by show n / 6 % 8 * 1024 + i.val = (n + 1) / 6 % 8 * 1024 + i.val; omega)
      have hn : Normed m c (n + 1) (outsAt0 m c n (by omega)).2 := fun i d => (n1 i d).trans (by rw [hr])
      exact ⟨fun i d => (congrFun e2 (ix2 i d)).trans (hn i d), fun i j => (congrFun e1 (ix2 i j)).trans (step m c ⟨n + 1, h⟩ _ hn i j)⟩

/-- The array after the run, entry by entry. -/
theorem final (c : Dev nD) (i : Fin 8192) (j : Fin 6144) :
    Value.G4 m c (ix2 i j) = entry (arg0 m c) (arg1 m c) (arg2 m c) (arg3 m c) i j := by
  have hN : cfg0.N = 48 := N_0
  have hp : Value.pt4Of (ix2 i j) = 6 * (i.val / 1024) + j.val / 1024 := by
    show 6 * (i.val / 1024 - 0) + 1 * (j.val / 1024 - 0) = _
    omega
  have hl : Value.loc4Of (ix2 i j) = ix2 (⟨i.val % 1024, by omega⟩ : Fin 1024) (⟨j.val % 1024, by omega⟩ : Fin 1024) := by
    funext a
    apply Fin.ext
    match a with
    | ⟨0, _⟩ => rfl
    | ⟨1, _⟩ => rfl
  have hlt : 6 * (i.val / 1024) + j.val / 1024 < cfg0.N := by omega
  have hr : row (6 * (i.val / 1024) + j.val / 1024) ⟨i.val % 1024, by omega⟩ = i := Fin.ext (by show (6 * (i.val / 1024) + j.val / 1024) / 6 % 8 * 1024 + i.val % 1024 = i.val; omega)
  have hc : col (6 * (i.val / 1024) + j.val / 1024) ⟨j.val % 1024, by omega⟩ = j := Fin.ext (by show (6 * (i.val / 1024) + j.val / 1024) % 6 * 1024 + j.val % 1024 = j.val; omega)
  unfold Value.G4
  rw [dif_pos (by rw [hp]; exact hlt), hl, Value.fold0_congr m c _ _ (6 * (i.val / 1024) + j.val / 1024) (by omega) hp, ← Value.outsAt0_sweep m c _ hlt,
    (sweep m c _ hlt).2, hr, hc]

end Cert.Kernel4Ideal.Proj
end
-- ==== Proof.ProjRef.lean ====
/- The reference of the normalised product of the odd layers' mixers, entry by entry. -/
module

public import proofs.«01_k».proof.Proof.Proj
public import proofs.«01_k».proof.Proof.Gen.Reference4Ideal.Run

@[expose] public section

noncomputable section

namespace Cert.Reference4Ideal.Proj
open Cert.Reference4Ideal Cert.Reference4Ideal.Gen Idealize.ShloMosaic Idealize.ShloMosaic.TcCoe
open Cert.Mlp

/-- Every row over the root of its mean square, times the layer's gains. -/
def normed (X : FVec Ideal S8192x2048 .f32) (A1 : FVec Ideal S4x2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] A1 slices_S4x2048_S1x2048_1_0) shapeCasts_S1x2048_S2048)))

/-- The product with the layer's weights, its columns scaled. -/
def product (H : FVec Ideal S8192x2048 .f32) (A2 : FVec Ideal S2x2048x6144 .f32) (A3 : FVec Ideal S1x6144 .f32) : FVec Ideal S8192x6144 .bf16 :=
  truncf .bf16 (mulf (Host.dotGeneral dot_S8192x2048_S2048x6144_S8192x6144_1_0_0_1_n_n none H (shapeCast _ (extractStridedSlice S1x2048x6144 ![0, 0, 0] A2 slices_S2x2048x6144_S1x2048x6144_0_0_0) shapeCasts_S1x2048x6144_S2048x6144)) (broadcastInDim S8192x6144 ![0, 1] bcast_S1x6144_S8192x6144_0_1 A3)) bitsLt_bf16_f32

theorem normed_at (X : S8192x2048.Idx → EReal) (A1 : S4x2048.Idx → EReal) (i : Fin 8192) (j : Fin 2048) :
    normed X A1 (ix2 i j) = rms (fun k => X (ix2 i k)) j * A1 (ix2 (1 : Fin 4) j) := by
  unfold rms
  pointwise [normed]

theorem product_at (H : S8192x2048.Idx → EReal) (A2 : S2x2048x6144.Idx → EReal) (A3 : S1x6144.Idx → EReal) (i : Fin 8192) (n : Fin 6144) :
    product H A2 A3 (ix2 i n) = (∑ d : Fin 2048, H (ix2 i d) * A2 (ix3 (0 : Fin 2) d n)) * A3 (ix2 (0 : Fin 1) n) := by
  pointwise [product]

theorem result_at (A0 : S8192x2048.Idx → EReal) (A1 : S4x2048.Idx → EReal) (A2 : S2x2048x6144.Idx → EReal) (A3 : S1x6144.Idx → EReal) (i : Fin 8192) (n : Fin 6144) :
    product (normed A0 A1) A2 A3 (ix2 i n) = Kernel4Ideal.Proj.entry A0 A1 A2 A3 i n := by
  unfold Kernel4Ideal.Proj.entry
  simp only [product_at, normed_at]

end Cert.Reference4Ideal.Proj
end
-- ==== Proof.ProjValue.lean ====
/- The value claim of the normalised product of the odd layers' mixers: the idealized kernel and the reference leave the same array. -/
module

public import proofs.«01_k».proof.Defs
public import proofs.«01_k».proof.Proof.Proj
public import proofs.«01_k».proof.Proof.ProjRef
public import proofs.«01_k».proof.Proof.Gen.Kernel4Ideal
public import proofs.«01_k».proof.Proof.Gen.Reference4Ideal

@[expose] public section

noncomputable section

namespace Cert.Value4

open Idealize.ShloMosaic Idealize.ShloMosaic.TcCoe Idealize.SL.Sem

theorem algebraic : @Cert.algebraic_Kernel4Ideal_Reference4Ideal Kernel4Ideal.Gen.facts Reference4Ideal.Gen.facts := by
  intro m ρ m' ρ' _ hagree
  refine ⟨fun c => Kernel4Ideal.Value.G4 m c, ?_, ?_⟩
  · exact Kernel4Ideal.Value.run m ρ
  · refine (θ_run Cert.Reference4Ideal.defs _ _).mono (fun r h c => ⟨(h c).1.trans ?_, (h c).2⟩) (Cert.Reference4Ideal.Value.run (F := Ideal) m' ρ')
    obtain ⟨e0, e1, e2, e3⟩ := hagree c
    refine Eq.trans (b := Reference4Ideal.Proj.product (Reference4Ideal.Proj.normed (m' (c.tc.loc Reference4Ideal.main_arg0)) (m' (c.tc.loc Reference4Ideal.main_arg1))) (m' (c.tc.loc Reference4Ideal.main_arg2)) (m' (c.tc.loc Reference4Ideal.main_arg3))) rfl ?_
    funext y
    have y2 : y = ix2 (y 0) (y 1) := by
      funext a
      fin_cases a <;> rfl
    rw [y2, e0, e1, e2, e3]
    exact (Reference4Ideal.Proj.result_at _ _ _ _ (y 0) (y 1)).trans (Kernel4Ideal.Proj.final m c (y 0) (y 1)).symm

end Cert.Value4

end
-- ==== Proof.OutProj.lean ====
/- The odd layers' output product added to the stream: the two stored values of a point of the grid, and the array that the call
   leaves. -/
module

public import proofs.«01_k».proof.Proof.Gen.Kernel5Ideal.Value
public import Idealize.ShloMosaic.Lib.Pointwise
public import Idealize.ShloMosaic.Lib.Claim
import Idealize.ShloMosaic.Lib.Pipeline.ValueKit.Acc
import Idealize.ShloMosaic.Lib.StableHlo.RunRead
import Idealize.ShloMosaic.Lib.Pipeline.ValueKit.Geometry

@[expose] public section

set_option maxRecDepth 16384

noncomputable section

namespace Cert.Kernel5Ideal.OutProj
open Cert.Kernel5Ideal Cert.Kernel5Ideal.Gen
open Idealize.ShloMosaic Idealize.ShloMosaic.TcCoe Idealize.ShloMosaic.StableHlo

/-- The result's entry: the stream's, and the product's. -/
def entry (A0 : S8192x2048.Idx → EReal) (A1 : S2x2048x2048.Idx → EReal) (A2 : S8192x2048.Idx → EReal) (i : Fin 8192) (j : Fin 2048) : EReal :=
  A2 (ix2 i j) + ∑ d : Fin 2048, A0 (ix2 i d) * A1 (ix3 (0 : Fin 2) d j)

theorem pay1_at (W : S1x2048x2048.Idx → EReal) (d j : Fin 2048) : k0_pay1 (F := Ideal) W (ix2 d j) = W (ix3 (0 : Fin 1) d j) := by
  pointwise [k0_pay1]

theorem pay2_at (R X : S512x2048.Idx → EReal) (W : S2048x2048.Idx → EReal) (i : Fin 512) (j : Fin 2048) :
    k0_pay2 (F := Ideal) R X W (ix2 i j) = R (ix2 i j) + ∑ d : Fin 2048, X (ix2 i d) * W (ix2 d j) := by
  pointwise [k0_pay2]

variable (m : (ℓ : Loc nD τ sig) → Buf (Elt Ideal) ℓ)

theorem out_A (c : Dev nD) (t : Fin cfg0.N) (h0 : t.val % 16 = 0) :
    (outsAt0 m c t.val t.isLt).1 = k0_pay2 (iblk m c 2 t) (iblk m c 0 t) (k0_pay1 (iblk m c 1 t))
    ∧ (outsAt0 m c t.val t.isLt).2 = k0_pay1 (iblk m c 1 t) := by
  constructor
  · rw [outsAt0_A m c t h0]
    frame_out
  · rw [outsAt0_A m c t h0]
    frame_out

theorem out_B (c : Dev nD) (t : Fin cfg0.N) (h0 : ¬t.val % 16 = 0) (h : t.val - 1 < cfg0.N) :
    (outsAt0 m c t.val t.isLt).1 = k0_pay2 (iblk m c 2 t) (iblk m c 0 t) (outsAt0 m c (t.val - 1) h).2
    ∧ (outsAt0 m c t.val t.isLt).2 = (outsAt0 m c (t.val - 1) h).2 := by
  constructor
  · rw [outsAt0_B m c t h0]
    frame_out
    exact congrArg (fun W => k0_pay2 (iblk m c 2 t) (iblk m c 0 t) W)
      ((Memref.isWhole_whole cc0_scratch0).read_unread (outsAt0 m c (t.val - 1) h).2)
  · rw [outsAt0_B m c t h0]
    rfl

/-! ## The host's arrays -/

abbrev arg0 (c : Dev nD) : S8192x2048.Idx → EReal := m (c, Proc.tc.devRef main_arg0)
abbrev arg1 (c : Dev nD) : S2x2048x2048.Idx → EReal := m (c, Proc.tc.devRef main_arg1)
abbrev arg2 (c : Dev nD) : S8192x2048.Idx → EReal := m (c, Proc.tc.devRef main_arg2)

theorem a0_at (c : Dev nD) (i : Fin 8192) (j : Fin 2048) : V m c main_arg0 (ix2 i j) = arg0 m c (ix2 i j) := by
  entry_read
  rfl

theorem a1_at (c : Dev nD) (l : Fin 2) (d j : Fin 2048) : V m c main_arg1 (ix3 l d j) = arg1 m c (ix3 l d j) := by
  entry_read
  rfl

theorem a2_at (c : Dev nD) (i : Fin 8192) (j : Fin 2048) : V m c main_arg2 (ix2 i j) = arg2 m c (ix2 i j) := by
  entry_read
  rfl

/-! ## The blocks of a point -/

theorem idx : ∀ t : Fin cfg0.N, win0_0.index t = ![t.val, 0] ∧ win0_1.index t = ![0, 0, 0] ∧ win0_2.index t = ![t.val, 0] ∧ t.val < 16 :=
  (by decide +kernel : ∀ t : Fin grid0.N, _)

/-- The array's row that is row `i` of the point's block. -/
def row (t : ℕ) (i : Fin 512) : Fin 8192 := ⟨t % 16 * 512 + i.val, by omega⟩

theorem row_of (t : Fin cfg0.N) (i : Fin 512) (h : t.val < 16) : row t.val i = ⟨t.val * 512 + i.val, by omega⟩ :=
  Fin.ext (by show t.val % 16 * 512 + i.val = _; rw [Nat.mod_eq_of_lt h])

theorem block0 (c : Dev nD) (t : Fin cfg0.N) (i : Fin 512) (j : Fin 2048) : iblk m c 0 t (ix2 i j) = arg0 m c (ix2 (row t.val i) j) := by
  obtain ⟨i0, i1, i2, i3⟩ := idx t
  rw [← a0_at, row_of t i i3]
  blk_ext [iblk, V, i0]

theorem block1 (c : Dev nD) (t : Fin cfg0.N) (d j : Fin 2048) : iblk m c 1 t (ix3 (0 : Fin 1) d j) = arg1 m c (ix3 (0 : Fin 2) d j) := by
  obtain ⟨i0, i1, i2, i3⟩ := idx t
  rw [← a1_at]
  blk_ext [iblk, V, i1]

theorem block2 (c : Dev nD) (t : Fin cfg0.N) (i : Fin 512) (j : Fin 2048) : iblk m c 2 t (ix2 i j) = arg2 m c (ix2 (row t.val i) j) := by
  obtain ⟨i0, i1, i2, i3⟩ := idx t
  rw [← a2_at, row_of t i i3]
  blk_ext [iblk, V, i2]

/-! ## The weights are kept over the grid -/

/-- The weights. -/
def Weights (c : Dev nD) (W : S2048x2048.Idx → EReal) : Prop := ∀ d j : Fin 2048, W (ix2 d j) = arg1 m c (ix3 (0 : Fin 2) d j)

theorem first (c : Dev nD) (t : Fin cfg0.N) : Weights m c (k0_pay1 (F := Ideal) (iblk m c 1 t)) :=
  fun d j => (pay1_at _ d j).trans (block1 m c t d j)

theorem step (c : Dev nD) (t : Fin cfg0.N) (W : S2048x2048.Idx → EReal) (hW : Weights m c W) (i : Fin 512) (j : Fin 2048) :
    k0_pay2 (F := Ideal) (iblk m c 2 t) (iblk m c 0 t) W (ix2 i j) = entry (arg0 m c) (arg1 m c) (arg2 m c) (row t.val i) j := by
  refine (pay2_at _ _ _ i j).trans ?_
  unfold entry
  rw [block2]
  exact congrArg (_ + ·) (Finset.sum_congr rfl fun d _ => by rw [hW d j, block0])

theorem sweep (c : Dev nD) : ∀ (n : ℕ) (h : n < cfg0.N), Weights m c (outsAt0 m c n h).2
    ∧ ∀ (i : Fin 512) (j : Fin 2048), (outsAt0 m c n h).1 (ix2 i j) = entry (arg0 m c) (arg1 m c) (arg2 m c) (row n i) j := by
  have hN : cfg0.N = 16 := N_0
  intro n
  induction n with
  | zero =>
    intro h
    obtain ⟨e1, e2⟩ := out_A m c ⟨0, h⟩ (Nat.zero_mod _)
    have hw := first m c ⟨0, h⟩
    exact ⟨fun d j => (congrFun e2 (ix2 d j)).trans (hw d j), fun i j => (congrFun e1 (ix2 i j)).trans (step m c ⟨0, h⟩ _ hw i j)⟩
  | succ n ih =>
    intro h
    obtain ⟨hw, -⟩ := ih (by omega)
    obtain ⟨e1, e2⟩ := out_B m c ⟨n + 1, h⟩ (by show ¬(n + 1) % 16 = 0; omega) (by show n < _; omega)
    exact ⟨fun d j => (congrFun e2 (ix2 d j)).trans (hw d j), fun i j => (congrFun e1 (ix2 i j)).trans (step m c ⟨n + 1, h⟩ _ hw i j)⟩

/-- The array after the run, entry by entry. -/
theorem final (c : Dev nD) (i : Fin 8192) (j : Fin 2048) : Value.G3 m c (ix2 i j) = entry (arg0 m c) (arg1 m c) (arg2 m c) i j := by
  have hN : cfg0.N = 16 := N_0
  have hp : Value.pt3Of (ix2 i j) = i.val / 512 := by
    show 1 * (i.val / 512 - 0) + 1 * (j.val / 2048 - 0) = _
    omega
  have hl : Value.loc3Of (ix2 i j) = ix2 (⟨i.val % 512, by omega⟩ : Fin 512) j := by
    funext a
    apply Fin.ext
    match a with
    | ⟨0, _⟩ => rfl
    | ⟨1, _⟩ => show j.val % 2048 = j.val; omega
  have hlt : i.val / 512 < cfg0.N := by omega
  have hr : row (i.val / 512) ⟨i.val % 512, by omega⟩ = i := Fin.ext (by show i.val / 512 % 16 * 512 + i.val % 512 = i.val; omega)
  unfold Value.G3
  rw [dif_pos (by rw [hp]; exact hlt), hl, Value.fold0_congr m c _ _ (i.val / 512) (by omega) hp, ← Value.outsAt0_sweep m c _ hlt,
    (sweep m c _ hlt).2, hr]

end Cert.Kernel5Ideal.OutProj
end
-- ==== Proof.OutProjRef.lean ====
/- The reference of the odd layers' output product, entry by entry. -/
module

public import proofs.«01_k».proof.Proof.OutProj
public import proofs.«01_k».proof.Proof.Gen.Reference5Ideal.Run

@[expose] public section

noncomputable section

namespace Cert.Reference5Ideal.OutProj
open Cert.Reference5Ideal Cert.Reference5Ideal.Gen Idealize.ShloMosaic Idealize.ShloMosaic.TcCoe

/-- The stream with the product added. -/
def result (A0 : FVec Ideal S8192x2048 .bf16) (A1 : FVec Ideal S2x2048x2048 .f32) (A2 : FVec Ideal S8192x2048 .f32) : FVec Ideal S8192x2048 .f32 :=
  addf A2 (Host.dotGeneral dot_S8192x2048_S2048x2048_S8192x2048_1_0_0_1_n_n none A0 (shapeCast _ (extractStridedSlice S1x2048x2048 ![0, 0, 0] A1 slices_S2x2048x2048_S1x2048x2048_0_0_0) shapeCasts_S1x2048x2048_S2048x2048))

theorem result_at (A0 : S8192x2048.Idx → EReal) (A1 : S2x2048x2048.Idx → EReal) (A2 : S8192x2048.Idx → EReal) (i : Fin 8192) (j : Fin 2048) :
    result A0 A1 A2 (ix2 i j) = Kernel5Ideal.OutProj.entry A0 A1 A2 i j := by
  unfold Kernel5Ideal.OutProj.entry
  pointwise [result]

end Cert.Reference5Ideal.OutProj
end
-- ==== Proof.OutProjValue.lean ====
/- The value claim of the odd layers' output product: the idealized kernel and the reference leave the same array. -/
module

public import proofs.«01_k».proof.Defs
public import proofs.«01_k».proof.Proof.OutProj
public import proofs.«01_k».proof.Proof.OutProjRef
public import proofs.«01_k».proof.Proof.Gen.Kernel5Ideal
public import proofs.«01_k».proof.Proof.Gen.Reference5Ideal

@[expose] public section

noncomputable section

namespace Cert.Value5

open Idealize.ShloMosaic Idealize.ShloMosaic.TcCoe Idealize.SL.Sem

theorem algebraic : @Cert.algebraic_Kernel5Ideal_Reference5Ideal Kernel5Ideal.Gen.facts Reference5Ideal.Gen.facts := by
  intro m ρ m' ρ' _ hagree
  refine ⟨fun c => Kernel5Ideal.Value.G3 m c, ?_, ?_⟩
  · exact Kernel5Ideal.Value.run m ρ
  · refine (θ_run Cert.Reference5Ideal.defs _ _).mono (fun r h c => ⟨(h c).1.trans ?_, (h c).2⟩) (Cert.Reference5Ideal.Value.run (F := Ideal) m' ρ')
    obtain ⟨e0, e1, e2⟩ := hagree c
    refine Eq.trans (b := Reference5Ideal.OutProj.result (m' (c.tc.loc Reference5Ideal.main_arg0)) (m' (c.tc.loc Reference5Ideal.main_arg1)) (m' (c.tc.loc Reference5Ideal.main_arg2))) rfl ?_
    funext y
    have y2 : y = ix2 (y 0) (y 1) := by
      funext a
      fin_cases a <;> rfl
    rw [y2, e0, e1, e2]
    exact (Reference5Ideal.OutProj.result_at _ _ _ (y 0) (y 1)).trans (Kernel5Ideal.OutProj.final m c (y 0) (y 1)).symm

end Cert.Value5

end
-- ==== Proof.Even.lean ====
/- The product of the even layers' mixers: the scratch of column slabs, and the two by-class copies of a point's block read
   from it. -/
module

public import proofs.«01_k».proof.Proof.Gen.Kernel6Ideal.Value
public import Idealize.ShloMosaic.Lib.Pointwise
public import Idealize.ShloMosaic.Lib.Claim
import Idealize.ShloMosaic.Lib.Pipeline.ValueKit.Acc
public import Idealize.ShloMosaic.Lib.Pipeline.ValueKit.Tiles
import Idealize.ShloMosaic.Lib.StableHlo.RunRead
import Idealize.ShloMosaic.Lib.Pipeline.ValueKit.Geometry

@[expose] public section

set_option maxRecDepth 16384

noncomputable section

namespace Cert.Kernel6Ideal.Even
open Cert.Kernel6Ideal Cert.Kernel6Ideal.Gen
open Idealize.ShloMosaic Idealize.ShloMosaic.TcCoe Idealize.ShloMosaic.StableHlo

variable (m : (ℓ : Loc nD τ sig) → Buf (Elt Ideal) ℓ)

theorem outs_A (c : Dev nD) (t : Fin cfg0.N) (h0 : t.val % 5 = 0) :
    (outsAt0 m c t.val t.isLt).1 = k0_pay4 (k0_pay2 (iblk m c 0 t) (iblk m c 1 t)) (iblk m c 2 t) (iblk m c 3 t)
    ∧ (outsAt0 m c t.val t.isLt).2.2.2 = k0_pay2 (iblk m c 0 t) (iblk m c 1 t) := by
  constructor
  · rw [outsAt0_A m c t h0]
    frame_out
  · rw [outsAt0_A m c t h0]
    frame_out

theorem outs_B (c : Dev nD) (t : Fin cfg0.N) (h0 : ¬t.val % 5 = 0) (h : t.val - 1 < cfg0.N) :
    (outsAt0 m c t.val t.isLt).1 = k0_pay4 (outsAt0 m c (t.val - 1) h).2.2.2 (iblk m c 2 t) (iblk m c 3 t)
    ∧ (outsAt0 m c t.val t.isLt).2.2.2 = (outsAt0 m c (t.val - 1) h).2.2.2 := by
  constructor
  · rw [outsAt0_B m c t h0]
    frame_out
    exact congrArg (fun H => k0_pay4 H (iblk m c 2 t) (iblk m c 3 t))
      ((Memref.isWhole_whole cc0_scratch0).read_unread (outsAt0 m c (t.val - 1) h).2.2.2)
  · rw [outsAt0_B m c t h0]
    rfl

/-- What the scratch holds: the product's columns, 128 to a slab. -/
def Slabs (P : S1024x1024.Idx → EReal) (L : List (View.Piece (Elt Ideal) S8x1024x128 .f32)) : Prop :=
  ∀ y : S8x1024x128.Idx, View.canon L y = P (ix2 (⟨(y 1).val, (y 1).isLt⟩ : Fin 1024) (⟨128 * (y 0).val + (y 2).val, by have h0 : (y 0).val < 8 := (y 0).isLt; have h2 : (y 2).val < 128 := (y 2).isLt; omega⟩ : Fin 1024))

theorem eta1024 (x : S1x1024x128.Idx) : x = ix3 (0 : Fin 1) (x 1 : Fin 1024) (x 2 : Fin 128) := by
  funext a
  fin_cases a
  · exact Subsingleton.elim (α := Fin 1) _ _
  · rfl
  · rfl

theorem slab0_at (H : S1024x2048.Idx → EReal) (W : S1x2048x1024.Idx → EReal) (S : S1x1024.Idx → EReal) (x : S1x1024x128.Idx) :
    k0_pay5 (F := Ideal) H W S x = k0_pay3 (F := Ideal) H W S (ix2 (⟨(x 1).val, (x 1).isLt⟩ : Fin 1024) (⟨0 + (x 2).val, by have h : (x 2).val < 128 := (x 2).isLt; omega⟩ : Fin 1024)) := by
  rw [eta1024 x]
  pointwise [k0_pay5]

theorem slab1_at (H : S1024x2048.Idx → EReal) (W : S1x2048x1024.Idx → EReal) (S : S1x1024.Idx → EReal) (x : S1x1024x128.Idx) :
    k0_pay6 (F := Ideal) H W S x = k0_pay3 (F := Ideal) H W S (ix2 (⟨(x 1).val, (x 1).isLt⟩ : Fin 1024) (⟨128 + (x 2).val, by have h : (x 2).val < 128 := (x 2).isLt; omega⟩ : Fin 1024)) := by
  rw [eta1024 x]
  pointwise [k0_pay6]

theorem slab2_at (H : S1024x2048.Idx → EReal) (W : S1x2048x1024.Idx → EReal) (S : S1x1024.Idx → EReal) (x : S1x1024x128.Idx) :
    k0_pay7 (F := Ideal) H W S x = k0_pay3 (F := Ideal) H W S (ix2 (⟨(x 1).val, (x 1).isLt⟩ : Fin 1024) (⟨256 + (x 2).val, by have h : (x 2).val < 128 := (x 2).isLt; omega⟩ : Fin 1024)) := by
  rw [eta1024 x]
  pointwise [k0_pay7]

theorem slab3_at (H : S1024x2048.Idx → EReal) (W : S1x2048x1024.Idx → EReal) (S : S1x1024.Idx → EReal) (x : S1x1024x128.Idx) :
    k0_pay8 (F := Ideal) H W S x = k0_pay3 (F := Ideal) H W S (ix2 (⟨(x 1).val, (x 1).isLt⟩ : Fin 1024) (⟨384 + (x 2).val, by have h : (x 2).val < 128 := (x 2).isLt; omega⟩ : Fin 1024)) := by
  rw [eta1024 x]
  pointwise [k0_pay8]

theorem slab4_at (P : S1024x1024.Idx → EReal) (x : S1x1024x128.Idx) :
    k0_pay9 (F := Ideal) P x = P (ix2 (⟨(x 1).val, (x 1).isLt⟩ : Fin 1024) (⟨512 + (x 2).val, by have h : (x 2).val < 128 := (x 2).isLt; omega⟩ : Fin 1024)) := by
  rw [eta1024 x]
  pointwise [k0_pay9]

theorem slab5_at (P : S1024x1024.Idx → EReal) (x : S1x1024x128.Idx) :
    k0_pay10 (F := Ideal) P x = P (ix2 (⟨(x 1).val, (x 1).isLt⟩ : Fin 1024) (⟨640 + (x 2).val, by have h : (x 2).val < 128 := (x 2).isLt; omega⟩ : Fin 1024)) := by
  rw [eta1024 x]
  pointwise [k0_pay10]

theorem slab6_at (P : S1024x1024.Idx → EReal) (x : S1x1024x128.Idx) :
    k0_pay11 (F := Ideal) P x = P (ix2 (⟨(x 1).val, (x 1).isLt⟩ : Fin 1024) (⟨768 + (x 2).val, by have h : (x 2).val < 128 := (x 2).isLt; omega⟩ : Fin 1024)) := by
  rw [eta1024 x]
  pointwise [k0_pay11]

theorem slab7_at (P : S1024x1024.Idx → EReal) (x : S1x1024x128.Idx) :
    k0_pay12 (F := Ideal) P x = P (ix2 (⟨(x 1).val, (x 1).isLt⟩ : Fin 1024) (⟨896 + (x 2).val, by have h : (x 2).val < 128 := (x 2).isLt; omega⟩ : Fin 1024)) := by
  rw [eta1024 x]
  pointwise [k0_pay12]

theorem slabs (H : S1024x2048.Idx → EReal) (W : S1x2048x1024.Idx → EReal) (S : S1x1024.Idx → EReal) :
    Slabs (k0_pay3 (F := Ideal) H W S)
     [⟨Rect.unit ![7, 0, 0] S1x1024x128.size inb_S8x1024x128_S1x1024x128_7_0_0, k0_pay12 (F := Ideal) (k0_pay3 H W S)⟩,
      ⟨Rect.unit ![6, 0, 0] S1x1024x128.size inb_S8x1024x128_S1x1024x128_6_0_0, k0_pay11 (F := Ideal) (k0_pay3 H W S)⟩,
      ⟨Rect.unit ![5, 0, 0] S1x1024x128.size inb_S8x1024x128_S1x1024x128_5_0_0, k0_pay10 (F := Ideal) (k0_pay3 H W S)⟩,
      ⟨Rect.unit ![4, 0, 0] S1x1024x128.size inb_S8x1024x128_S1x1024x128_4_0_0, k0_pay9 (F := Ideal) (k0_pay3 H W S)⟩,
      ⟨Rect.unit ![3, 0, 0] S1x1024x128.size inb_S8x1024x128_S1x1024x128_3_0_0, k0_pay8 (F := Ideal) H W S⟩,
      ⟨Rect.unit ![2, 0, 0] S1x1024x128.size inb_S8x1024x128_S1x1024x128_2_0_0, k0_pay7 (F := Ideal) H W S⟩,
      ⟨Rect.unit ![1, 0, 0] S1x1024x128.size inb_S8x1024x128_S1x1024x128_1_0_0, k0_pay6 (F := Ideal) H W S⟩,
      ⟨Rect.unit ![0, 0, 0] S1x1024x128.size inb_S8x1024x128_S1x1024x128_0_0_0, k0_pay5 (F := Ideal) H W S⟩] := by
  intro y
  canon_tiles x h
  case piece0 => exact (slab7_at _ x).trans (congrArg (k0_pay3 (F := Ideal) H W S) (congrArg₂ ix2 (Fin.ext h1.symm) (Fin.ext (by show 896 + (x 2).val = 128 * (y 0).val + (y 2).val; omega))))
  case piece1 => exact (slab6_at _ x).trans (congrArg (k0_pay3 (F := Ideal) H W S) (congrArg₂ ix2 (Fin.ext h1.symm) (Fin.ext (by show 768 + (x 2).val = 128 * (y 0).val + (y 2).val; omega))))
  case piece2 => exact (slab5_at _ x).trans (congrArg (k0_pay3 (F := Ideal) H W S) (congrArg₂ ix2 (Fin.ext h1.symm) (Fin.ext (by show 640 + (x 2).val = 128 * (y 0).val + (y 2).val; omega))))
  case piece3 => exact (slab4_at _ x).trans (congrArg (k0_pay3 (F := Ideal) H W S) (congrArg₂ ix2 (Fin.ext h1.symm) (Fin.ext (by show 512 + (x 2).val = 128 * (y 0).val + (y 2).val; omega))))
  case piece4 => exact (slab3_at _ _ _ x).trans (congrArg (k0_pay3 (F := Ideal) H W S) (congrArg₂ ix2 (Fin.ext h1.symm) (Fin.ext (by show 384 + (x 2).val = 128 * (y 0).val + (y 2).val; omega))))
  case piece5 => exact (slab2_at _ _ _ x).trans (congrArg (k0_pay3 (F := Ideal) H W S) (congrArg₂ ix2 (Fin.ext h1.symm) (Fin.ext (by show 256 + (x 2).val = 128 * (y 0).val + (y 2).val; omega))))
  case piece6 => exact (slab1_at _ _ _ x).trans (congrArg (k0_pay3 (F := Ideal) H W S) (congrArg₂ ix2 (Fin.ext h1.symm) (Fin.ext (by show 128 + (x 2).val = 128 * (y 0).val + (y 2).val; omega))))
  case piece7 => exact (slab0_at _ _ _ x).trans (congrArg (k0_pay3 (F := Ideal) H W S) (congrArg₂ ix2 (Fin.ext h1.symm) (Fin.ext (by show 0 + (x 2).val = 128 * (y 0).val + (y 2).val; omega))))

theorem pay4_at (H : S1024x2048.Idx → EReal) (W : S1x2048x1024.Idx → EReal) (S : S1x1024.Idx → EReal) (z : S1024x1024.Idx) :
    k0_pay4 (F := Ideal) H W S z = k0_pay3 (F := Ideal) H W S z := rfl

theorem eta256 (x : S1x256x128.Idx) : x = ix3 (0 : Fin 1) (x 1 : Fin 256) (x 2 : Fin 128) := by
  funext a
  fin_cases a
  · exact Subsingleton.elim (α := Fin 1) _ _
  · rfl
  · rfl

theorem pay13_ix (V : S1x256x128.Idx → EReal) (i : Fin 256) (j : Fin 128) : k0_pay13 (F := Ideal) V (ix3 (0 : Fin 1) i j) = V (ix3 (0 : Fin 1) i j) := by
  pointwise [k0_pay13]

theorem pay13_at (V : S1x256x128.Idx → EReal) (x : S1x256x128.Idx) : k0_pay13 (F := Ideal) V x = V x :=
  (congrArg _ (eta256 x)).trans ((pay13_ix V (x 1) (x 2)).trans (congrArg V (eta256 x).symm))

theorem tile5 (P : S1024x1024.Idx → EReal) (L : List (View.Piece (Elt Ideal) S8x1024x128 .f32)) (hL : Slabs P L) {κ : Kind} {sp : Space} (u : View sig κ sp S8x1024x128 .f32) (y : S4x256x1024.Idx) (b k o : ℕ)
    (inb : ∀ a, S1x256x128.size a = 0 ∨ ![b, k, 0] a + ![1, 4, 1] a * (S1x256x128.size a - 1) < S8x1024x128.size a) (w : S1x256x128.Idx → EReal)
    (s1 : S1x256x128.ShapeCasts S256x128) (s2 : FTy.bits .bf16 < FTy.bits .f32) (s3 : S256x128.ShapeCasts S1x256x128)
    (hw : w = shapeCast S1x256x128 (truncf (F := Ideal) .bf16 (shapeCast S256x128 (u.readCov (Val := Elt Ideal) L ⟨![b, k, 0], S1x256x128.size, ![1, 4, 1], inb⟩) s1) s2) s3)
    (ho : o = 128 * b) :
    View.TileAt (Val := Elt Ideal) (e := .bf16) y ![k, 0, o] S1x256x128.size w (P (ix2 (⟨4 * (y 1).val + (y 0).val, by have h0 : (y 0).val < 4 := (y 0).isLt; have h1 : (y 1).val < 256 := (y 1).isLt; omega⟩ : Fin 1024) (⟨(y 2).val, (y 2).isLt⟩ : Fin 1024))) := by
  subst hw
  subst ho
  tile_intro x h
  refine (pay13_at _ x).trans ?_
  refine (congrFun (View.readCov_eq_canon' (Val := Elt Ideal) u L (⟨![b, k, 0], S1x256x128.size, ![1, 4, 1], inb⟩ : LoadRect S8x1024x128)) x).trans ?_
  refine (hL _).trans ?_
  refine congrArg P (congrArg₂ ix2 (Fin.ext ?_) (Fin.ext ?_))
  · show k + 4 * (x 1).val = 4 * (y 1).val + (y 0).val
    omega
  · show 128 * (b + 1 * (x 0).val) + (0 + 1 * (x 2).val) = (y 2).val
    omega

theorem eta64 (x : S1x64x128.Idx) : x = ix3 (0 : Fin 1) (x 1 : Fin 64) (x 2 : Fin 128) := by
  funext a
  fin_cases a
  · exact Subsingleton.elim (α := Fin 1) _ _
  · rfl
  · rfl

theorem pay6_ix (V : S1x64x128.Idx → EReal) (i : Fin 64) (j : Fin 128) : k0_pay49 (F := Ideal) V (ix3 (0 : Fin 1) i j) = V (ix3 (0 : Fin 1) i j) := by
  pointwise [k0_pay49]

theorem pay6_at (V : S1x64x128.Idx → EReal) (x : S1x64x128.Idx) : k0_pay49 (F := Ideal) V x = V x :=
  (congrArg _ (eta64 x)).trans ((pay6_ix V (x 1) (x 2)).trans (congrArg V (eta64 x).symm))

theorem tile6 (P : S1024x1024.Idx → EReal) (L : List (View.Piece (Elt Ideal) S8x1024x128 .f32)) (hL : Slabs P L) {κ : Kind} {sp : Space} (u : View sig κ sp S8x1024x128 .f32) (y : S16x64x1024.Idx) (b k o : ℕ)
    (inb : ∀ a, S1x64x128.size a = 0 ∨ ![b, k, 0] a + ![1, 16, 1] a * (S1x64x128.size a - 1) < S8x1024x128.size a) (w : S1x64x128.Idx → EReal)
    (s1 : S1x64x128.ShapeCasts S64x128) (s2 : FTy.bits .bf16 < FTy.bits .f32) (s3 : S64x128.ShapeCasts S1x64x128)
    (hw : w = shapeCast S1x64x128 (truncf (F := Ideal) .bf16 (shapeCast S64x128 (u.readCov (Val := Elt Ideal) L ⟨![b, k, 0], S1x64x128.size, ![1, 16, 1], inb⟩) s1) s2) s3)
    (ho : o = 128 * b) :
    View.TileAt (Val := Elt Ideal) (e := .bf16) y ![k, 0, o] S1x64x128.size w (P (ix2 (⟨16 * (y 1).val + (y 0).val, by have h0 : (y 0).val < 16 := (y 0).isLt; have h1 : (y 1).val < 64 := (y 1).isLt; omega⟩ : Fin 1024) (⟨(y 2).val, (y 2).isLt⟩ : Fin 1024))) := by
  subst hw
  subst ho
  tile_intro x h
  refine (pay6_at _ x).trans ?_
  refine (congrFun (View.readCov_eq_canon' (Val := Elt Ideal) u L (⟨![b, k, 0], S1x64x128.size, ![1, 16, 1], inb⟩ : LoadRect S8x1024x128)) x).trans ?_
  refine (hL _).trans ?_
  refine congrArg P (congrArg₂ ix2 (Fin.ext ?_) (Fin.ext ?_))
  · show k + 16 * (x 1).val = 16 * (y 1).val + (y 0).val
    omega
  · show 128 * (b + 1 * (x 0).val) + (0 + 1 * (x 2).val) = (y 2).val
    omega

end Cert.Kernel6Ideal.Even
end
-- ==== Proof.EvenFirst.lean ====
/- The by-class copies of the even layers' product at a row of points' first point. -/
module

public import proofs.«01_k».proof.Proof.Even
public import Idealize.ShloMosaic.Lib.Pointwise
public import Idealize.ShloMosaic.Lib.Claim
import Idealize.ShloMosaic.Lib.Pipeline.ValueKit.Acc
public import Idealize.ShloMosaic.Lib.Pipeline.ValueKit.Tiles
import Idealize.ShloMosaic.Lib.StableHlo.RunRead
import Idealize.ShloMosaic.Lib.Pipeline.ValueKit.Geometry

@[expose] public section

set_option maxRecDepth 16384

noncomputable section

namespace Cert.Kernel6Ideal.Even
open Cert.Kernel6Ideal Cert.Kernel6Ideal.Gen
open Idealize.ShloMosaic Idealize.ShloMosaic.TcCoe Idealize.ShloMosaic.StableHlo

variable (m : (ℓ : Loc nD τ sig) → Buf (Elt Ideal) ℓ)

set_option maxHeartbeats 4000000

theorem prod_A (c : Dev nD) (t : Fin cfg0.N) (h0 : t.val % 5 = 0) :
    ∃ P : S1024x1024.Idx → EReal, (∀ z, (outsAt0 m c t.val t.isLt).1 z = P z) ∧ Slabs P (kernelRun0_A.sl.HS1_8 c (ms0_0 t) (hs0_0 t) (ms0_1 t) (hs0_1 t) (ms0_2 t) (hs0_2 t) (ms0_3 t) (hs0_3 t) scM0_0 (iblk m c 0 t) (iblk m c 1 t) (iblk m c 2 t) (iblk m c 3 t)) := by
  have key : ∀ (x0 : S1024x2048.Idx → EReal) (x1 : S1x2048.Idx → EReal) (x2 : S1x2048x1024.Idx → EReal) (x3 : S1x1024.Idx → EReal),
      Slabs (kernelRun0_A.sl.r (F := Ideal) c (ms0_0 t) (hs0_0 t) (ms0_1 t) (hs0_1 t) (ms0_2 t) (hs0_2 t) (ms0_3 t) (hs0_3 t) scM0_0 x0 x1 x2 x3) (kernelRun0_A.sl.HS1_8 c (ms0_0 t) (hs0_0 t) (ms0_1 t) (hs0_1 t) (ms0_2 t) (hs0_2 t) (ms0_3 t) (hs0_3 t) scM0_0 x0 x1 x2 x3) := by
    intro x0 x1 x2 x3
    delta kernelRun0_A.sl.HS1_8 kernelRun0_A.sl.r
    generalize kernelRun0_A.sl.v3 (F := Ideal) c (ms0_0 t) (hs0_0 t) (ms0_1 t) (hs0_1 t) scM0_0 x0 x1 = H
    generalize View.readAt (Elt Ideal) (ms0_2 t).view _ _ = W
    generalize View.readAt (Elt Ideal) (ms0_3 t).view _ _ = S
    exact slabs H W S
  refine ⟨kernelRun0_A.sl.r c (ms0_0 t) (hs0_0 t) (ms0_1 t) (hs0_1 t) (ms0_2 t) (hs0_2 t) (ms0_3 t) (hs0_3 t) scM0_0 (iblk m c 0 t) (iblk m c 1 t) (iblk m c 2 t) (iblk m c 3 t), ?_, key _ _ _ _⟩
  intro z
  rw [outsAt0_A m c t h0]
  dsimp only
  unfold out0_A_4
  rw [View.read_writes_junk_eq_canon]
  delta kernelRun0_A
  dsimp only
  refine (congrFun (View.canon_cons_unit_lit _ _ [] (by decide)) z).trans ?_
  exact pay4_at _ _ _ z

theorem out5_A (c : Dev nD) (t : Fin cfg0.N) (h0 : t.val % 5 = 0) (y : S4x256x1024.Idx) :
    (outsAt0 m c t.val t.isLt).2.1 y = (outsAt0 m c t.val t.isLt).1 (ix2 (⟨4 * (y 1).val + (y 0).val, by have h0 : (y 0).val < 4 := (y 0).isLt; have h1 : (y 1).val < 256 := (y 1).isLt; omega⟩ : Fin 1024) (⟨(y 2).val, (y 2).isLt⟩ : Fin 1024)) := by
  obtain ⟨P, hP, hL⟩ := prod_A m c t h0
  have hcov := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) y
  rw [hP, outsAt0_A m c t h0]
  dsimp only
  unfold out0_A_5
  rw [View.read_writes_junk_eq_canon]
  refine View.canon_eq_of_allAt _ _ _ hcov ?_
  clear hcov
  delta kernelRun0_A
  dsimp only
  delta kernelRun0_A.sl.r_1 kernelRun0_A.sl.r_2 kernelRun0_A.sl.r_3 kernelRun0_A.sl.r_4
  delta kernelRun0_A.sl.v44 kernelRun0_A.sl.v50 kernelRun0_A.sl.v56 kernelRun0_A.sl.v62 kernelRun0_A.sl.v68 kernelRun0_A.sl.v74 kernelRun0_A.sl.v80
      kernelRun0_A.sl.v86 kernelRun0_A.sl.v92 kernelRun0_A.sl.v98 kernelRun0_A.sl.v104 kernelRun0_A.sl.v110 kernelRun0_A.sl.v116 kernelRun0_A.sl.v122
      kernelRun0_A.sl.v128 kernelRun0_A.sl.v134 kernelRun0_A.sl.v140 kernelRun0_A.sl.v146 kernelRun0_A.sl.v152 kernelRun0_A.sl.v158
      kernelRun0_A.sl.v164 kernelRun0_A.sl.v170 kernelRun0_A.sl.v176 kernelRun0_A.sl.v182 kernelRun0_A.sl.v188 kernelRun0_A.sl.v194
      kernelRun0_A.sl.v200 kernelRun0_A.sl.v206 kernelRun0_A.sl.v212 kernelRun0_A.sl.v218 kernelRun0_A.sl.v224 kernelRun0_A.sl.v230
  delta k0_pay13 k0_pay14 k0_pay15 k0_pay16 k0_pay17 k0_pay18 k0_pay19 k0_pay20 k0_pay21 k0_pay22 k0_pay23 k0_pay24 k0_pay25 k0_pay26 k0_pay27 k0_pay28
      k0_pay29 k0_pay30 k0_pay31 k0_pay32 k0_pay33 k0_pay34 k0_pay35 k0_pay36 k0_pay37 k0_pay38 k0_pay39 k0_pay40 k0_pay41 k0_pay42 k0_pay43 k0_pay44
      k0_pay45 k0_pay46 k0_pay47 k0_pay48
  dsimp only
  generalize kernelRun0_A.sl.HS1_8 c (ms0_0 t) _ (ms0_1 t) _ (ms0_2 t) _ (ms0_3 t) _ scM0_0 (iblk m c 0 t) (iblk m c 1 t) (iblk m c 2 t) (iblk m c 3 t) = L at hL ⊢
  iterate 32 refine View.allAt_cons_unit _ _ _ _ _ (tile5 P _ hL _ y _ _ _ _ _ _ _ _ rfl rfl) ?_
  exact View.allAt_nil _ _

theorem out6_A (c : Dev nD) (t : Fin cfg0.N) (h0 : t.val % 5 = 0) (y : S16x64x1024.Idx) :
    (outsAt0 m c t.val t.isLt).2.2.1 y = (outsAt0 m c t.val t.isLt).1 (ix2 (⟨16 * (y 1).val + (y 0).val, by have h0 : (y 0).val < 16 := (y 0).isLt; have h1 : (y 1).val < 64 := (y 1).isLt; omega⟩ : Fin 1024) (⟨(y 2).val, (y 2).isLt⟩ : Fin 1024)) := by
  obtain ⟨P, hP, hL⟩ := prod_A m c t h0
  have hcov := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) y
  rw [hP, outsAt0_A m c t h0]
  dsimp only
  unfold out0_A_6
  rw [View.read_writes_junk_eq_canon]
  refine View.canon_eq_of_allAt _ _ _ hcov ?_
  clear hcov
  delta kernelRun0_A
  dsimp only
  delta kernelRun0_A.sl.r_5 kernelRun0_A.sl.r_6 kernelRun0_A.sl.r_7 kernelRun0_A.sl.r_8 kernelRun0_A.sl.r_9 kernelRun0_A.sl.r_10 kernelRun0_A.sl.r_11
      kernelRun0_A.sl.r_12 kernelRun0_A.sl.r_13 kernelRun0_A.sl.r_14 kernelRun0_A.sl.r_15 kernelRun0_A.sl.r_16 kernelRun0_A.sl.r_17
      kernelRun0_A.sl.r_18 kernelRun0_A.sl.r_19 kernelRun0_A.sl.r_20 kernelRun0_A.sl.r_21
  delta kernelRun0_A.sl.v998 kernelRun0_A.sl.v236 kernelRun0_A.sl.v242 kernelRun0_A.sl.v248 kernelRun0_A.sl.v254 kernelRun0_A.sl.v260
      kernelRun0_A.sl.v266 kernelRun0_A.sl.v272 kernelRun0_A.sl.v278 kernelRun0_A.sl.v284 kernelRun0_A.sl.v290 kernelRun0_A.sl.v296
      kernelRun0_A.sl.v302 kernelRun0_A.sl.v308 kernelRun0_A.sl.v314 kernelRun0_A.sl.v320 kernelRun0_A.sl.v326 kernelRun0_A.sl.v338
      kernelRun0_A.sl.v344 kernelRun0_A.sl.v350 kernelRun0_A.sl.v356 kernelRun0_A.sl.v362 kernelRun0_A.sl.v368 kernelRun0_A.sl.v374
      kernelRun0_A.sl.v380 kernelRun0_A.sl.v386 kernelRun0_A.sl.v392 kernelRun0_A.sl.v398 kernelRun0_A.sl.v404 kernelRun0_A.sl.v410
      kernelRun0_A.sl.v416 kernelRun0_A.sl.v422 kernelRun0_A.sl.v428 kernelRun0_A.sl.v434 kernelRun0_A.sl.v440 kernelRun0_A.sl.v446
      kernelRun0_A.sl.v452 kernelRun0_A.sl.v458 kernelRun0_A.sl.v464 kernelRun0_A.sl.v470 kernelRun0_A.sl.v476 kernelRun0_A.sl.v482
      kernelRun0_A.sl.v488 kernelRun0_A.sl.v494 kernelRun0_A.sl.v500 kernelRun0_A.sl.v506 kernelRun0_A.sl.v512 kernelRun0_A.sl.v518
      kernelRun0_A.sl.v524 kernelRun0_A.sl.v530 kernelRun0_A.sl.v536 kernelRun0_A.sl.v542 kernelRun0_A.sl.v548 kernelRun0_A.sl.v554
      kernelRun0_A.sl.v560 kernelRun0_A.sl.v566 kernelRun0_A.sl.v572 kernelRun0_A.sl.v578 kernelRun0_A.sl.v584 kernelRun0_A.sl.v590
      kernelRun0_A.sl.v596 kernelRun0_A.sl.v602 kernelRun0_A.sl.v608 kernelRun0_A.sl.v614 kernelRun0_A.sl.v620 kernelRun0_A.sl.v626
      kernelRun0_A.sl.v632 kernelRun0_A.sl.v638 kernelRun0_A.sl.v644 kernelRun0_A.sl.v650 kernelRun0_A.sl.v656 kernelRun0_A.sl.v662
      kernelRun0_A.sl.v668 kernelRun0_A.sl.v674 kernelRun0_A.sl.v680 kernelRun0_A.sl.v686 kernelRun0_A.sl.v698 kernelRun0_A.sl.v704
      kernelRun0_A.sl.v710 kernelRun0_A.sl.v716 kernelRun0_A.sl.v722 kernelRun0_A.sl.v728 kernelRun0_A.sl.v734 kernelRun0_A.sl.v740
      kernelRun0_A.sl.v746 kernelRun0_A.sl.v752 kernelRun0_A.sl.v758 kernelRun0_A.sl.v764 kernelRun0_A.sl.v770 kernelRun0_A.sl.v776
      kernelRun0_A.sl.v782 kernelRun0_A.sl.v788 kernelRun0_A.sl.v794 kernelRun0_A.sl.v800 kernelRun0_A.sl.v806 kernelRun0_A.sl.v812
      kernelRun0_A.sl.v818 kernelRun0_A.sl.v824 kernelRun0_A.sl.v830 kernelRun0_A.sl.v836 kernelRun0_A.sl.v842 kernelRun0_A.sl.v848
      kernelRun0_A.sl.v854 kernelRun0_A.sl.v860 kernelRun0_A.sl.v866 kernelRun0_A.sl.v872 kernelRun0_A.sl.v878 kernelRun0_A.sl.v884
      kernelRun0_A.sl.v890 kernelRun0_A.sl.v896 kernelRun0_A.sl.v902 kernelRun0_A.sl.v908 kernelRun0_A.sl.v914 kernelRun0_A.sl.v920
      kernelRun0_A.sl.v926 kernelRun0_A.sl.v932 kernelRun0_A.sl.v938 kernelRun0_A.sl.v944 kernelRun0_A.sl.v950 kernelRun0_A.sl.v956
      kernelRun0_A.sl.v962 kernelRun0_A.sl.v968 kernelRun0_A.sl.v974 kernelRun0_A.sl.v980 kernelRun0_A.sl.v986 kernelRun0_A.sl.v992 kernelRun0_A.sl.v
      kernelRun0_A.sl.v_1
  delta k0_pay1 k0_pay49 k0_pay50 k0_pay51 k0_pay52 k0_pay53 k0_pay54 k0_pay55 k0_pay56 k0_pay57 k0_pay58 k0_pay59 k0_pay60 k0_pay61 k0_pay62 k0_pay63
      k0_pay64 k0_pay65 k0_pay66 k0_pay67 k0_pay68 k0_pay69 k0_pay70 k0_pay71 k0_pay72 k0_pay73 k0_pay74 k0_pay75 k0_pay76 k0_pay77 k0_pay78 k0_pay79
      k0_pay80 k0_pay81 k0_pay82 k0_pay83 k0_pay84 k0_pay85 k0_pay86 k0_pay87 k0_pay88 k0_pay89 k0_pay90 k0_pay91 k0_pay92 k0_pay93 k0_pay94 k0_pay95
      k0_pay96 k0_pay97 k0_pay98 k0_pay99 k0_pay100 k0_pay101 k0_pay102 k0_pay103 k0_pay104 k0_pay105 k0_pay106 k0_pay107 k0_pay108 k0_pay109 k0_pay110
      k0_pay111 k0_pay112 k0_pay113 k0_pay114 k0_pay115 k0_pay116 k0_pay117 k0_pay118 k0_pay119 k0_pay120 k0_pay121 k0_pay122 k0_pay123 k0_pay124
      k0_pay125 k0_pay126 k0_pay127 k0_pay128 k0_pay129 k0_pay130 k0_pay131 k0_pay132 k0_pay133 k0_pay134 k0_pay135 k0_pay136 k0_pay137 k0_pay138
      k0_pay139 k0_pay140 k0_pay141 k0_pay142 k0_pay143 k0_pay144 k0_pay145 k0_pay146 k0_pay147 k0_pay148 k0_pay149 k0_pay150 k0_pay151 k0_pay152
      k0_pay153 k0_pay154 k0_pay155 k0_pay156 k0_pay157 k0_pay158 k0_pay159 k0_pay160 k0_pay161 k0_pay162 k0_pay163 k0_pay164 k0_pay165 k0_pay166
      k0_pay167 k0_pay168 k0_pay169 k0_pay170 k0_pay171 k0_pay172 k0_pay173 k0_pay174 k0_pay175 k0_pay176 k0_pay177 k0_pay178 k0_pay179 k0_pay180
      k0_pay181 k0_pay182 k0_pay183 k0_pay184 k0_pay185 k0_pay186 k0_pay187 k0_pay188 k0_pay189 k0_pay190
  dsimp only
  generalize kernelRun0_A.sl.HS1_8 c (ms0_0 t) _ (ms0_1 t) _ (ms0_2 t) _ (ms0_3 t) _ scM0_0 (iblk m c 0 t) (iblk m c 1 t) (iblk m c 2 t) (iblk m c 3 t) = L at hL ⊢
  iterate 128 refine View.allAt_cons_unit _ _ _ _ _ (tile6 P _ hL _ y _ _ _ _ _ _ _ _ rfl rfl) ?_
  exact View.allAt_nil _ _

end Cert.Kernel6Ideal.Even
end
-- ==== Proof.EvenNext.lean ====
/- The by-class copies of the even layers' product at the other points of a row. -/
module

public import proofs.«01_k».proof.Proof.Even
public import Idealize.ShloMosaic.Lib.Pointwise
public import Idealize.ShloMosaic.Lib.Claim
import Idealize.ShloMosaic.Lib.Pipeline.ValueKit.Acc
public import Idealize.ShloMosaic.Lib.Pipeline.ValueKit.Tiles
import Idealize.ShloMosaic.Lib.StableHlo.RunRead
import Idealize.ShloMosaic.Lib.Pipeline.ValueKit.Geometry

@[expose] public section

set_option maxRecDepth 16384

noncomputable section

namespace Cert.Kernel6Ideal.Even
open Cert.Kernel6Ideal Cert.Kernel6Ideal.Gen
open Idealize.ShloMosaic Idealize.ShloMosaic.TcCoe Idealize.ShloMosaic.StableHlo

variable (m : (ℓ : Loc nD τ sig) → Buf (Elt Ideal) ℓ)

set_option maxHeartbeats 4000000

theorem prod_B (c : Dev nD) (t : Fin cfg0.N) (h0 : ¬t.val % 5 = 0) :
    ∃ P : S1024x1024.Idx → EReal, (∀ z, (outsAt0 m c t.val t.isLt).1 z = P z) ∧ Slabs P (kernelRun0_B.sl.HS1_8 c (ms0_2 t) (hs0_2 t) (ms0_3 t) (hs0_3 t) scM0_0 (Memref.isWhole_whole _) (iblk m c 2 t) (iblk m c 3 t) (outsAt0 m c (t.val - 1) (Nat.lt_of_le_of_lt (Nat.sub_le _ _) t.isLt)).2.2.2) := by
  have key : ∀ (x2 : S1x2048x1024.Idx → EReal) (x3 : S1x1024.Idx → EReal) (H : S1024x2048.Idx → EReal),
      Slabs (kernelRun0_B.sl.r (F := Ideal) c (ms0_2 t) (hs0_2 t) (ms0_3 t) (hs0_3 t) scM0_0 (Memref.isWhole_whole _) x2 x3 H) (kernelRun0_B.sl.HS1_8 c (ms0_2 t) (hs0_2 t) (ms0_3 t) (hs0_3 t) scM0_0 (Memref.isWhole_whole _) x2 x3 H) := by
    intro x2 x3 H
    delta kernelRun0_B.sl.HS1_8 kernelRun0_B.sl.r
    generalize View.readAt (Elt Ideal) scM0_0.view _ _ = H
    generalize View.readAt (Elt Ideal) (ms0_2 t).view _ _ = W
    generalize View.readAt (Elt Ideal) (ms0_3 t).view _ _ = S
    exact slabs H W S
  refine ⟨kernelRun0_B.sl.r c (ms0_2 t) (hs0_2 t) (ms0_3 t) (hs0_3 t) scM0_0 (Memref.isWhole_whole _) (iblk m c 2 t) (iblk m c 3 t) (outsAt0 m c (t.val - 1) (Nat.lt_of_le_of_lt (Nat.sub_le _ _) t.isLt)).2.2.2, ?_, key _ _ _⟩
  intro z
  rw [outsAt0_B m c t h0]
  dsimp only
  unfold out0_B_4
  rw [View.read_writes_junk_eq_canon]
  delta kernelRun0_B
  dsimp only
  refine (congrFun (View.canon_cons_unit_lit _ _ [] (by decide)) z).trans ?_
  exact pay4_at _ _ _ z

theorem out5_B (c : Dev nD) (t : Fin cfg0.N) (h0 : ¬t.val % 5 = 0) (y : S4x256x1024.Idx) :
    (outsAt0 m c t.val t.isLt).2.1 y = (outsAt0 m c t.val t.isLt).1 (ix2 (⟨4 * (y 1).val + (y 0).val, by have h0 : (y 0).val < 4 := (y 0).isLt; have h1 : (y 1).val < 256 := (y 1).isLt; omega⟩ : Fin 1024) (⟨(y 2).val, (y 2).isLt⟩ : Fin 1024)) := by
  obtain ⟨P, hP, hL⟩ := prod_B m c t h0
  have hcov := cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2 y
  rw [hP, outsAt0_B m c t h0]
  dsimp only
  unfold out0_B_5
  rw [View.read_writes_junk_eq_canon]
  refine View.canon_eq_of_allAt _ _ _ hcov ?_
  clear hcov
  delta kernelRun0_B
  dsimp only
  delta kernelRun0_B.sl.r_1 kernelRun0_B.sl.r_2 kernelRun0_B.sl.r_3 kernelRun0_B.sl.r_4
  delta kernelRun0_B.sl.v44 kernelRun0_B.sl.v50 kernelRun0_B.sl.v56 kernelRun0_B.sl.v62 kernelRun0_B.sl.v68 kernelRun0_B.sl.v74 kernelRun0_B.sl.v80
      kernelRun0_B.sl.v86 kernelRun0_B.sl.v92 kernelRun0_B.sl.v98 kernelRun0_B.sl.v104 kernelRun0_B.sl.v110 kernelRun0_B.sl.v116 kernelRun0_B.sl.v122
      kernelRun0_B.sl.v128 kernelRun0_B.sl.v134 kernelRun0_B.sl.v140 kernelRun0_B.sl.v146 kernelRun0_B.sl.v152 kernelRun0_B.sl.v158
      kernelRun0_B.sl.v164 kernelRun0_B.sl.v170 kernelRun0_B.sl.v176 kernelRun0_B.sl.v182 kernelRun0_B.sl.v188 kernelRun0_B.sl.v194
      kernelRun0_B.sl.v200 kernelRun0_B.sl.v206 kernelRun0_B.sl.v212 kernelRun0_B.sl.v218 kernelRun0_B.sl.v224 kernelRun0_B.sl.v230
  delta k0_pay13 k0_pay14 k0_pay15 k0_pay16 k0_pay17 k0_pay18 k0_pay19 k0_pay20 k0_pay21 k0_pay22 k0_pay23 k0_pay24 k0_pay25 k0_pay26 k0_pay27 k0_pay28
      k0_pay29 k0_pay30 k0_pay31 k0_pay32 k0_pay33 k0_pay34 k0_pay35 k0_pay36 k0_pay37 k0_pay38 k0_pay39 k0_pay40 k0_pay41 k0_pay42 k0_pay43 k0_pay44
      k0_pay45 k0_pay46 k0_pay47 k0_pay48
  dsimp only
  generalize kernelRun0_B.sl.HS1_8 c (ms0_2 t) _ (ms0_3 t) _ scM0_0 _ (iblk m c 2 t) (iblk m c 3 t) (outsAt0 m c (t.val - 1) (Nat.lt_of_le_of_lt (Nat.sub_le _ _) t.isLt)).2.2.2 = L at hL ⊢
  iterate 32 refine View.allAt_cons_unit _ _ _ _ _ (tile5 P _ hL _ y _ _ _ _ _ _ _ _ rfl rfl) ?_
  exact View.allAt_nil _ _

theorem out6_B (c : Dev nD) (t : Fin cfg0.N) (h0 : ¬t.val % 5 = 0) (y : S16x64x1024.Idx) :
    (outsAt0 m c t.val t.isLt).2.2.1 y = (outsAt0 m c t.val t.isLt).1 (ix2 (⟨16 * (y 1).val + (y 0).val, by have h0 : (y 0).val < 16 := (y 0).isLt; have h1 : (y 1).val < 64 := (y 1).isLt; omega⟩ : Fin 1024) (⟨(y 2).val, (y 2).isLt⟩ : Fin 1024)) := by
  obtain ⟨P, hP, hL⟩ := prod_B m c t h0
  have hcov := cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2 y
  rw [hP, outsAt0_B m c t h0]
  dsimp only
  unfold out0_B_6
  rw [View.read_writes_junk_eq_canon]
  refine View.canon_eq_of_allAt _ _ _ hcov ?_
  clear hcov
  delta kernelRun0_B
  dsimp only
  delta kernelRun0_B.sl.r_5 kernelRun0_B.sl.r_6 kernelRun0_B.sl.r_7 kernelRun0_B.sl.r_8 kernelRun0_B.sl.r_9 kernelRun0_B.sl.r_10 kernelRun0_B.sl.r_11
      kernelRun0_B.sl.r_12 kernelRun0_B.sl.r_13 kernelRun0_B.sl.r_14 kernelRun0_B.sl.r_15 kernelRun0_B.sl.r_16 kernelRun0_B.sl.r_17
      kernelRun0_B.sl.r_18 kernelRun0_B.sl.r_19 kernelRun0_B.sl.r_20 kernelRun0_B.sl.r_21
  delta kernelRun0_B.sl.v998 kernelRun0_B.sl.v236 kernelRun0_B.sl.v242 kernelRun0_B.sl.v248 kernelRun0_B.sl.v254 kernelRun0_B.sl.v260
      kernelRun0_B.sl.v266 kernelRun0_B.sl.v272 kernelRun0_B.sl.v278 kernelRun0_B.sl.v284 kernelRun0_B.sl.v290 kernelRun0_B.sl.v296
      kernelRun0_B.sl.v302 kernelRun0_B.sl.v308 kernelRun0_B.sl.v314 kernelRun0_B.sl.v320 kernelRun0_B.sl.v326 kernelRun0_B.sl.v338
      kernelRun0_B.sl.v344 kernelRun0_B.sl.v350 kernelRun0_B.sl.v356 kernelRun0_B.sl.v362 kernelRun0_B.sl.v368 kernelRun0_B.sl.v374
      kernelRun0_B.sl.v380 kernelRun0_B.sl.v386 kernelRun0_B.sl.v392 kernelRun0_B.sl.v398 kernelRun0_B.sl.v404 kernelRun0_B.sl.v410
      kernelRun0_B.sl.v416 kernelRun0_B.sl.v422 kernelRun0_B.sl.v428 kernelRun0_B.sl.v434 kernelRun0_B.sl.v440 kernelRun0_B.sl.v446
      kernelRun0_B.sl.v452 kernelRun0_B.sl.v458 kernelRun0_B.sl.v464 kernelRun0_B.sl.v470 kernelRun0_B.sl.v476 kernelRun0_B.sl.v482
      kernelRun0_B.sl.v488 kernelRun0_B.sl.v494 kernelRun0_B.sl.v500 kernelRun0_B.sl.v506 kernelRun0_B.sl.v512 kernelRun0_B.sl.v518
      kernelRun0_B.sl.v524 kernelRun0_B.sl.v530 kernelRun0_B.sl.v536 kernelRun0_B.sl.v542 kernelRun0_B.sl.v548 kernelRun0_B.sl.v554
      kernelRun0_B.sl.v560 kernelRun0_B.sl.v566 kernelRun0_B.sl.v572 kernelRun0_B.sl.v578 kernelRun0_B.sl.v584 kernelRun0_B.sl.v590
      kernelRun0_B.sl.v596 kernelRun0_B.sl.v602 kernelRun0_B.sl.v608 kernelRun0_B.sl.v614 kernelRun0_B.sl.v620 kernelRun0_B.sl.v626
      kernelRun0_B.sl.v632 kernelRun0_B.sl.v638 kernelRun0_B.sl.v644 kernelRun0_B.sl.v650 kernelRun0_B.sl.v656 kernelRun0_B.sl.v662
      kernelRun0_B.sl.v668 kernelRun0_B.sl.v674 kernelRun0_B.sl.v680 kernelRun0_B.sl.v686 kernelRun0_B.sl.v698 kernelRun0_B.sl.v704
      kernelRun0_B.sl.v710 kernelRun0_B.sl.v716 kernelRun0_B.sl.v722 kernelRun0_B.sl.v728 kernelRun0_B.sl.v734 kernelRun0_B.sl.v740
      kernelRun0_B.sl.v746 kernelRun0_B.sl.v752 kernelRun0_B.sl.v758 kernelRun0_B.sl.v764 kernelRun0_B.sl.v770 kernelRun0_B.sl.v776
      kernelRun0_B.sl.v782 kernelRun0_B.sl.v788 kernelRun0_B.sl.v794 kernelRun0_B.sl.v800 kernelRun0_B.sl.v806 kernelRun0_B.sl.v812
      kernelRun0_B.sl.v818 kernelRun0_B.sl.v824 kernelRun0_B.sl.v830 kernelRun0_B.sl.v836 kernelRun0_B.sl.v842 kernelRun0_B.sl.v848
      kernelRun0_B.sl.v854 kernelRun0_B.sl.v860 kernelRun0_B.sl.v866 kernelRun0_B.sl.v872 kernelRun0_B.sl.v878 kernelRun0_B.sl.v884
      kernelRun0_B.sl.v890 kernelRun0_B.sl.v896 kernelRun0_B.sl.v902 kernelRun0_B.sl.v908 kernelRun0_B.sl.v914 kernelRun0_B.sl.v920
      kernelRun0_B.sl.v926 kernelRun0_B.sl.v932 kernelRun0_B.sl.v938 kernelRun0_B.sl.v944 kernelRun0_B.sl.v950 kernelRun0_B.sl.v956
      kernelRun0_B.sl.v962 kernelRun0_B.sl.v968 kernelRun0_B.sl.v974 kernelRun0_B.sl.v980 kernelRun0_B.sl.v986 kernelRun0_B.sl.v992 kernelRun0_B.sl.v
      kernelRun0_B.sl.v_1
  delta k0_pay1 k0_pay49 k0_pay50 k0_pay51 k0_pay52 k0_pay53 k0_pay54 k0_pay55 k0_pay56 k0_pay57 k0_pay58 k0_pay59 k0_pay60 k0_pay61 k0_pay62 k0_pay63
      k0_pay64 k0_pay65 k0_pay66 k0_pay67 k0_pay68 k0_pay69 k0_pay70 k0_pay71 k0_pay72 k0_pay73 k0_pay74 k0_pay75 k0_pay76 k0_pay77 k0_pay78 k0_pay79
      k0_pay80 k0_pay81 k0_pay82 k0_pay83 k0_pay84 k0_pay85 k0_pay86 k0_pay87 k0_pay88 k0_pay89 k0_pay90 k0_pay91 k0_pay92 k0_pay93 k0_pay94 k0_pay95
      k0_pay96 k0_pay97 k0_pay98 k0_pay99 k0_pay100 k0_pay101 k0_pay102 k0_pay103 k0_pay104 k0_pay105 k0_pay106 k0_pay107 k0_pay108 k0_pay109 k0_pay110
      k0_pay111 k0_pay112 k0_pay113 k0_pay114 k0_pay115 k0_pay116 k0_pay117 k0_pay118 k0_pay119 k0_pay120 k0_pay121 k0_pay122 k0_pay123 k0_pay124
      k0_pay125 k0_pay126 k0_pay127 k0_pay128 k0_pay129 k0_pay130 k0_pay131 k0_pay132 k0_pay133 k0_pay134 k0_pay135 k0_pay136 k0_pay137 k0_pay138
      k0_pay139 k0_pay140 k0_pay141 k0_pay142 k0_pay143 k0_pay144 k0_pay145 k0_pay146 k0_pay147 k0_pay148 k0_pay149 k0_pay150 k0_pay151 k0_pay152
      k0_pay153 k0_pay154 k0_pay155 k0_pay156 k0_pay157 k0_pay158 k0_pay159 k0_pay160 k0_pay161 k0_pay162 k0_pay163 k0_pay164 k0_pay165 k0_pay166
      k0_pay167 k0_pay168 k0_pay169 k0_pay170 k0_pay171 k0_pay172 k0_pay173 k0_pay174 k0_pay175 k0_pay176 k0_pay177 k0_pay178 k0_pay179 k0_pay180
      k0_pay181 k0_pay182 k0_pay183 k0_pay184 k0_pay185 k0_pay186 k0_pay187 k0_pay188 k0_pay189 k0_pay190
  dsimp only
  generalize kernelRun0_B.sl.HS1_8 c (ms0_2 t) _ (ms0_3 t) _ scM0_0 _ (iblk m c 2 t) (iblk m c 3 t) (outsAt0 m c (t.val - 1) (Nat.lt_of_le_of_lt (Nat.sub_le _ _) t.isLt)).2.2.2 = L at hL ⊢
  iterate 128 refine View.allAt_cons_unit _ _ _ _ _ (tile6 P _ hL _ y _ _ _ _ _ _ _ _ rfl rfl) ?_
  exact View.allAt_nil _ _

end Cert.Kernel6Ideal.Even
end
-- ==== Proof.EvenProj.lean ====
/- The normalised product of the even layers' mixers: the values of a point of the grid, and the three arrays that the call
   leaves. -/
module

public import proofs.«01_k».proof.Proof.Mlp
public import proofs.«01_k».proof.Proof.EvenFirst
public import proofs.«01_k».proof.Proof.EvenNext
public import Idealize.ShloMosaic.Lib.Pointwise
public import Idealize.ShloMosaic.Lib.Claim
import Idealize.ShloMosaic.Lib.Pipeline.ValueKit.Acc
import Idealize.ShloMosaic.Lib.StableHlo.RunRead
import Idealize.ShloMosaic.Lib.Pipeline.ValueKit.Geometry

@[expose] public section

set_option maxRecDepth 16384

noncomputable section

namespace Cert.Kernel6Ideal.Even
open Cert.Kernel6Ideal Cert.Kernel6Ideal.Gen
open Idealize.ShloMosaic Idealize.ShloMosaic.TcCoe Idealize.ShloMosaic.StableHlo
open Cert.Mlp

/-- The product's entry: the normalised row with its gains, times a column of the weights, times the column's scale. -/
def entry (A0 : S8192x2048.Idx → EReal) (A1 : S4x2048.Idx → EReal) (A2 : S2x2048x5120.Idx → EReal) (A3 : S1x5120.Idx → EReal) (i : Fin 8192) (n : Fin 5120) : EReal :=
  (∑ d : Fin 2048, rms (fun k => A0 (ix2 i k)) d * A1 (ix2 (0 : Fin 4) d) * A2 (ix3 (0 : Fin 2) d n)) * A3 (ix2 (0 : Fin 1) n)

theorem normed_at (X : S1024x2048.Idx → EReal) (G : S1x2048.Idx → EReal) (i : Fin 1024) (j : Fin 2048) :
    k0_pay2 (F := Ideal) X G (ix2 i j) = rms (fun k => X (ix2 i k)) j * G (ix2 (0 : Fin 1) j) := by
  unfold rms
  pointwise [k0_pay2]

theorem product_at (H : S1024x2048.Idx → EReal) (W : S1x2048x1024.Idx → EReal) (S : S1x1024.Idx → EReal) (i j : Fin 1024) :
    k0_pay4 (F := Ideal) H W S (ix2 i j) = (∑ d : Fin 2048, H (ix2 i d) * W (ix3 (0 : Fin 1) d j)) * S (ix2 (0 : Fin 1) j) := by
  pointwise [k0_pay4, k0_pay3]

variable (m : (ℓ : Loc nD τ sig) → Buf (Elt Ideal) ℓ)

/-! ## The host's arrays -/

abbrev arg0 (c : Dev nD) : S8192x2048.Idx → EReal := m (c, Proc.tc.devRef main_arg0)
abbrev arg1 (c : Dev nD) : S4x2048.Idx → EReal := m (c, Proc.tc.devRef main_arg1)
abbrev arg2 (c : Dev nD) : S2x2048x5120.Idx → EReal := m (c, Proc.tc.devRef main_arg2)
abbrev arg3 (c : Dev nD) : S1x5120.Idx → EReal := m (c, Proc.tc.devRef main_arg3)

theorem a0_at (c : Dev nD) (i : Fin 8192) (j : Fin 2048) : V m c main_arg0 (ix2 i j) = arg0 m c (ix2 i j) := by
  entry_read
  rfl

theorem a3_at (c : Dev nD) (n : Fin 5120) : V m c main_arg3 (ix2 (0 : Fin 1) n) = arg3 m c (ix2 (0 : Fin 1) n) := by
  entry_read
  rfl

theorem v2_at (c : Dev nD) (l : Fin 2) (d : Fin 2048) (n : Fin 5120) : V m c main_v2 (ix3 l d n) = arg2 m c (ix3 l d n) := by
  entry_read
  pointwise

theorem v3_at (c : Dev nD) (j : Fin 2048) : V m c main_v3 (ix2 (0 : Fin 1) j) = arg1 m c (ix2 (0 : Fin 4) j) := by
  entry_read
  pointwise

/-! ## The blocks of a point -/

theorem idx : ∀ t : Fin cfg0.N, win0_0.index t = ![t.val / 5, 0] ∧ win0_1.index t = ![0, 0] ∧ win0_2.index t = ![0, 0, t.val % 5]
    ∧ win0_3.index t = ![0, t.val % 5] ∧ t.val < 40 :=
  (by decide +kernel : ∀ t : Fin grid0.N, _)

/-- The array's row that is row `i` of the point's block. -/
def row (t : ℕ) (i : Fin 1024) : Fin 8192 := ⟨(t / 5 % 8) * 1024 + i.val, by omega⟩

/-- The array's column that is column `j` of the point's block. -/
def col (t : ℕ) (j : Fin 1024) : Fin 5120 := ⟨t % 5 * 1024 + j.val, by omega⟩

theorem block0 (c : Dev nD) (t : Fin cfg0.N) (i : Fin 1024) (j : Fin 2048) : iblk m c 0 t (ix2 i j) = arg0 m c (ix2 (row t.val i) j) := by
  obtain ⟨i0, i1, i2, i3, i4⟩ := idx t
  have e : row t.val i = ⟨t.val / 5 * 1024 + i.val, by omega⟩ := Fin.ext (by show t.val / 5 % 8 * 1024 + i.val = _; rw [Nat.mod_eq_of_lt (by omega : t.val / 5 < 8)])
  rw [← a0_at, e]
  blk_ext [iblk, V, i0]

theorem block1 (c : Dev nD) (t : Fin cfg0.N) (j : Fin 2048) : iblk m c 1 t (ix2 (0 : Fin 1) j) = arg1 m c (ix2 (0 : Fin 4) j) := by
  obtain ⟨i0, i1, i2, i3, i4⟩ := idx t
  rw [← v3_at]
  blk_ext [iblk, V, i1]

theorem block2 (c : Dev nD) (t : Fin cfg0.N) (d : Fin 2048) (j : Fin 1024) : iblk m c 2 t (ix3 (0 : Fin 1) d j) = arg2 m c (ix3 (0 : Fin 2) d (col t.val j)) := by
  obtain ⟨i0, i1, i2, i3, i4⟩ := idx t
  rw [← v2_at]
  unfold col
  blk_ext [iblk, V, i2]

theorem block3 (c : Dev nD) (t : Fin cfg0.N) (j : Fin 1024) : iblk m c 3 t (ix2 (0 : Fin 1) j) = arg3 m c (ix2 (0 : Fin 1) (col t.val j)) := by
  obtain ⟨i0, i1, i2, i3, i4⟩ := idx t
  rw [← a3_at]
  unfold col
  blk_ext [iblk, V, i3]

/-! ## The normalised block is kept over a row of points -/

/-- The normalised block. -/
def Normed (c : Dev nD) (t : ℕ) (H : S1024x2048.Idx → EReal) : Prop :=
  ∀ (i : Fin 1024) (d : Fin 2048), H (ix2 i d) = rms (fun k => arg0 m c (ix2 (row t i) k)) d * arg1 m c (ix2 (0 : Fin 4) d)

theorem first (c : Dev nD) (t : Fin cfg0.N) : Normed m c t.val (k0_pay2 (F := Ideal) (iblk m c 0 t) (iblk m c 1 t)) := by
  intro i d
  refine (normed_at _ _ i d).trans ?_
  simp only [block0, block1]

theorem step (c : Dev nD) (t : Fin cfg0.N) (H : S1024x2048.Idx → EReal) (hH : Normed m c t.val H) (i j : Fin 1024) :
    k0_pay4 (F := Ideal) H (iblk m c 2 t) (iblk m c 3 t) (ix2 i j) = entry (arg0 m c) (arg1 m c) (arg2 m c) (arg3 m c) (row t.val i) (col t.val j) := by
  refine (product_at _ _ _ i j).trans ?_
  unfold entry
  rw [block3]
  exact congrArg (· * _) (Finset.sum_congr rfl fun d _ => by rw [hH i d, block2])

theorem sweep (c : Dev nD) : ∀ (n : ℕ) (h : n < cfg0.N), Normed m c n (outsAt0 m c n h).2.2.2
    ∧ ∀ i j : Fin 1024, (outsAt0 m c n h).1 (ix2 i j) = entry (arg0 m c) (arg1 m c) (arg2 m c) (arg3 m c) (row n i) (col n j) := by
  intro n
  induction n with
  | zero =>
    intro h
    obtain ⟨e1, e2⟩ := outs_A m c ⟨0, h⟩ (Nat.zero_mod _)
    have hn := first m c ⟨0, h⟩
    exact ⟨fun i d => (congrFun e2 (ix2 i d)).trans (hn i d), fun i j => (congrFun e1 (ix2 i j)).trans (step m c ⟨0, h⟩ _ hn i j)⟩
  | succ n ih =>
    intro h
    by_cases h0 : (n + 1) % 5 = 0
    · obtain ⟨e1, e2⟩ := outs_A m c ⟨n + 1, h⟩ h0
      have hn := first m c ⟨n + 1, h⟩
      exact ⟨fun i d => (congrFun e2 (ix2 i d)).trans (hn i d), fun i j => (congrFun e1 (ix2 i j)).trans (step m c ⟨n + 1, h⟩ _ hn i j)⟩
    · obtain ⟨n1, -⟩ := ih (by omega)
      obtain ⟨e1, e2⟩ := outs_B m c ⟨n + 1, h⟩ h0 (by show n < _; omega)
      have hr (i : Fin 1024) : row n i = row (n + 1) i := Fin.ext (by show n / 5 % 8 * 1024 + i.val = (n + 1) / 5 % 8 * 1024 + i.val; omega)
      have hn : Normed m c (n + 1) (outsAt0 m c n (by omega)).2.2.2 := fun i d => (n1 i d).trans (by rw [hr])
      exact ⟨fun i d => (congrFun e2 (ix2 i d)).trans (hn i d), fun i j => (congrFun e1 (ix2 i j)).trans (step m c ⟨n + 1, h⟩ _ hn i j)⟩

/-- The copies of a point's block: row `s` of class `r` is the block's row `4 s + r`, or `16 s + r`. -/
theorem copy4 (c : Dev nD) (t : Fin cfg0.N) (y : S4x256x1024.Idx) :
    (outsAt0 m c t.val t.isLt).2.1 y = (outsAt0 m c t.val t.isLt).1 (ix2 (⟨4 * (y 1).val + (y 0).val, by have h0 : (y 0).val < 4 := (y 0).isLt; have h1 : (y 1).val < 256 := (y 1).isLt; omega⟩ : Fin 1024) (⟨(y 2).val, (y 2).isLt⟩ : Fin 1024)) := by
  by_cases h0 : t.val % 5 = 0
  · exact out5_A m c t h0 y
  · exact out5_B m c t h0 y

theorem copy16 (c : Dev nD) (t : Fin cfg0.N) (y : S16x64x1024.Idx) :
    (outsAt0 m c t.val t.isLt).2.2.1 y = (outsAt0 m c t.val t.isLt).1 (ix2 (⟨16 * (y 1).val + (y 0).val, by have h0 : (y 0).val < 16 := (y 0).isLt; have h1 : (y 1).val < 64 := (y 1).isLt; omega⟩ : Fin 1024) (⟨(y 2).val, (y 2).isLt⟩ : Fin 1024)) := by
  by_cases h0 : t.val % 5 = 0
  · exact out6_A m c t h0 y
  · exact out6_B m c t h0 y

/-- The array after the run, entry by entry. -/
theorem final (c : Dev nD) (i : Fin 8192) (j : Fin 5120) :
    Value.G4 m c (ix2 i j) = entry (arg0 m c) (arg1 m c) (arg2 m c) (arg3 m c) i j := by
  have hN : cfg0.N = 40 := N_0
  have hp : Value.pt4Of (ix2 i j) = 5 * (i.val / 1024) + j.val / 1024 := by
    show 5 * (i.val / 1024 - 0) + 1 * (j.val / 1024 - 0) = _
    omega
  have hl : Value.loc4Of (ix2 i j) = ix2 (⟨i.val % 1024, by omega⟩ : Fin 1024) (⟨j.val % 1024, by omega⟩ : Fin 1024) := by
    funext a
    apply Fin.ext
    match a with
    | ⟨0, _⟩ => rfl
    | ⟨1, _⟩ => rfl
  have hlt : 5 * (i.val / 1024) + j.val / 1024 < cfg0.N := by omega
  have hr : row (5 * (i.val / 1024) + j.val / 1024) ⟨i.val % 1024, by omega⟩ = i := Fin.ext (by show (5 * (i.val / 1024) + j.val / 1024) / 5 % 8 * 1024 + i.val % 1024 = i.val; omega)
  have hc : col (5 * (i.val / 1024) + j.val / 1024) ⟨j.val % 1024, by omega⟩ = j := Fin.ext (by show (5 * (i.val / 1024) + j.val / 1024) % 5 * 1024 + j.val % 1024 = j.val; omega)
  unfold Value.G4
  rw [dif_pos (by rw [hp]; exact hlt), hl, Value.fold0_congr m c _ _ (5 * (i.val / 1024) + j.val / 1024) (by omega) hp, ← Value.outsAt0_sweep m c _ hlt,
    (sweep m c _ hlt).2, hr, hc]

/-- The copy by 4 classes after the run, entry by entry. -/
theorem final4 (c : Dev nD) (r : Fin 4) (s : Fin 2048) (j : Fin 5120) :
    Value.G5 m c (ix3 r s j) = entry (arg0 m c) (arg1 m c) (arg2 m c) (arg3 m c) ⟨4 * s.val + r.val, by omega⟩ j := by
  have hN : cfg0.N = 40 := N_0
  have hp : Value.pt5Of (ix3 r s j) = 5 * (s.val / 256) + j.val / 1024 := by
    show 40 * (r.val / 4 - 0) + 5 * (s.val / 256 - 0) + 1 * (j.val / 1024 - 0) = _
    omega
  have hl : Value.loc5Of (ix3 r s j) = ix3 r (⟨s.val % 256, by omega⟩ : Fin 256) (⟨j.val % 1024, by omega⟩ : Fin 1024) := by
    funext a
    apply Fin.ext
    match a with
    | ⟨0, _⟩ => exact Nat.mod_eq_of_lt r.isLt
    | ⟨1, _⟩ => rfl
    | ⟨2, _⟩ => rfl
  have hlt : 5 * (s.val / 256) + j.val / 1024 < cfg0.N := by omega
  unfold Value.G5
  rw [dif_pos (by rw [hp]; exact hlt), hl, Value.fold0_congr m c _ _ (5 * (s.val / 256) + j.val / 1024) (by omega) hp, ← Value.outsAt0_sweep m c _ hlt]
  refine (copy4 m c ⟨_, hlt⟩ _).trans (((sweep m c _ hlt).2 _ _).trans ?_)
  refine congrArg₂ (entry (arg0 m c) (arg1 m c) (arg2 m c) (arg3 m c)) (Fin.ext ?_) (Fin.ext ?_)
  · show (5 * (s.val / 256) + j.val / 1024) / 5 % 8 * 1024 + (4 * (s.val % 256) + r.val) = 4 * s.val + r.val
    omega
  · show (5 * (s.val / 256) + j.val / 1024) % 5 * 1024 + j.val % 1024 = j.val
    omega

/-- The copy by 16 classes after the run, entry by entry. -/
theorem final16 (c : Dev nD) (r : Fin 16) (s : Fin 512) (j : Fin 5120) :
    Value.G6 m c (ix3 r s j) = entry (arg0 m c) (arg1 m c) (arg2 m c) (arg3 m c) ⟨16 * s.val + r.val, by omega⟩ j := by
  have hN : cfg0.N = 40 := N_0
  have hp : Value.pt6Of (ix3 r s j) = 5 * (s.val / 64) + j.val / 1024 := by
    show 40 * (r.val / 16 - 0) + 5 * (s.val / 64 - 0) + 1 * (j.val / 1024 - 0) = _
    omega
  have hl : Value.loc6Of (ix3 r s j) = ix3 r (⟨s.val % 64, by omega⟩ : Fin 64) (⟨j.val % 1024, by omega⟩ : Fin 1024) := by
    funext a
    apply Fin.ext
    match a with
    | ⟨0, _⟩ => exact Nat.mod_eq_of_lt r.isLt
    | ⟨1, _⟩ => rfl
    | ⟨2, _⟩ => rfl
  have hlt : 5 * (s.val / 64) + j.val / 1024 < cfg0.N := by omega
  unfold Value.G6
  rw [dif_pos (by rw [hp]; exact hlt), hl, Value.fold0_congr m c _ _ (5 * (s.val / 64) + j.val / 1024) (by omega) hp, ← Value.outsAt0_sweep m c _ hlt]
  refine (copy16 m c ⟨_, hlt⟩ _).trans (((sweep m c _ hlt).2 _ _).trans ?_)
  refine congrArg₂ (entry (arg0 m c) (arg1 m c) (arg2 m c) (arg3 m c)) (Fin.ext ?_) (Fin.ext ?_)
  · show (5 * (s.val / 64) + j.val / 1024) / 5 % 8 * 1024 + (16 * (s.val % 64) + r.val) = 16 * s.val + r.val
    omega
  · show (5 * (s.val / 64) + j.val / 1024) % 5 * 1024 + j.val % 1024 = j.val
    omega

end Cert.Kernel6Ideal.Even
end
-- ==== Proof.EvenRef.lean ====
/- The reference of the normalised product of the even layers' mixers, entry by entry. -/
module

public import proofs.«01_k».proof.Proof.EvenProj
public import proofs.«01_k».proof.Proof.Gen.Reference6Ideal.Run

@[expose] public section

noncomputable section

namespace Cert.Reference6Ideal.Even
open Cert.Reference6Ideal Cert.Reference6Ideal.Gen Idealize.ShloMosaic Idealize.ShloMosaic.TcCoe
open Cert.Mlp

/-- Every row over the root of its mean square, times the layer's gains. -/
def normed (X : FVec Ideal S8192x2048 .f32) (A1 : FVec Ideal S4x2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] A1 slices_S4x2048_S1x2048_0_0) shapeCasts_S1x2048_S2048)))

/-- The product with the layer's weights, its columns scaled. -/
def product (H : FVec Ideal S8192x2048 .f32) (A2 : FVec Ideal S2x2048x5120 .f32) (A3 : FVec Ideal S1x5120 .f32) : FVec Ideal S8192x5120 .bf16 :=
  truncf .bf16 (mulf (Host.dotGeneral dot_S8192x2048_S2048x5120_S8192x5120_1_0_0_1_n_n none H (shapeCast _ (extractStridedSlice S1x2048x5120 ![0, 0, 0] A2 slices_S2x2048x5120_S1x2048x5120_0_0_0) shapeCasts_S1x2048x5120_S2048x5120)) (broadcastInDim S8192x5120 ![0, 1] bcast_S1x5120_S8192x5120_0_1 A3)) bitsLt_bf16_f32

theorem normed_at (X : S8192x2048.Idx → EReal) (A1 : S4x2048.Idx → EReal) (i : Fin 8192) (j : Fin 2048) :
    normed X A1 (ix2 i j) = rms (fun k => X (ix2 i k)) j * A1 (ix2 (0 : Fin 4) j) := by
  unfold rms
  pointwise [normed]

theorem product_at (H : S8192x2048.Idx → EReal) (A2 : S2x2048x5120.Idx → EReal) (A3 : S1x5120.Idx → EReal) (i : Fin 8192) (n : Fin 5120) :
    product H A2 A3 (ix2 i n) = (∑ d : Fin 2048, H (ix2 i d) * A2 (ix3 (0 : Fin 2) d n)) * A3 (ix2 (0 : Fin 1) n) := by
  pointwise [product]

/-- The product by 4 classes of rows: row `s` of class `r` is row `4 s + r`. -/
def copy4 (Y : FVec Ideal S8192x5120 .bf16) : FVec Ideal S4x2048x5120 .bf16 :=
  transpose S4x2048x5120 [1, 0, 2] (shapeCast S2048x4x5120 Y shapeCasts_S8192x5120_S2048x4x5120) transposes_S2048x4x5120_S4x2048x5120_1_0_2

theorem copy4_at (Y : S8192x5120.Idx → EReal) (r : Fin 4) (s : Fin 2048) (n : Fin 5120) :
    copy4 Y (ix3 r s n) = Y (ix2 (⟨4 * s.val + r.val, by omega⟩ : Fin 8192) n) := by
  pointwise [copy4]
  exact congrArg (fun i => Y (ix2 i n)) (Fin.ext (by show s.val * 4 + r.val = 4 * s.val + r.val; omega))

/-- The product by 16 classes of rows: row `s` of class `r` is row `16 s + r`. -/
def copy16 (Y : FVec Ideal S8192x5120 .bf16) : FVec Ideal S16x512x5120 .bf16 :=
  transpose S16x512x5120 [1, 0, 2] (shapeCast S512x16x5120 Y shapeCasts_S8192x5120_S512x16x5120) transposes_S512x16x5120_S16x512x5120_1_0_2

theorem copy16_at (Y : S8192x5120.Idx → EReal) (r : Fin 16) (s : Fin 512) (n : Fin 5120) :
    copy16 Y (ix3 r s n) = Y (ix2 (⟨16 * s.val + r.val, by omega⟩ : Fin 8192) n) := by
  pointwise [copy16]
  exact congrArg (fun i => Y (ix2 i n)) (Fin.ext (by show s.val * 16 + r.val = 16 * s.val + r.val; omega))

theorem result_at (A0 : S8192x2048.Idx → EReal) (A1 : S4x2048.Idx → EReal) (A2 : S2x2048x5120.Idx → EReal) (A3 : S1x5120.Idx → EReal) (i : Fin 8192) (n : Fin 5120) :
    product (normed A0 A1) A2 A3 (ix2 i n) = Kernel6Ideal.Even.entry A0 A1 A2 A3 i n := by
  unfold Kernel6Ideal.Even.entry
  simp only [product_at, normed_at]

end Cert.Reference6Ideal.Even
end
-- ==== Proof.EvenValue.lean ====
/- The value claim of the normalised product of the even layers' mixers: the idealized kernel and the reference leave the same three arrays. -/
module

public import proofs.«01_k».proof.Defs
public import proofs.«01_k».proof.Proof.EvenProj
public import proofs.«01_k».proof.Proof.EvenRef
public import proofs.«01_k».proof.Proof.Gen.Kernel6Ideal
public import proofs.«01_k».proof.Proof.Gen.Reference6Ideal

@[expose] public section

noncomputable section

namespace Cert.Value6

open Idealize.ShloMosaic Idealize.ShloMosaic.TcCoe Idealize.SL.Sem

theorem algebraic : @Cert.algebraic_Kernel6Ideal_Reference6Ideal Kernel6Ideal.Gen.facts Reference6Ideal.Gen.facts := by
  intro m ρ m' ρ' _ hagree
  refine ⟨fun c => Kernel6Ideal.Value.G4 m c, fun c => Kernel6Ideal.Value.G5 m c, fun c => Kernel6Ideal.Value.G6 m c, ?_, ?_⟩
  · exact Kernel6Ideal.Value.run m ρ
  · refine (θ_run Cert.Reference6Ideal.defs _ _).mono (fun r h c => ⟨(h c).1.trans ?_, (h c).2.1.trans ?_, (h c).2.2.1.trans ?_, (h c).2.2.2⟩) (Cert.Reference6Ideal.Value.run (F := Ideal) m' ρ')
    all_goals obtain ⟨e0, e1, e2, e3⟩ := hagree c
    · refine Eq.trans (b := Reference6Ideal.Even.product (Reference6Ideal.Even.normed (m' (c.tc.loc Reference6Ideal.main_arg0)) (m' (c.tc.loc Reference6Ideal.main_arg1))) (m' (c.tc.loc Reference6Ideal.main_arg2)) (m' (c.tc.loc Reference6Ideal.main_arg3))) rfl ?_
      funext y
      have y2 : y = ix2 (y 0) (y 1) := by
        funext a
        fin_cases a <;> rfl
      rw [y2, e0, e1, e2, e3]
      exact (Reference6Ideal.Even.result_at _ _ _ _ (y 0) (y 1)).trans (Kernel6Ideal.Even.final m c (y 0) (y 1)).symm
    · refine Eq.trans (b := Reference6Ideal.Even.copy4 (Reference6Ideal.Even.product (Reference6Ideal.Even.normed (m' (c.tc.loc Reference6Ideal.main_arg0)) (m' (c.tc.loc Reference6Ideal.main_arg1))) (m' (c.tc.loc Reference6Ideal.main_arg2)) (m' (c.tc.loc Reference6Ideal.main_arg3)))) rfl ?_
      funext y
      have y3 : y = ix3 (y 0) (y 1) (y 2) := by
        funext a
        fin_cases a <;> rfl
      rw [y3, e0, e1, e2, e3]
      exact (Reference6Ideal.Even.copy4_at _ (y 0) (y 1) (y 2)).trans ((Reference6Ideal.Even.result_at _ _ _ _ _ (y 2)).trans (Kernel6Ideal.Even.final4 m c (y 0) (y 1) (y 2)).symm)
    · refine Eq.trans (b := Reference6Ideal.Even.copy16 (Reference6Ideal.Even.product (Reference6Ideal.Even.normed (m' (c.tc.loc Reference6Ideal.main_arg0)) (m' (c.tc.loc Reference6Ideal.main_arg1))) (m' (c.tc.loc Reference6Ideal.main_arg2)) (m' (c.tc.loc Reference6Ideal.main_arg3)))) rfl ?_
      funext y
      have y3 : y = ix3 (y 0) (y 1) (y 2) := by
        funext a
        fin_cases a <;> rfl
      rw [y3, e0, e1, e2, e3]
      exact (Reference6Ideal.Even.copy16_at _ (y 0) (y 1) (y 2)).trans ((Reference6Ideal.Even.result_at _ _ _ _ _ (y 2)).trans (Kernel6Ideal.Even.final16 m c (y 0) (y 1) (y 2)).symm)

end Cert.Value6

end
-- ==== Proof.lean ====
/- The claim: for each of the six calls the frames of its programs, what was renamed, and the equality of the arrays. -/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value
public import proofs.«01_k».proof.Proof.MlpValue
public import proofs.«01_k».proof.Proof.MlpRestValue
public import proofs.«01_k».proof.Proof.ProjValue
public import proofs.«01_k».proof.Proof.OutProjValue
public import proofs.«01_k».proof.Proof.EvenValue
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Finite.facts,
    Cert.Frames.kernel, Cert.Frames.kernelIdeal, fun m ρ _ => Cert.KernelIdeal.Attn.frame m ρ,
    Cert.Frames.referenceIdeal, fun m ρ _ => Cert.Frames.referenceIdeal m ρ trivial,
    fun m ρ _ => Cert.Kernel2.Gen.frame m ρ, fun m ρ _ => Cert.Kernel2Ideal.Gen.frame m ρ, Cert.Frames.reference2Ideal,
    fun m ρ _ => Cert.Kernel3.Gen.frame m ρ, fun m ρ _ => Cert.Kernel3Ideal.Gen.frame m ρ, Cert.Frames.reference3Ideal,
    fun m ρ _ => Cert.Kernel4.Gen.frame m ρ, fun m ρ _ => Cert.Kernel4Ideal.Gen.frame m ρ, Cert.Frames.reference4Ideal,
    fun m ρ _ => Cert.Kernel5.Gen.frame m ρ, fun m ρ _ => Cert.Kernel5Ideal.Gen.frame m ρ, Cert.Frames.reference5Ideal,
    fun m ρ _ => Cert.Kernel6.Gen.frame m ρ, fun m ρ _ => Cert.Kernel6Ideal.Gen.frame m ρ, Cert.Frames.reference6Ideal,
    Cert.Frames.preserves, Cert.Value.algebraic, trivial, Cert.Value2.algebraic, trivial, Cert.Value3.algebraic,
    trivial, Cert.Value4.algebraic, trivial, Cert.Value5.algebraic, trivial, Cert.Value6.algebraic⟩

end Cert.Proof

end
